-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "q_scale" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v12_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v16_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x8192x16x128 : Shape := ⟨4, ![2, 8192, 16, 128]⟩
abbrev S2x8192x16x64 : Shape := ⟨4, ![2, 8192, 16, 64]⟩
abbrev S2x8192x64 : Shape := ⟨3, ![2, 8192, 64]⟩
abbrev S_ : Shape := ⟨0, ![]⟩

class Facts : Prop where
  bcast_S_S2x8192x16x128 : S_.BroadcastsInDim S2x8192x16x128 (![] : Fin 0 → Fin S2x8192x16x128.rank)
  reducesTo_S2x8192x16x128_S_d0_1_2_3 : S2x8192x16x128.ReducesTo [0, 1, 2, 3] S_
  h_S_ : 0 < S_.numel
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  bcast_S_S2x8192x64 : S_.BroadcastsInDim S2x8192x64 (![] : Fin 0 → Fin S2x8192x64.rank)
  reducesTo_S2x8192x64_S_d0_1_2 : S2x8192x64.ReducesTo [0, 1, 2] S_

variable [Facts]

def fn_part1 {F : FTy → Type} [FloatOps F] (main_v13 : IVec S_ 1) (main_v16 : IVec S2x8192x64 1) : IVec S_ 1 :=
  let main_c_5 : IVec S_ 1 := constantI S_ 1 1#1
  let main_v17 : IVec S_ 1 := (fun x v => Host.reduce IntOp.andi x v reducesTo_S2x8192x64_S_d0_1_2 h_S_) main_v16 main_c_5
  let main_v18 : IVec S_ 1 := andi main_v13 main_v17
  main_v18

def fn {F : FTy → Type} [FloatOps F] (main_arg0 : FVec F S2x8192x16x128 .f32) (main_arg1 : FVec F S2x8192x16x64 .f32) (main_arg2 : FVec F S2x8192x16x128 .f32) (main_arg3 : FVec F S2x8192x64 .f32) (main_arg4 : FVec F S2x8192x16x128 .f32) : IVec S_ 1 :=
  let main_v0 : FVec F S2x8192x16x128 .f32 := Host.absf main_arg0
  let main_cst : FVec F S_ .f32 := constant S_ .f32 0x7F800000#32
  let main_v1 : FVec F S2x8192x16x128 .f32 := broadcastInDim S2x8192x16x128 ![] bcast_S_S2x8192x16x128 main_cst
  let main_v2 : IVec S2x8192x16x128 1 := cmpf .olt main_v0 main_v1
  let main_c : IVec S_ 1 := constantI S_ 1 1#1
  let main_v3 : IVec S_ 1 := (fun x v => Host.reduce IntOp.andi x v reducesTo_S2x8192x16x128_S_d0_1_2_3 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  let main_v9 : FVec F S2x8192x16x128 .f32 := Host.absf main_arg2
  let main_cst_2 : FVec F S_ .f32 := constant S_ .f32 0x7F800000#32
  let main_v10 : FVec F S2x8192x16x128 .f32 := broadcastInDim S2x8192x16x128 ![] bcast_S_S2x8192x16x128 main_cst_2
  let main_v11 : IVec S2x8192x16x128 1 := cmpf .olt main_v9 main_v10
  let main_c_3 : IVec S_ 1 := constantI S_ 1 1#1
  let main_v12 : IVec S_ 1 := (fun x v => Host.reduce IntOp.andi x v reducesTo_S2x8192x16x128_S_d0_1_2_3 h_S_) main_v11 main_c_3
  let main_v13 : IVec S_ 1 := andi main_v8 main_v12
  let main_v14 : FVec F S2x8192x64 .f32 := Host.absf main_arg3
  let main_cst_4 : FVec F S_ .f32 := constant S_ .f32 0x7F800000#32
  let main_v15 : FVec F S2x8192x64 .f32 := broadcastInDim S2x8192x64 ![] bcast_S_S2x8192x64 main_cst_4
  let main_v16 : IVec S2x8192x64 1 := cmpf .olt main_v14 main_v15
  fn_part1 (F := F) main_v13 main_v16
-- ==== Kernel.lean ====
abbrev S2x8192x16x128 : Shape := ⟨4, ![2, 8192, 16, 128]⟩
abbrev S2x8192x16x64 : Shape := ⟨4, ![2, 8192, 16, 64]⟩
abbrev S2x8192x64 : Shape := ⟨3, ![2, 8192, 64]⟩
abbrev S_ : Shape := ⟨0, ![]⟩
abbrev S2x8192x16x256 : Shape := ⟨4, ![2, 8192, 16, 256]⟩
abbrev S16384x4096 : Shape := ⟨2, ![16384, 4096]⟩
abbrev S16384x2048 : Shape := ⟨2, ![16384, 2048]⟩
abbrev S16384x64 : Shape := ⟨2, ![16384, 64]⟩
abbrev S16384x128 : Shape := ⟨2, ![16384, 128]⟩
abbrev S512x2048 : Shape := ⟨2, ![512, 2048]⟩
abbrev S8192x1024 : Shape := ⟨2, ![8192, 1024]⟩
abbrev S8192x128 : Shape := ⟨2, ![8192, 128]⟩
abbrev S512x1024 : Shape := ⟨2, ![512, 1024]⟩
abbrev S8x512x128 : Shape := ⟨3, ![8, 512, 128]⟩
abbrev S8x512x256 : Shape := ⟨3, ![8, 512, 256]⟩
abbrev S512x128 : Shape := ⟨2, ![512, 128]⟩
abbrev S512x1 : Shape := ⟨2, ![512, 1]⟩
abbrev S1x512 : Shape := ⟨2, ![1, 512]⟩
abbrev S512x256 : Shape := ⟨2, ![512, 256]⟩
abbrev S512x512 : Shape := ⟨2, ![512, 512]⟩
abbrev S1x512x128 : Shape := ⟨3, ![1, 512, 128]⟩
abbrev S512 : Shape := ⟨1, ![512]⟩
abbrev S1x512x256 : Shape := ⟨3, ![1, 512, 256]⟩

abbrev nBuf : Space → Nat
  | .hbm => 20
  | .vmem => 9
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x64, .f32⟩
  | .hbm, ⟨2, _⟩ => ⟨S2x8192x16x128, .f32⟩
  | .hbm, ⟨3, _⟩ => ⟨S2x8192x64, .f32⟩
  | .hbm, ⟨4, _⟩ => ⟨S2x8192x16x128, .f32⟩
  | .hbm, ⟨5, _⟩ => ⟨S_, .f32⟩
  | .hbm, ⟨6, _⟩ => ⟨S2x8192x16x64, .f32⟩
  | .hbm, ⟨7, _⟩ => ⟨S2x8192x16x256, .f32⟩
  | .hbm, ⟨8, _⟩ => ⟨S16384x4096, .f32⟩
  | .hbm, ⟨9, _⟩ => ⟨S16384x4096, .bf16⟩
  | .hbm, ⟨10, _⟩ => ⟨S16384x2048, .f32⟩
  | .hbm, ⟨11, _⟩ => ⟨S16384x2048, .f32⟩
  | .hbm, ⟨12, _⟩ => ⟨S16384x4096, .f32⟩
  | .hbm, ⟨13, _⟩ => ⟨S16384x4096, .bf16⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x128, .f32⟩
  | .hbm, ⟨18, _⟩ => ⟨S16384x128, .bf16⟩
  | .hbm, ⟨19, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S8192x1024, .bf16⟩
  | .local _ .vmem, ⟨3, _⟩ => ⟨S8192x128, .bf16⟩
  | .local _ .vmem, ⟨4, _⟩ => ⟨S8192x1024, .bf16⟩
  | .local _ .vmem, ⟨5, _⟩ => ⟨S512x1024, .bf16⟩
  | .local _ .vmem, ⟨6, _⟩ => ⟨S512x1024, .bf16⟩
  | .local _ .vmem, ⟨7, _⟩ => ⟨S8x512x128, .f32⟩
  | .local _ .vmem, ⟨8, _⟩ => ⟨S8x512x256, .f32⟩
  | _, _ => ⟨S2x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_16 : BitVec 32 := 1#32
  ⟨c0_i32_14, v37, c1_i32_16⟩
def k0_mult1 (i : grid0.Coords) (k0_t1 : Fin (k0_t1_loop i).trips) : BitVec 32 :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let c0_i32_229 : BitVec 32 := 0#32
  let v469 : BitVec 32 := Scalar.addi v468 c0_i32_229
  let c512_i32_230 : BitVec 32 := 512#32
  let v470 : BitVec 32 := Scalar.muli v469 c512_i32_230
  v470
def k0_off1 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v472 : Index := Scalar.indexCast v471
  let c0_231 : Index := 0#32
  ![v472.toNat, 0]
def k0_off2 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v475 : Index := Scalar.indexCast v471
  let c0_232 : Index := 0#32
  ![v475.toNat, 0]
def k0_off3 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v512 : Index := Scalar.indexCast v471
  let c128_252 : Index := 128#32
  ![v512.toNat, 128]
def k0_off4 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v549 : Index := Scalar.indexCast v471
  let c256_272 : Index := 256#32
  ![v549.toNat, 256]
def k0_off5 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v586 : Index := Scalar.indexCast v471
  let c384_292 : Index := 384#32
  ![v586.toNat, 384]
def k0_off6 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v623 : Index := Scalar.indexCast v471
  let c512_312 : Index := 512#32
  ![v623.toNat, 512]
def k0_off7 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v660 : Index := Scalar.indexCast v471
  let c640_332 : Index := 640#32
  ![v660.toNat, 640]
def k0_off8 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v697 : Index := Scalar.indexCast v471
  let c768_352 : Index := 768#32
  ![v697.toNat, 768]
def k0_off9 (i : grid0.Coords) (k0_t1 : Fin (k0_t1_loop i).trips) (c0_i32_229 : BitVec 32) : Fin 2 → Nat :=
  let c2_i32_228 : BitVec 32 := 2#32
  let c0_i32_14 : BitVec 32 := 0#32
  let c1_i32_16 : BitVec 32 := 1#32
  let arg10 : BitVec 32 := Scf.iv c0_i32_14 c1_i32_16 k0_t1
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v734 : Index := Scalar.indexCast v471
  let c896_372 : Index := 896#32
  ![v734.toNat, 896]
def k0_mult2 (i : grid0.Coords) (k0_t1 : Fin (k0_t1_loop i).trips) : BitVec 32 :=
  let c2_i32_392 : BitVec 32 := 2#32
  let c0_i32_14 : BitVec 32 := 0#32
  let c1_i32_16 : BitVec 32 := 1#32
  let arg10 : BitVec 32 := Scf.iv c0_i32_14 c1_i32_16 k0_t1
  let v771 : BitVec 32 := Scalar.muli c2_i32_392 arg10
  let c1_i32_393 : BitVec 32 := 1#32
  let v772 : BitVec 32 := Scalar.addi v771 c1_i32_393
  let c512_i32_394 : BitVec 32 := 512#32
  let v773 : BitVec 32 := Scalar.muli v772 c512_i32_394
  v773
@[reducible] def k0_t2_loop (i : grid0.Coords) : Scf.Loop 32 :=
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let v34 : BitVec 32 := Scalar.addi c0_i32_14 v33
  let c1_i32_17 : BitVec 32 := 1#32
  ⟨v37, v34, c1_i32_17⟩
def k0_mult3 (i : grid0.Coords) (k0_t2 : Fin (k0_t2_loop i).trips) : BitVec 32 :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let c0_i32_229 : BitVec 32 := 0#32
  let v469 : BitVec 32 := Scalar.addi v468 c0_i32_229
  let c512_i32_230 : BitVec 32 := 512#32
  let v470 : BitVec 32 := Scalar.muli v469 c512_i32_230
  v470
def k0_off10 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v472 : Index := Scalar.indexCast v471
  let c0_231 : Index := 0#32
  ![v472.toNat, 0]
def k0_off11 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v475 : Index := Scalar.indexCast v471
  let c0_232 : Index := 0#32
  ![v475.toNat, 0]
def k0_off12 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v512 : Index := Scalar.indexCast v471
  let c128_252 : Index := 128#32
  ![v512.toNat, 128]
def k0_off13 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v549 : Index := Scalar.indexCast v471
  let c256_272 : Index := 256#32
  ![v549.toNat, 256]
def k0_off14 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v586 : Index := Scalar.indexCast v471
  let c384_292 : Index := 384#32
  ![v586.toNat, 384]
def k0_off15 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v623 : Index := Scalar.indexCast v471
  let c512_312 : Index := 512#32
  ![v623.toNat, 512]
def k0_off16 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v660 : Index := Scalar.indexCast v471
  let c640_332 : Index := 640#32
  ![v660.toNat, 640]
def k0_off17 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v697 : Index := Scalar.indexCast v471
  let c768_352 : Index := 768#32
  ![v697.toNat, 768]
def k0_off18 (i : grid0.Coords) (k0_t2 : Fin (k0_t2_loop i).trips) (c0_i32_229 : BitVec 32) : Fin 2 → Nat :=
  let c2_i32_228 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v468 : BitVec 32 := Scalar.muli c2_i32_228 arg10
  let v469 : BitVec 32 := Scalar.addi v468 c0_i32_229
  let c512_i32_230 : BitVec 32 := 512#32
  let v470 : BitVec 32 := Scalar.muli v469 c512_i32_230
  let v471 : BitVec 32 := v470
  let v734 : Index := Scalar.indexCast v471
  let c896_372 : Index := 896#32
  ![v734.toNat, 896]
def k0_mult4 (i : grid0.Coords) (k0_t2 : Fin (k0_t2_loop i).trips) : BitVec 32 :=
  let c2_i32_392 : BitVec 32 := 2#32
  let c0_i32_14 : BitVec 32 := 0#32
  let arg2 : BitVec 32 := BitVec.ofNat 32 (i 2).val
  let c1_i32 : BitVec 32 := 1#32
  let v0 : BitVec 32 := Scalar.muli arg2 c1_i32
  let c0_i32 : BitVec 32 := 0#32
  let v17 : BitVec 1 := Scalar.cmpi .sgt v0 c0_i32
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c2_i32 : BitVec 32 := 2#32
  let c0_i32_9 : BitVec 32 := 0#32
  let v22 : BitVec 1 := Scalar.cmpi .sgt c2_i32 c0_i32_9
  let v23 : BitVec 32 := Scalar.extui v22
  let c0_i32_10 : BitVec 32 := 0#32
  let v24 : BitVec 1 := Scalar.cmpi .slt c2_i32 c0_i32_10
  let v25 : BitVec 32 := Scalar.extui v24
  let v26 : BitVec 32 := Scalar.subi v23 v25
  let v27 : BitVec 1 := Scalar.cmpi .ne v21 v26
  let v28 : BitVec 32 := Scalar.remsi v0 c2_i32
  let c0_i32_11 : BitVec 32 := 0#32
  let v29 : BitVec 1 := Scalar.cmpi .ne v28 c0_i32_11
  let v30 : BitVec 1 := Scalar.andi v27 v29
  let v16 : BitVec 32 := Scalar.divsi v0 c2_i32
  let c1_i32_12 : BitVec 32 := 1#32
  let v31 : BitVec 32 := Scalar.subi v16 c1_i32_12
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v771 : BitVec 32 := Scalar.muli c2_i32_392 arg10
  let c1_i32_393 : BitVec 32 := 1#32
  let v772 : BitVec 32 := Scalar.addi v771 c1_i32_393
  let c512_i32_394 : BitVec 32 := 512#32
  let v773 : BitVec 32 := Scalar.muli v772 c512_i32_394
  v773
@[reducible] def k0_t3_loop (i : grid0.Coords) : Scf.Loop 32 :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_26 : BitVec 32 := 1#32
  ⟨v48, v53, c1_i32_26⟩
def k0_mult5 (i : grid0.Coords) (k0_t3 : Fin (k0_t3_loop i).trips) : BitVec 32 :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  v468
def k0_off19 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v470 : Index := Scalar.indexCast v469
  let c0_229 : Index := 0#32
  ![v470.toNat, 0]
def k0_off20 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v473 : Index := Scalar.indexCast v469
  let c0_230 : Index := 0#32
  ![v473.toNat, 0]
def k0_off21 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v510 : Index := Scalar.indexCast v469
  let c128_250 : Index := 128#32
  ![v510.toNat, 128]
def k0_off22 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v547 : Index := Scalar.indexCast v469
  let c256_270 : Index := 256#32
  ![v547.toNat, 256]
def k0_off23 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v584 : Index := Scalar.indexCast v469
  let c384_290 : Index := 384#32
  ![v584.toNat, 384]
def k0_off24 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v621 : Index := Scalar.indexCast v469
  let c512_310 : Index := 512#32
  ![v621.toNat, 512]
def k0_off25 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v658 : Index := Scalar.indexCast v469
  let c640_330 : Index := 640#32
  ![v658.toNat, 640]
def k0_off26 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v695 : Index := Scalar.indexCast v469
  let c768_350 : Index := 768#32
  ![v695.toNat, 768]
def k0_off27 (i : grid0.Coords) (k0_t3 : Fin (k0_t3_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let c1_i32_26 : BitVec 32 := 1#32
  let arg10 : BitVec 32 := Scf.iv v48 c1_i32_26 k0_t3
  let c512_i32_228 : BitVec 32 := 512#32
  let v468 : BitVec 32 := Scalar.muli arg10 c512_i32_228
  let v469 : BitVec 32 := v468
  let v732 : Index := Scalar.indexCast v469
  let c896_370 : Index := 896#32
  ![v732.toNat, 896]
@[reducible] def k0_t4_loop (i : grid0.Coords) : Scf.Loop 32 :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let v50 : BitVec 32 := Scalar.addi v48 v49
  let c1_i32_27 : BitVec 32 := 1#32
  ⟨v53, v50, c1_i32_27⟩
def k0_mult6 (i : grid0.Coords) (k0_t4 : Fin (k0_t4_loop i).trips) : BitVec 32 :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  v468
def k0_off28 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v470 : Index := Scalar.indexCast v469
  let c0_229 : Index := 0#32
  ![v470.toNat, 0]
def k0_off29 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v473 : Index := Scalar.indexCast v469
  let c0_230 : Index := 0#32
  ![v473.toNat, 0]
def k0_off30 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v510 : Index := Scalar.indexCast v469
  let c128_250 : Index := 128#32
  ![v510.toNat, 128]
def k0_off31 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v547 : Index := Scalar.indexCast v469
  let c256_270 : Index := 256#32
  ![v547.toNat, 256]
def k0_off32 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v584 : Index := Scalar.indexCast v469
  let c384_290 : Index := 384#32
  ![v584.toNat, 384]
def k0_off33 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v621 : Index := Scalar.indexCast v469
  let c512_310 : Index := 512#32
  ![v621.toNat, 512]
def k0_off34 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v658 : Index := Scalar.indexCast v469
  let c640_330 : Index := 640#32
  ![v658.toNat, 640]
def k0_off35 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v695 : Index := Scalar.indexCast v469
  let c768_350 : Index := 768#32
  ![v695.toNat, 768]
def k0_off36 (i : grid0.Coords) (k0_t4 : Fin (k0_t4_loop i).trips) : Fin 2 → Nat :=
  let arg2 : BitVec 32 := BitVec.ofNat 32 (i 2).val
  let c1_i32 : BitVec 32 := 1#32
  let v0 : BitVec 32 := Scalar.muli arg2 c1_i32
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.subi v0 v47
  let v49 : BitVec 32 := Scalar.subi v0 v48
  let c1_i32_25 : BitVec 32 := 1#32
  let v51 : BitVec 32 := Scalar.divsi v49 c1_i32_25
  let v52 : BitVec 32 := Scalar.muli v51 c1_i32_25
  let v53 : BitVec 32 := Scalar.addi v48 v52
  let c1_i32_27 : BitVec 32 := 1#32
  let arg10 : BitVec 32 := Scf.iv v53 c1_i32_27 k0_t4
  let c512_i32_228 : BitVec 32 := 512#32
  let v468 : BitVec 32 := Scalar.muli arg10 c512_i32_228
  let v469 : BitVec 32 := v468
  let v732 : Index := Scalar.indexCast v469
  let c896_370 : Index := 896#32
  ![v732.toNat, 896]
def k0_mult7 (i : grid0.Coords) : BitVec 32 :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  v55
def k0_off37 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v57 : Index := Scalar.indexCast v56
  let c0_29 : Index := 0#32
  ![v57.toNat, 0]
def k0_off38 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v60 : Index := Scalar.indexCast v56
  let c0_30 : Index := 0#32
  ![v60.toNat, 0]
def k0_off39 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v104 : Index := Scalar.indexCast v56
  let c128 : Index := 128#32
  ![v104.toNat, 128]
def k0_off40 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v148 : Index := Scalar.indexCast v56
  let c256_71 : Index := 256#32
  ![v148.toNat, 256]
def k0_off41 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v192 : Index := Scalar.indexCast v56
  let c384 : Index := 384#32
  ![v192.toNat, 384]
def k0_off42 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v236 : Index := Scalar.indexCast v56
  let c512_110 : Index := 512#32
  ![v236.toNat, 512]
def k0_off43 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v280 : Index := Scalar.indexCast v56
  let c640 : Index := 640#32
  ![v280.toNat, 640]
def k0_off44 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v324 : Index := Scalar.indexCast v56
  let c768_149 : Index := 768#32
  ![v324.toNat, 768]
def k0_off45 (i : grid0.Coords) : Fin 2 → Nat :=
  let arg2 : BitVec 32 := BitVec.ofNat 32 (i 2).val
  let c1_i32 : BitVec 32 := 1#32
  let v0 : BitVec 32 := Scalar.muli arg2 c1_i32
  let c0_i32_28 : BitVec 32 := 0#32
  let v54 : BitVec 32 := Scalar.addi v0 c0_i32_28
  let c512_i32 : BitVec 32 := 512#32
  let v55 : BitVec 32 := Scalar.muli v54 c512_i32
  let v56 : BitVec 32 := v55
  let v368 : Index := Scalar.indexCast v56
  let c896 : Index := 896#32
  ![v368.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "q_scale" => some (((Real.sqrt 192)⁻¹ * (Real.log 2)⁻¹ : ℝ) : EReal)
  | _ => none
-- ==== ReferenceIdeal.lean ====
abbrev S2x8192x16x128 : Shape := ⟨4, ![2, 8192, 16, 128]⟩
abbrev S2x8192x16x64 : Shape := ⟨4, ![2, 8192, 16, 64]⟩
abbrev S2x8192x64 : Shape := ⟨3, ![2, 8192, 64]⟩
abbrev S_ : Shape := ⟨0, ![]⟩
abbrev S2x16x8192x8192 : Shape := ⟨4, ![2, 16, 8192, 8192]⟩
abbrev S2x8192x8192x16 : Shape := ⟨4, ![2, 8192, 8192, 16]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x8192 : Shape := ⟨3, ![2, 16, 8192]⟩
abbrev S2x16x8192x1 : Shape := ⟨4, ![2, 16, 8192, 1]⟩
abbrev S2x16x128x8192 : Shape := ⟨4, ![2, 16, 128, 8192]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x64, .f32⟩
  | .hbm, ⟨2, _⟩ => ⟨S2x8192x16x128, .f32⟩
  | .hbm, ⟨3, _⟩ => ⟨S2x8192x64, .f32⟩
  | .hbm, ⟨4, _⟩ => ⟨S2x8192x16x128, .f32⟩
  | .hbm, ⟨5, _⟩ => ⟨S_, .f32⟩
  | .hbm, ⟨6, _⟩ => ⟨S_, .f32⟩
  | .hbm, ⟨7, _⟩ => ⟨S2x16x8192x8192, .f32⟩
  | .hbm, ⟨8, _⟩ => ⟨S2x8192x8192x16, .f32⟩
  | .hbm, ⟨9, _⟩ => ⟨S2x16x8192x8192, .f32⟩
  | .hbm, ⟨10, _⟩ => ⟨S2x16x8192x8192, .f32⟩
  | .hbm, ⟨11, _⟩ => ⟨S2x16x8192x8192, .f32⟩
  | .hbm, ⟨12, _⟩ => ⟨S2x16x8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x1x8192x8192, .i1⟩
  | .hbm, ⟨38, _⟩ => ⟨S_, .f32⟩
  | .hbm, ⟨39, _⟩ => ⟨S_, .f32⟩
  | .hbm, ⟨40, _⟩ => ⟨S2x16x8192x8192, .i1⟩
  | .hbm, ⟨41, _⟩ => ⟨S2x16x8192x8192, .f32⟩
  | .hbm, ⟨42, _⟩ => ⟨S2x16x8192x8192, .f32⟩
  | .hbm, ⟨43, _⟩ => ⟨S_, .f32⟩
  | .hbm, ⟨44, _⟩ => ⟨S2x16x8192, .f32⟩
  | .hbm, ⟨45, _⟩ => ⟨S_, .f32⟩
  | .hbm, ⟨46, _⟩ => ⟨S2x16x8192, .f32⟩
  | .hbm, ⟨47, _⟩ => ⟨S2x16x8192, .f32⟩
  | .hbm, ⟨48, _⟩ => ⟨S2x16x8192x1, .f32⟩
  | .hbm, ⟨49, _⟩ => ⟨S2x16x8192x8192, .f32⟩
  | .hbm, ⟨50, _⟩ => ⟨S2x16x8192x8192, .f32⟩
  | .hbm, ⟨51, _⟩ => ⟨S2x16x8192x8192, .f32⟩
  | .hbm, ⟨52, _⟩ => ⟨S_, .f32⟩
  | .hbm, ⟨53, _⟩ => ⟨S2x16x8192, .f32⟩
  | .hbm, ⟨54, _⟩ => ⟨S2x16x8192x1, .f32⟩
  | .hbm, ⟨55, _⟩ => ⟨S2x16x8192x8192, .f32⟩
  | .hbm, ⟨56, _⟩ => ⟨S2x16x8192x8192, .f32⟩
  | .hbm, ⟨57, _⟩ => ⟨S2x16x128x8192, .f32⟩
  | .hbm, ⟨58, _⟩ => ⟨S2x8192x16x128, .f32⟩
  | .hbm, ⟨59, _⟩ => ⟨S16384x2048, .f32⟩
  | .hbm, ⟨60, _⟩ => ⟨S16384x2048, .bf16⟩
  | _, _ => ⟨S2x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048x4096 : Shape := ⟨2, ![2048, 4096]⟩
abbrev S16384x2048 : Shape := ⟨2, ![16384, 2048]⟩
abbrev S16384x4096 : Shape := ⟨2, ![16384, 4096]⟩
abbrev S512x2048 : Shape := ⟨2, ![512, 2048]⟩
abbrev S512x4096 : Shape := ⟨2, ![512, 4096]⟩
abbrev S2048x1024 : Shape := ⟨2, ![2048, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048x4096, .f32⟩
  | .hbm, ⟨2, _⟩ => ⟨S16384x2048, .f32⟩
  | .hbm, ⟨3, _⟩ => ⟨S2048x4096, .bf16⟩
  | .hbm, ⟨4, _⟩ => ⟨S16384x4096, .bf16⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S512x4096, .bf16⟩
  | .local _ .vmem, ⟨4, _⟩ => ⟨S512x4096, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2x8192x2048 : Shape := ⟨3, ![2, 8192, 2048]⟩
abbrev S2048x4096 : Shape := ⟨2, ![2048, 4096]⟩
abbrev S2x8192x4096 : Shape := ⟨3, ![2, 8192, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x4096, .f32⟩
  | .hbm, ⟨2, _⟩ => ⟨S2x8192x4096, .f32⟩
  | .hbm, ⟨3, _⟩ => ⟨S16384x4096, .f32⟩
  | .hbm, ⟨4, _⟩ => ⟨S16384x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S2x8192x512 : Shape := ⟨3, ![2, 8192, 512]⟩
abbrev S512x2048 : Shape := ⟨2, ![512, 2048]⟩
abbrev S16384x512 : Shape := ⟨2, ![16384, 512]⟩
abbrev S512x4096 : Shape := ⟨2, ![512, 4096]⟩
abbrev S16384x4096 : Shape := ⟨2, ![16384, 4096]⟩
abbrev S512x512 : Shape := ⟨2, ![512, 512]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x512, .f32⟩
  | .hbm, ⟨1, _⟩ => ⟨S512x2048, .f32⟩
  | .hbm, ⟨2, _⟩ => ⟨S512x2048, .f32⟩
  | .hbm, ⟨3, _⟩ => ⟨S16384x512, .f32⟩
  | .hbm, ⟨4, _⟩ => ⟨S16384x512, .bf16⟩
  | .hbm, ⟨5, _⟩ => ⟨S512x4096, .f32⟩
  | .hbm, ⟨6, _⟩ => ⟨S512x4096, .bf16⟩
  | .hbm, ⟨7, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2x8192x512 : Shape := ⟨3, ![2, 8192, 512]⟩
abbrev S512x2048 : Shape := ⟨2, ![512, 2048]⟩
abbrev S2x8192x2048 : Shape := ⟨3, ![2, 8192, 2048]⟩
abbrev S2x8192x4096 : Shape := ⟨3, ![2, 8192, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S512x2048, .f32⟩
  | .hbm, ⟨2, _⟩ => ⟨S512x2048, .f32⟩
  | .hbm, ⟨3, _⟩ => ⟨S2x8192x2048, .f32⟩
  | .hbm, ⟨4, _⟩ => ⟨S2x8192x2048, .f32⟩
  | .hbm, ⟨5, _⟩ => ⟨S2x8192x4096, .f32⟩
  | .hbm, ⟨6, _⟩ => ⟨S16384x4096, .f32⟩
  | .hbm, ⟨7, _⟩ => ⟨S16384x4096, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2x8192x512 : Shape := ⟨3, ![2, 8192, 512]⟩
abbrev S512x3072 : Shape := ⟨2, ![512, 3072]⟩
abbrev S16384x512 : Shape := ⟨2, ![16384, 512]⟩
abbrev S512x16x192 : Shape := ⟨3, ![512, 16, 192]⟩
abbrev S_ : Shape := ⟨0, ![]⟩
abbrev S512x16x64 : Shape := ⟨3, ![512, 16, 64]⟩
abbrev S512x16x256 : Shape := ⟨3, ![512, 16, 256]⟩
abbrev S512x4096 : Shape := ⟨2, ![512, 4096]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x4096 : Shape := ⟨2, ![16384, 4096]⟩
abbrev S512x512 : Shape := ⟨2, ![512, 512]⟩
abbrev S512x128 : Shape := ⟨2, ![512, 128]⟩
abbrev S512x256 : Shape := ⟨2, ![512, 256]⟩

abbrev nBuf : Space → Nat
  | .hbm => 33
  | .vmem => 11
  | .smem => 0
  | _ => 0

abbrev bufTy : (tb : Table) → Fin (tcTables nBuf tb) → BufTy
  | .hbm, ⟨0, _⟩ => ⟨S2x8192x512, .f32⟩
  | .hbm, ⟨1, _⟩ => ⟨S512x3072, .f32⟩
  | .hbm, ⟨2, _⟩ => ⟨S16384x512, .f32⟩
  | .hbm, ⟨3, _⟩ => ⟨S16384x512, .bf16⟩
  | .hbm, ⟨4, _⟩ => ⟨S512x16x192, .f32⟩
  | .hbm, ⟨5, _⟩ => ⟨S_, .f32⟩
  | .hbm, ⟨6, _⟩ => ⟨S512x16x64, .f32⟩
  | .hbm, ⟨7, _⟩ => ⟨S512x16x256, .f32⟩
  | .hbm, ⟨8, _⟩ => ⟨S512x4096, .f32⟩
  | .hbm, ⟨9, _⟩ => ⟨S512x4096, .bf16⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192x32, .f32⟩
  | .hbm, ⟨28, _⟩ => ⟨S8192x128, .f32⟩
  | .hbm, ⟨29, _⟩ => ⟨S8192x128, .f32⟩
  | .hbm, ⟨30, _⟩ => ⟨S8192x32, .f32⟩
  | .hbm, ⟨31, _⟩ => ⟨S8192x128, .f32⟩
  | .hbm, ⟨32, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x4096, .bf16⟩
  | .local _ .vmem, ⟨10, _⟩ => ⟨S512x4096, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x512 : Shape := ⟨3, ![2, 8192, 512]⟩
abbrev S512x3072 : Shape := ⟨2, ![512, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S2x8192x3072 : Shape := ⟨3, ![2, 8192, 3072]⟩
abbrev S2x8192x16x192 : Shape := ⟨4, ![2, 8192, 16, 192]⟩
abbrev S2x8192x16x64 : Shape := ⟨4, ![2, 8192, 16, 64]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x16x128 : Shape := ⟨4, ![2, 8192, 16, 128]⟩
abbrev S2x8192x16x256 : Shape := ⟨4, ![2, 8192, 16, 256]⟩
abbrev S16384x4096 : Shape := ⟨2, ![16384, 4096]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S512x3072, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8192, .f32⟩
  | .hbm, ⟨11, _⟩ => ⟨S8192x1, .f32⟩
  | .hbm, ⟨12, _⟩ => ⟨S1x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S2x8192x3072, .f32⟩
  | .hbm, ⟨19, _⟩ => ⟨S2x8192x16x192, .f32⟩
  | .hbm, ⟨20, _⟩ => ⟨S2x8192x16x64, .f32⟩
  | .hbm, ⟨21, _⟩ => ⟨S8192x1x32, .f32⟩
  | .hbm, ⟨22, _⟩ => ⟨S8192x1x32, .f32⟩
  | .hbm, ⟨23, _⟩ => ⟨S2x8192x16x32, .f32⟩
  | .hbm, ⟨24, _⟩ => ⟨S2x8192x16x32, .f32⟩
  | .hbm, ⟨25, _⟩ => ⟨S1x8192x1x32, .f32⟩
  | .hbm, ⟨26, _⟩ => ⟨S2x8192x16x32, .f32⟩
  | .hbm, ⟨27, _⟩ => ⟨S2x8192x16x32, .f32⟩
  | .hbm, ⟨28, _⟩ => ⟨S1x8192x1x32, .f32⟩
  | .hbm, ⟨29, _⟩ => ⟨S2x8192x16x32, .f32⟩
  | .hbm, ⟨30, _⟩ => ⟨S2x8192x16x32, .f32⟩
  | .hbm, ⟨31, _⟩ => ⟨S2x8192x16x32, .f32⟩
  | .hbm, ⟨32, _⟩ => ⟨S1x8192x1x32, .f32⟩
  | .hbm, ⟨33, _⟩ => ⟨S2x8192x16x32, .f32⟩
  | .hbm, ⟨34, _⟩ => ⟨S2x8192x16x32, .f32⟩
  | .hbm, ⟨35, _⟩ => ⟨S1x8192x1x32, .f32⟩
  | .hbm, ⟨36, _⟩ => ⟨S2x8192x16x32, .f32⟩
  | .hbm, ⟨37, _⟩ => ⟨S2x8192x16x32, .f32⟩
  | .hbm, ⟨38, _⟩ => ⟨S2x8192x16x32, .f32⟩
  | .hbm, ⟨39, _⟩ => ⟨S2x8192x16x64, .f32⟩
  | .hbm, ⟨40, _⟩ => ⟨S2x8192x16x128, .f32⟩
  | .hbm, ⟨41, _⟩ => ⟨S_, .f32⟩
  | .hbm, ⟨42, _⟩ => ⟨S2x8192x16x64, .f32⟩
  | .hbm, ⟨43, _⟩ => ⟨S2x8192x16x256, .f32⟩
  | .hbm, ⟨44, _⟩ => ⟨S16384x4096, .f32⟩
  | .hbm, ⟨45, _⟩ => ⟨S16384x4096, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== Kernel5.lean ====
abbrev S2x8192x2048 : Shape := ⟨3, ![2, 8192, 2048]⟩
abbrev S2048x1088 : Shape := ⟨2, ![2048, 1088]⟩
abbrev S512 : Shape := ⟨1, ![512]⟩
abbrev S_ : Shape := ⟨0, ![]⟩
abbrev S2048x64 : Shape := ⟨2, ![2048, 64]⟩
abbrev S2048x1152 : Shape := ⟨2, ![2048, 1152]⟩
abbrev S16384x2048 : Shape := ⟨2, ![16384, 2048]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x512 : Shape := ⟨2, ![1, 512]⟩
abbrev S16384x512 : Shape := ⟨2, ![16384, 512]⟩
abbrev S16384x128 : Shape := ⟨2, ![16384, 128]⟩
abbrev S512x2048 : Shape := ⟨2, ![512, 2048]⟩
abbrev S512x128 : Shape := ⟨2, ![512, 128]⟩
abbrev S512x512 : Shape := ⟨2, ![512, 512]⟩
abbrev S512x1152 : Shape := ⟨2, ![512, 1152]⟩
abbrev S512x1 : Shape := ⟨2, ![512, 1]⟩

abbrev nBuf : Space → Nat
  | .hbm => 36
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S2048x64, .f32⟩
  | .hbm, ⟨6, _⟩ => ⟨S2048x1152, .f32⟩
  | .hbm, ⟨7, _⟩ => ⟨S2048x1152, .bf16⟩
  | .hbm, ⟨8, _⟩ => ⟨S16384x2048, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S_, .f32⟩
  | .hbm, ⟨26, _⟩ => ⟨S8192x32, .f32⟩
  | .hbm, ⟨27, _⟩ => ⟨S8192x128, .f32⟩
  | .hbm, ⟨28, _⟩ => ⟨S8192x128, .f32⟩
  | .hbm, ⟨29, _⟩ => ⟨S8192x32, .f32⟩
  | .hbm, ⟨30, _⟩ => ⟨S8192x128, .f32⟩
  | .hbm, ⟨31, _⟩ => ⟨S1x512, .f32⟩
  | .hbm, ⟨32, _⟩ => ⟨S1x512, .f32⟩
  | .hbm, ⟨33, _⟩ => ⟨S16384x512, .bf16⟩
  | .hbm, ⟨34, _⟩ => ⟨S16384x512, .bf16⟩
  | .hbm, ⟨35, _⟩ => ⟨S16384x128, .bf16⟩
  | .local _ .vmem, ⟨0, _⟩ => ⟨S512x2048, .f32⟩
  | .local _ .vmem, ⟨1, _⟩ => ⟨S512x2048, .f32⟩
  | .local _ .vmem, ⟨2, _⟩ => ⟨S2048x1152, .bf16⟩
  | .local _ .vmem, ⟨3, _⟩ => ⟨S1x512, .f32⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x8192x2048 : Shape := ⟨3, ![2, 8192, 2048]⟩
abbrev S2048x1088 : Shape := ⟨2, ![2048, 1088]⟩
abbrev S512 : Shape := ⟨1, ![512]⟩
abbrev S2x8192x1088 : Shape := ⟨3, ![2, 8192, 1088]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x8192x64 : Shape := ⟨3, ![2, 8192, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S2x8192x32 : Shape := ⟨3, ![2, 8192, 32]⟩
abbrev S1x8192x32 : Shape := ⟨3, ![1, 8192, 32]⟩
abbrev S2x8192x128 : Shape := ⟨3, ![2, 8192, 128]⟩
abbrev S16384x512 : Shape := ⟨2, ![16384, 512]⟩
abbrev S16384x128 : Shape := ⟨2, ![16384, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S2x8192x1088, .f32⟩
  | .hbm, ⟨5, _⟩ => ⟨S2x8192x512, .f32⟩
  | .hbm, ⟨6, _⟩ => ⟨S2x8192x512, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x512, .f32⟩
  | .hbm, ⟨18, _⟩ => ⟨S2x8192x512, .f32⟩
  | .hbm, ⟨19, _⟩ => ⟨S1x1x512, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x512, .f32⟩
  | .hbm, ⟨35, _⟩ => ⟨S2x8192x512, .f32⟩
  | .hbm, ⟨36, _⟩ => ⟨S1x1x512, .f32⟩
  | .hbm, ⟨37, _⟩ => ⟨S2x8192x512, .f32⟩
  | .hbm, ⟨38, _⟩ => ⟨S2x8192x512, .f32⟩
  | .hbm, ⟨39, _⟩ => ⟨S2x8192x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8192, .f32⟩
  | .hbm, ⟨49, _⟩ => ⟨S8192x1, .f32⟩
  | .hbm, ⟨50, _⟩ => ⟨S1x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S2x8192x32, .f32⟩
  | .hbm, ⟨57, _⟩ => ⟨S2x8192x32, .f32⟩
  | .hbm, ⟨58, _⟩ => ⟨S1x8192x32, .f32⟩
  | .hbm, ⟨59, _⟩ => ⟨S2x8192x32, .f32⟩
  | .hbm, ⟨60, _⟩ => ⟨S2x8192x32, .f32⟩
  | .hbm, ⟨61, _⟩ => ⟨S1x8192x32, .f32⟩
  | .hbm, ⟨62, _⟩ => ⟨S2x8192x32, .f32⟩
  | .hbm, ⟨63, _⟩ => ⟨S2x8192x32, .f32⟩
  | .hbm, ⟨64, _⟩ => ⟨S2x8192x32, .f32⟩
  | .hbm, ⟨65, _⟩ => ⟨S1x8192x32, .f32⟩
  | .hbm, ⟨66, _⟩ => ⟨S2x8192x32, .f32⟩
  | .hbm, ⟨67, _⟩ => ⟨S2x8192x32, .f32⟩
  | .hbm, ⟨68, _⟩ => ⟨S1x8192x32, .f32⟩
  | .hbm, ⟨69, _⟩ => ⟨S2x8192x32, .f32⟩
  | .hbm, ⟨70, _⟩ => ⟨S2x8192x32, .f32⟩
  | .hbm, ⟨71, _⟩ => ⟨S2x8192x32, .f32⟩
  | .hbm, ⟨72, _⟩ => ⟨S2x8192x64, .f32⟩
  | .hbm, ⟨73, _⟩ => ⟨S_, .f32⟩
  | .hbm, ⟨74, _⟩ => ⟨S2x8192x64, .f32⟩
  | .hbm, ⟨75, _⟩ => ⟨S2x8192x128, .f32⟩
  | .hbm, ⟨76, _⟩ => ⟨S16384x512, .f32⟩
  | .hbm, ⟨77, _⟩ => ⟨S16384x512, .bf16⟩
  | .hbm, ⟨78, _⟩ => ⟨S16384x512, .f32⟩
  | .hbm, ⟨79, _⟩ => ⟨S16384x512, .bf16⟩
  | .hbm, ⟨80, _⟩ => ⟨S16384x128, .f32⟩
  | .hbm, ⟨81, _⟩ => ⟨S16384x128, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== Kernel6.lean ====
abbrev S2x8192x2048 : Shape := ⟨3, ![2, 8192, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S16384x2048 : Shape := ⟨2, ![16384, 2048]⟩
abbrev S_ : Shape := ⟨0, ![]⟩
abbrev S2048x56 : Shape := ⟨2, ![2048, 56]⟩
abbrev S2048x128 : Shape := ⟨2, ![2048, 128]⟩
abbrev S56 : Shape := ⟨1, ![56]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 26
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S16384x2048, .f32⟩
  | .hbm, ⟨10, _⟩ => ⟨S16384x2048, .bf16⟩
  | .hbm, ⟨11, _⟩ => ⟨S_, .f32⟩
  | .hbm, ⟨12, _⟩ => ⟨S2048x56, .f32⟩
  | .hbm, ⟨13, _⟩ => ⟨S2048x128, .f32⟩
  | .hbm, ⟨14, _⟩ => ⟨S2048x128, .bf16⟩
  | .hbm, ⟨15, _⟩ => ⟨S_, .f32⟩
  | .hbm, ⟨16, _⟩ => ⟨S56, .f32⟩
  | .hbm, ⟨17, _⟩ => ⟨S128, .f32⟩
  | .hbm, ⟨18, _⟩ => ⟨S1x128, .f32⟩
  | .hbm, ⟨19, _⟩ => ⟨S2048x2048, .bf16⟩
  | .hbm, ⟨20, _⟩ => ⟨S16384x2048, .f32⟩
  | .hbm, ⟨21, _⟩ => ⟨S1x2048, .f32⟩
  | .hbm, ⟨22, _⟩ => ⟨S1x2048, .f32⟩
  | .hbm, ⟨23, _⟩ => ⟨S16384x2048, .f32⟩
  | .hbm, ⟨24, _⟩ => ⟨S16384x2048, .bf16⟩
  | .hbm, ⟨25, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S1x128, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x128, .f32⟩
  | .local _ .vmem, ⟨14, _⟩ => ⟨S512x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2x8192x2048 : Shape := ⟨3, ![2, 8192, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S_, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x2048, .f32⟩
  | .hbm, ⟨30, _⟩ => ⟨S2x8192x2048, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x2048, .f32⟩
  | .hbm, ⟨36, _⟩ => ⟨S2x8192x2048, .f32⟩
  | .hbm, ⟨37, _⟩ => ⟨S1x1x2048, .f32⟩
  | .hbm, ⟨38, _⟩ => ⟨S2x8192x2048, .f32⟩
  | .hbm, ⟨39, _⟩ => ⟨S2x8192x2048, .f32⟩
  | .hbm, ⟨40, _⟩ => ⟨S1x1x2048, .f32⟩
  | .hbm, ⟨41, _⟩ => ⟨S2x8192x2048, .f32⟩
  | .hbm, ⟨42, _⟩ => ⟨S2x8192x2048, .f32⟩
  | .hbm, ⟨43, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x8192x2048 : Shape := ⟨3, ![2, 8192, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S16384x1024 : Shape := ⟨2, ![16384, 1024]⟩
abbrev S_ : Shape := ⟨0, ![]⟩
abbrev S2048x56 : Shape := ⟨2, ![2048, 56]⟩
abbrev S2048x128 : Shape := ⟨2, ![2048, 128]⟩
abbrev S56 : Shape := ⟨1, ![56]⟩
abbrev S128 : Shape := ⟨1, ![128]⟩
abbrev S1x128 : Shape := ⟨2, ![1, 128]⟩
abbrev S1024x2048 : Shape := ⟨2, ![1024, 2048]⟩
abbrev S16384x2048 : Shape := ⟨2, ![16384, 2048]⟩
abbrev S1x2048 : Shape := ⟨2, ![1, 2048]⟩
abbrev S16384x128 : Shape := ⟨2, ![16384, 128]⟩
abbrev S512x1024 : Shape := ⟨2, ![512, 1024]⟩
abbrev S512x2048 : Shape := ⟨2, ![512, 2048]⟩
abbrev S512x128 : Shape := ⟨2, ![512, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 31
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x8, .f32⟩
  | .hbm, ⟨7, _⟩ => ⟨S8, .f32⟩
  | .hbm, ⟨8, _⟩ => ⟨S2048x64, .f32⟩
  | .hbm, ⟨9, _⟩ => ⟨S64, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S_, .f32⟩
  | .hbm, ⟨15, _⟩ => ⟨S2048x56, .f32⟩
  | .hbm, ⟨16, _⟩ => ⟨S2048x128, .f32⟩
  | .hbm, ⟨17, _⟩ => ⟨S2048x128, .bf16⟩
  | .hbm, ⟨18, _⟩ => ⟨S_, .f32⟩
  | .hbm, ⟨19, _⟩ => ⟨S56, .f32⟩
  | .hbm, ⟨20, _⟩ => ⟨S128, .f32⟩
  | .hbm, ⟨21, _⟩ => ⟨S1x128, .f32⟩
  | .hbm, ⟨22, _⟩ => ⟨S2048x2048, .bf16⟩
  | .hbm, ⟨23, _⟩ => ⟨S1024x2048, .bf16⟩
  | .hbm, ⟨24, _⟩ => ⟨S1024x2048, .bf16⟩
  | .hbm, ⟨25, _⟩ => ⟨S16384x2048, .f32⟩
  | .hbm, ⟨26, _⟩ => ⟨S1x2048, .f32⟩
  | .hbm, ⟨27, _⟩ => ⟨S1x2048, .f32⟩
  | .hbm, ⟨28, _⟩ => ⟨S16384x2048, .f32⟩
  | .hbm, ⟨29, _⟩ => ⟨S16384x2048, .bf16⟩
  | .hbm, ⟨30, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S2048x128, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S2x8192x1024 : Shape := ⟨3, ![2, 8192, 1024]⟩
abbrev S2x8192x2048 : Shape := ⟨3, ![2, 8192, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x8, .f32⟩
  | .hbm, ⟨7, _⟩ => ⟨S8, .f32⟩
  | .hbm, ⟨8, _⟩ => ⟨S2048x64, .f32⟩
  | .hbm, ⟨9, _⟩ => ⟨S64, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x2048, .f32⟩
  | .hbm, ⟨32, _⟩ => ⟨S2x8192x2048, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x2048, .f32⟩
  | .hbm, ⟨38, _⟩ => ⟨S2x8192x2048, .f32⟩
  | .hbm, ⟨39, _⟩ => ⟨S1x1x2048, .f32⟩
  | .hbm, ⟨40, _⟩ => ⟨S2x8192x2048, .f32⟩
  | .hbm, ⟨41, _⟩ => ⟨S2x8192x2048, .f32⟩
  | .hbm, ⟨42, _⟩ => ⟨S1x1x2048, .f32⟩
  | .hbm, ⟨43, _⟩ => ⟨S2x8192x2048, .f32⟩
  | .hbm, ⟨44, _⟩ => ⟨S2x8192x2048, .f32⟩
  | .hbm, ⟨45, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel8.lean ====
abbrev S2x8192x4096 : Shape := ⟨3, ![2, 8192, 4096]⟩
abbrev S4x256x256 : Shape := ⟨3, ![4, 256, 256]⟩
abbrev S1024 : Shape := ⟨1, ![1024]⟩
abbrev S16384x4096 : Shape := ⟨2, ![16384, 4096]⟩
abbrev S1x1024 : Shape := ⟨2, ![1, 1024]⟩
abbrev S16384x1024 : Shape := ⟨2, ![16384, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4x256x256, .f32⟩
  | .hbm, ⟨2, _⟩ => ⟨S1024, .f32⟩
  | .hbm, ⟨3, _⟩ => ⟨S16384x4096, .f32⟩
  | .hbm, ⟨4, _⟩ => ⟨S16384x4096, .bf16⟩
  | .hbm, ⟨5, _⟩ => ⟨S4x256x256, .bf16⟩
  | .hbm, ⟨6, _⟩ => ⟨S1x1024, .f32⟩
  | .hbm, ⟨7, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S2x8192x4096 : Shape := ⟨3, ![2, 8192, 4096]⟩
abbrev S4x256x256 : Shape := ⟨3, ![4, 256, 256]⟩
abbrev S1024 : Shape := ⟨1, ![1024]⟩
abbrev S4 : Shape := ⟨1, ![4]⟩
abbrev S2x8192x1024 : Shape := ⟨3, ![2, 8192, 1024]⟩
abbrev S2x8192x4x256 : Shape := ⟨4, ![2, 8192, 4, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x4 : Shape := ⟨2, ![1, 4]⟩
abbrev S8192x4 : Shape := ⟨2, ![8192, 4]⟩
abbrev S4x2x256x8192 : Shape := ⟨4, ![4, 2, 256, 8192]⟩
abbrev S1x8192x4x1 : Shape := ⟨4, ![1, 8192, 4, 1]⟩
abbrev S4x256x2x8192 : Shape := ⟨4, ![4, 256, 2, 8192]⟩
abbrev S1x1x1024 : Shape := ⟨3, ![1, 1, 1024]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4x256x256, .f32⟩
  | .hbm, ⟨2, _⟩ => ⟨S1024, .f32⟩
  | .hbm, ⟨3, _⟩ => ⟨S4, .i32⟩
  | .hbm, ⟨4, _⟩ => ⟨S2x8192x1024, .f32⟩
  | .hbm, ⟨5, _⟩ => ⟨S2x8192x4x256, .f32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x8192, .i32⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i1⟩
  | .hbm, ⟨15, _⟩ => ⟨S4x1x1, .i32⟩
  | .hbm, ⟨16, _⟩ => ⟨S1x8192x8192, .i32⟩
  | .hbm, ⟨17, _⟩ => ⟨S4x8192x8192, .i32⟩
  | .hbm, ⟨18, _⟩ => ⟨S4x8192x8192, .i32⟩
  | .hbm, ⟨19, _⟩ => ⟨S4x8192x8192, .i1⟩
  | .hbm, ⟨20, _⟩ => ⟨S1x8192x8192, .i1⟩
  | .hbm, ⟨21, _⟩ => ⟨S4x8192x8192, .i1⟩
  | .hbm, ⟨22, _⟩ => ⟨S4x8192x8192, .i1⟩
  | .hbm, ⟨23, _⟩ => ⟨S8192x1, .i32⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S1x4, .i32⟩
  | .hbm, ⟨28, _⟩ => ⟨S8192x4, .i32⟩
  | .hbm, ⟨29, _⟩ => ⟨S8192x4, .i32⟩
  | .hbm, ⟨30, _⟩ => ⟨S8192x4, .i32⟩
  | .hbm, ⟨31, _⟩ => ⟨S8192x4, .f32⟩
  | .hbm, ⟨32, _⟩ => ⟨S4x8192x8192, .f32⟩
  | .hbm, ⟨33, _⟩ => ⟨S4x2x256x8192, .f32⟩
  | .hbm, ⟨34, _⟩ => ⟨S2x8192x4x256, .f32⟩
  | .hbm, ⟨35, _⟩ => ⟨S1x8192x4x1, .f32⟩
  | .hbm, ⟨36, _⟩ => ⟨S2x8192x4x256, .f32⟩
  | .hbm, ⟨37, _⟩ => ⟨S2x8192x4x256, .f32⟩
  | .hbm, ⟨38, _⟩ => ⟨S2x8192x4x256, .f32⟩
  | .hbm, ⟨39, _⟩ => ⟨S4x256x2x8192, .f32⟩
  | .hbm, ⟨40, _⟩ => ⟨S2x8192x4x256, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S16384x1024, .f32⟩
  | .hbm, ⟨46, _⟩ => ⟨S16384x1024, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Proof.Attn.Host.lean ====
/- THE KERNEL'S ARRAYS, as the host code lays them out: the queries' two parts and zeros head by head, the keys beside the values,
   the shared positional keys beside zeros; each read at an index. -/
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

section Arrays
variable {F : FTy → Type} [FloatOps F] (a0 : FVec F S2x8192x16x128 .f32) (a1 : FVec F S2x8192x16x64 .f32)
  (a2 : FVec F S2x8192x16x128 .f32) (a3 : FVec F S2x8192x64 .f32) (a4 : FVec F S2x8192x16x128 .f32)

/-- The queries: of a head 128 without position, 64 with, 64 zeros. -/
def qArr : FVec F S16384x4096 .bf16 :=
  truncf .bf16 (shapeCast S16384x4096 (concatenate S2x8192x16x256 3 [⟨S2x8192x16x128, a0⟩, ⟨S2x8192x16x64, a1⟩,
    ⟨S2x8192x16x64, broadcastInDim S2x8192x16x64 ![] bcast_S_S2x8192x16x64 (constant S_ .f32 0x00000000#32)⟩]
    concatenates_S2x8192x16x128_S2x8192x16x64_S2x8192x16x64_S2x8192x16x256_d3) shapeCasts_S2x8192x16x256_S16384x4096) bitsLt_bf16_f32

/-- The keys beside the values. -/
def kvArr : FVec F S16384x4096 .bf16 :=
  truncf .bf16 (concatenate S16384x4096 1 [⟨S16384x2048, shapeCast S16384x2048 a2 shapeCasts_S2x8192x16x128_S16384x2048⟩,
    ⟨S16384x2048, shapeCast S16384x2048 a4 shapeCasts_S2x8192x16x128_S16384x2048⟩]
    concatenates_S16384x2048_S16384x2048_S16384x4096_d1) bitsLt_bf16_f32

/-- The shared positional keys beside zeros. -/
def krArr : FVec F S16384x128 .bf16 :=
  truncf .bf16 (concatenate S16384x128 1 [⟨S16384x64, shapeCast S16384x64 a3 shapeCasts_S2x8192x64_S16384x64⟩,
    ⟨S16384x64, broadcastInDim S16384x64 ![] bcast_S_S16384x64 (constant S_ .f32 0x00000000#32)⟩]
    concatenates_S16384x64_S16384x64_S16384x128_d1) bitsLt_bf16_f32

variable (m : (ℓ : Loc nD τ sig) → Buf (Elt F) ℓ)

theorem V_q [Named F] (c : Dev nD) : V m c main_v3 = qArr (m ((c : Thread nD τ).loc main_arg0)) (m ((c : Thread nD τ).loc main_arg1)) := by
  show StableHlo.after hostOps0 _ (Proc.devRef .tc main_v3) = _
  after_results
  rfl
theorem V_kv [Named F] (c : Dev nD) : V m c main_v7 = kvArr (m ((c : Thread nD τ).loc main_arg2)) (m ((c : Thread nD τ).loc main_arg4)) := by
  show StableHlo.after hostOps0 _ (Proc.devRef .tc main_v7) = _
  after_results
  rfl
theorem V_kr [Named F] (c : Dev nD) : V m c main_v11 = krArr (m ((c : Thread nD τ).loc main_arg3)) := by
  show StableHlo.after hostOps0 _ (Proc.devRef .tc main_v11) = _
  after_results
  rfl
end Arrays

variable (a0 : FVec Ideal S2x8192x16x128 .f32) (a1 : FVec Ideal S2x8192x16x64 .f32)
  (a2 : FVec Ideal S2x8192x16x128 .f32) (a3 : FVec Ideal S2x8192x64 .f32) (a4 : FVec Ideal S2x8192x16x128 .f32)

theorem at4 {X : Type} {n0 n1 n2 n3 : ℕ} (f : (⟨4, ![n0, n1, n2, n3]⟩ : Shape).Idx → X) {i i' : Fin n0} {j j' : Fin n1}
    {k k' : Fin n2} {l l' : Fin n3} (hi : i.val = i'.val) (hj : j.val = j'.val) (hk : k.val = k'.val) (hl : l.val = l'.val) :
    f (ix4 i j k l) = f (ix4 i' j' k' l') := by
  obtain rfl := Fin.ext hi; obtain rfl := Fin.ext hj; obtain rfl := Fin.ext hk; obtain rfl := Fin.ext hl; rfl
theorem at3 {X : Type} {n0 n1 n2 : ℕ} (f : (⟨3, ![n0, n1, n2]⟩ : Shape).Idx → X) {i i' : Fin n0} {j j' : Fin n1}
    {k k' : Fin n2} (hi : i.val = i'.val) (hj : j.val = j'.val) (hk : k.val = k'.val) : f (ix3 i j k) = f (ix3 i' j' k') := by
  obtain rfl := Fin.ext hi; obtain rfl := Fin.ext hj; obtain rfl := Fin.ext hk; rfl

/-- A head's queries without position. -/
theorem qArr_nope (b : Fin 2) (q : Fin 8192) (h : Fin 16) (d : Fin 128) (r : Fin 16384) (n : Fin 4096)
    (hr : r.val = 8192 * b + q) (hn : n.val = 256 * h + d) : qArr a0 a1 (ix2 r n) = a0 (ix4 b q h d) := by
  unfold qArr
  pointwise
  rw [dif_pos (by omega)]
  exact at4 a0 (by simp only; omega) (by simp only; omega) (by simp only; omega) (by simp only; omega)

/-- A head's queries with position. -/
theorem qArr_rope (b : Fin 2) (q : Fin 8192) (h : Fin 16) (d : Fin 64) (r : Fin 16384) (n : Fin 4096)
    (hr : r.val = 8192 * b + q) (hn : n.val = 256 * h + (128 + d)) : qArr a0 a1 (ix2 r n) = a1 (ix4 b q h d) := by
  unfold qArr
  pointwise
  rw [dif_neg (by omega), dif_pos (by omega)]
  exact at4 a1 (by simp only; omega) (by simp only; omega) (by simp only; omega) (by simp only; omega)

/-- A head's keys. -/
theorem kvArr_k (b : Fin 2) (q : Fin 8192) (h : Fin 16) (d : Fin 128) (r : Fin 16384) (n : Fin 4096)
    (hr : r.val = 8192 * b + q) (hn : n.val = 128 * h + d) : kvArr a2 a4 (ix2 r n) = a2 (ix4 b q h d) := by
  unfold kvArr
  pointwise
  rw [dif_pos (by omega)]
  exact at4 a2 (by simp only; omega) (by simp only; omega) (by simp only; omega) (by simp only; omega)

/-- A head's values. -/
theorem kvArr_v (b : Fin 2) (q : Fin 8192) (h : Fin 16) (d : Fin 128) (r : Fin 16384) (n : Fin 4096)
    (hr : r.val = 8192 * b + q) (hn : n.val = 2048 + (128 * h + d)) : kvArr a2 a4 (ix2 r n) = a4 (ix4 b q h d) := by
  unfold kvArr
  pointwise
  rw [dif_neg (by omega)]
  exact at4 a4 (by simp only; omega) (by simp only; omega) (by simp only; omega) (by simp only; omega)

/-- The positional keys, and zeros from lane 64 on. -/
theorem krArr_lo (b : Fin 2) (q : Fin 8192) (d : Fin 64) (r : Fin 16384) (n : Fin 128)
    (hr : r.val = 8192 * b + q) (hn : n.val = d) : krArr a3 (ix2 r n) = a3 (ix3 b q d) := by
  unfold krArr
  pointwise
  rw [dif_pos (by omega)]
  exact at3 a3 (by simp only; omega) (by simp only; omega) (by simp only; omega)
theorem krArr_hi (r : Fin 16384) (n : Fin 128) (hn : 64 ≤ n.val) : krArr a3 (ix2 r n) = 0 := by
  unfold krArr
  pointwise
  rw [dif_neg (by omega)]

end Cert.KernelIdeal.Attn

end
-- ==== Proof.Attn.Step.lean ====
/- ONE HEAD'S STEP over one block of 512 keys, as the kernel computes it: the scaled scores, the running maximum, the
   running sums. Each value is named once, with the operations in the kernel's order, and then read at an index. -/
module

public import proofs.«01_k».proof.Proof.Gen.KernelIdeal.Skeleton
public import Idealize.ShloMosaic.Lib.Pointwise

@[expose] public section

noncomputable section

namespace Cert.KernelIdeal.Attn

open Cert.KernelIdeal Cert.KernelIdeal.Gen Idealize.ShloMosaic Idealize.ShloMosaic.TcCoe

section General
variable {F : FTy → Type} [FloatOps F] [Named F]

/-- The scaled scores of 512 queries against 512 keys: a key is its non-positional part beside its positional part. -/
def score (kr kn : Vec F S512x128 .bf16) (q : Vec F S512x256 .bf16) : FVec F S512x512 .f32 :=
  mulf (matmul dot_S512x256_S512x256_S512x512_1_1_0_0_n_n none (shapeCast S512x256 q shapeCasts_S512x256_S512x256)
      (concatenate S512x256 1 [⟨S512x128, shapeCast S512x128 kn shapeCasts_S512x128_S512x128⟩,
        ⟨S512x128, shapeCast S512x128 kr shapeCasts_S512x128_S512x128⟩] concatenates_S512x128_S512x128_S512x256_d1)
      (constant S512x512 .f32 0x00000000#32))
    (broadcast S512x512 (Named.named κ "q_scale" 0x3DD53B95#32))

/-- The chunk (64 rows) of a query's row, and of a key's. -/
def rowChunk : IVec S512x1 32 := shrsi (iota .tc S512x1 32 [0] iota_S512x1_d0_w32) (broadcast S512x1 6#32)
def colChunk : IVec S1x512 32 := shrsi (iota .tc S1x512 32 [1] iota_S1x512_d1_w32) (broadcast S1x512 6#32)

/-- The scores of the block on the diagonal: −∞ where the key's chunk lies after the query's. -/
def masked (s : FVec F S512x512 .f32) : FVec F S512x512 .f32 :=
  select (cmpi .sle (broadcastTo S512x512 (addi colChunk (broadcast S1x512 0#32)) broadcasts_S1x512_S512x512)
    (broadcastTo S512x512 rowChunk broadcasts_S512x1_S512x512)) s (broadcast S512x512 (Scalar.ofBits .f32 0xFF800000#32))

/-- The running maximum after the block, on 128 equal lanes. -/
def newMax (s : FVec F S512x512 .f32) (mx : Vec F S1x512x128 .f32) : FVec F S512x128 .f32 :=
  maximumf (shapeCast S512x128 mx shapeCasts_S1x512x128_S512x128)
    (broadcastTo S512x128 (shapeCast S512x1
      (multiReduction .maximumf [1] S512 s 0xFF800000#32 reduces_S512x512_S512 (.inl rfl) rfl) shapeCasts_S512_S512x1)
      broadcasts_S512x1_S512x128)

/-- The ones beside the values: their product with the weights is the sum of the weights. -/
def ones : FVec F S512x128 .bf16 := broadcast S512x128 (Scalar.ofBits .bf16 0x3F80#16)

/-- The running sums after the block: lanes below 128 the weighted values, the others the weights. -/
def newAcc (s : FVec F S512x512 .f32) (mx : Vec F S1x512x128 .f32) (v : Vec F S512x128 .bf16) (acc : Vec F S1x512x256 .f32) :
    FVec F S512x256 .f32 :=
  addf (mulf (concatenate S512x256 1 [⟨S512x128, exp2 (subf (shapeCast S512x128 mx shapeCasts_S1x512x128_S512x128) (newMax s mx))⟩,
        ⟨S512x128, exp2 (subf (shapeCast S512x128 mx shapeCasts_S1x512x128_S512x128) (newMax s mx))⟩]
        concatenates_S512x128_S512x128_S512x256_d1)
      (shapeCast S512x256 acc shapeCasts_S1x512x256_S512x256))
    (matmul dot_S512x512_S512x256_S512x256_1_0_0_1_n_n none
      (truncf .bf16 (exp2 (subf s (concatenate S512x512 1 [⟨S512x128, newMax s mx⟩, ⟨S512x128, newMax s mx⟩, ⟨S512x128, newMax s mx⟩,
        ⟨S512x128, newMax s mx⟩] concatenates_S512x128_S512x128_S512x128_S512x128_S512x512_d1))) bitsLt_bf16_f32)
      (concatenate S512x256 1 [⟨S512x128, shapeCast S512x128 v shapeCasts_S512x128_S512x128⟩, ⟨S512x128, ones⟩]
        concatenates_S512x128_S512x128_S512x256_d1)
      (constant S512x256 .f32 0x00000000#32))

/-- The maximum and the sums as they are stored, on a leading unit axis. -/
def maxRow (s : FVec F S512x512 .f32) (mx : Vec F S1x512x128 .f32) : FVec F S1x512x128 .f32 :=
  shapeCast S1x512x128 (newMax s mx) shapeCasts_S512x128_S1x512x128
def accRow (s : FVec F S512x512 .f32) (mx : Vec F S1x512x128 .f32) (v : Vec F S512x128 .bf16) (acc : Vec F S1x512x256 .f32) :
    FVec F S1x512x256 .f32 :=
  shapeCast S1x512x256 (newAcc s mx v acc) shapeCasts_S512x256_S1x512x256

/-- What a head writes: the weighted values over the sum of the weights. -/
def outRow (acc : Vec F S1x512x256 .f32) : FVec F S512x128 .bf16 :=
  truncf .bf16 (divf (extractStridedSlice S512x128 ![0, 0] (shapeCast S512x256 acc shapeCasts_S1x512x256_S512x256) slices_S512x256_o0_0_S512x128)
    (extractStridedSlice S512x128 ![0, 128] (shapeCast S512x256 acc shapeCasts_S1x512x256_S512x256) slices_S512x256_o0_128_S512x128))
    bitsLt_bf16_f32
end General

/-- The scale of the scores, which the rewrite names: one over the square root of 192, over the logarithm of two. -/
theorem named_scale : Named.named (F := Ideal) (φ := .f32) κ "q_scale" 0x3DD53B95#32 = (((Real.sqrt 192)⁻¹ * (Real.log 2)⁻¹ : ℝ) : EReal) :=
  IdealRules.named_const.ideal_named_scalar _ _ _ _ rfl

/-- A scaled score at a query and a key. -/
theorem score_apply (kr kn : Vec Ideal S512x128 .bf16) (q : Vec Ideal S512x256 .bf16) (r x : Fin 512) :
    score kr kn q (ix2 r x) = (∑ d : Fin 128, q (ix2 r (⟨d, by omega⟩ : Fin 256)) * kn (ix2 x d)
      + ∑ d : Fin 128, q (ix2 r (⟨128 + d, by omega⟩ : Fin 256)) * kr (ix2 x d))
        * (((Real.sqrt 192)⁻¹ * (Real.log 2)⁻¹ : ℝ) : EReal) := by
  pointwise [score]
  rw [named_scale]

/-- −∞ as it is written in the kernel. -/
theorem negInf : Ideal.ofBits FTy.f32 0xFF800000#32 = ⊥ := by
  simp [Ideal.ofBits, Ideal.ieee]

/-- The new maximum at a query: the greater of the old one and of the block's scores. -/
theorem maxRow_apply (s : FVec Ideal S512x512 .f32) (mx : Vec Ideal S1x512x128 .f32) (r : Fin 512) (l : Fin 128) :
    maxRow s mx (ix3 0 r l) = max (mx (ix3 0 r l)) (Finset.fold max ⊥ (fun x => s (ix2 r x)) Finset.univ) := by
  pointwise [maxRow, newMax]
  rw [negInf]

/-- The new sums at a query, where the old maximum is the same `m` on every lane and the new one `m'`. -/
theorem accRow_apply (s : FVec Ideal S512x512 .f32) (mx : Vec Ideal S1x512x128 .f32) (v : Vec Ideal S512x128 .bf16)
    (acc : Vec Ideal S1x512x256 .f32) (r : Fin 512) (l : Fin 256) (m m' : EReal) (hm : ∀ l, mx (ix3 0 r l) = m)
    (hm' : ∀ l, maxRow s mx (ix3 0 r l) = m') :
    accRow s mx v acc (ix3 0 r l) = Ideal.exp2 (m - m') * acc (ix3 0 r l)
      + ∑ x, Ideal.exp2 (s (ix2 r x) - m') * (if h : l.val < 128 then v (ix2 x ⟨l, h⟩) else 1) := by
  have h' : ∀ l, newMax s mx (ix2 r l) = m' := fun l => by
    have := hm' l
    pointwise [maxRow] at this
    exact this
  pointwise [accRow, newAcc, ones]
  simp only [h', hm, dite_eq_ite, ite_self]
  rfl

/-- What a head writes, at a query and a lane. -/
theorem outRow_apply (acc : Vec Ideal S1x512x256 .f32) (r : Fin 512) (l : Fin 128) :
    outRow acc (ix2 r l) = Ideal.div (acc (ix3 0 r (⟨l, by omega⟩ : Fin 256))) (acc (ix3 0 r (⟨128 + l, by omega⟩ : Fin 256))) := by
  pointwise [outRow]

/-- A key's chunk is its column over 64, a query's its row over 64. -/
theorem chunk_words : (∀ x : Fin 512, IntOp.addi (IntOp.shrsi ArithUnit.vector (BitVec.ofNat 32 x) 6#32) 0#32 = BitVec.ofNat 32 (x / 64))
    ∧ (∀ x : Fin 512, IntOp.shrsi ArithUnit.vector (BitVec.ofNat 32 x) 6#32 = BitVec.ofNat 32 (x / 64)) := by
  constructor <;> decide +kernel

/-- Two chunks compared as words are compared as numbers. -/
theorem chunk_le : ∀ a b : Fin 8, IntOp.cmpi CmpIPredicate.sle (BitVec.ofNat 32 a) (BitVec.ofNat 32 b) = if a.val ≤ b.val then 1#1 else 0#1 := by
  decide +kernel

/-- A masked score at a query and a key. -/
theorem masked_apply (s : FVec Ideal S512x512 .f32) (r x : Fin 512) :
    masked s (ix2 r x) = if x.val / 64 ≤ r.val / 64 then s (ix2 r x) else ⊥ := by
  pointwise [masked, rowChunk, colChunk]
  have h := chunk_le ⟨x / 64, by omega⟩ ⟨r / 64, by omega⟩
  simp only at h
  rw [chunk_words.1, chunk_words.2, h, negInf]
  split <;> simp [Scalar.select]

end Cert.KernelIdeal.Attn
end
-- ==== Proof.Attn.Online.lean ====
/- THE RUNNING SOFTMAX over the extended reals: the maximum of the first `n` scores and the sums of `2^(score − maximum) · value`
   over them, and how both move when a block of further keys is taken in. -/
module

public import Idealize.ShloMosaic.PureOps.Ideal.Laws
public import Idealize.ShloMosaic.Lib.Pointwise

@[expose] public section

noncomputable section

namespace Cert.Attn

open Idealize.ShloMosaic

/-- The greatest of the first `n` scores. -/
def runMax (s : ℕ → EReal) (n : ℕ) : EReal := (Finset.range n).sup s

/-- The sum of the first `n` values, each weighted by two to the power of its score less the greatest. -/
def runSum (s va : ℕ → EReal) (n : ℕ) : EReal := ∑ k ∈ Finset.range n, Ideal.exp2 (s k - runMax s n) * va k

/-- With no key taken in, the maximum is −∞ and the sum is zero. -/
theorem runMax_zero (s : ℕ → EReal) : runMax s 0 = ⊥ := by simp [runMax]
theorem runSum_zero (s va : ℕ → EReal) : runSum s va 0 = 0 := by simp [runSum]

/-- A maximum folded from −∞ is the supremum. -/
theorem fold_max_eq_sup {m : ℕ} (f : Fin m → EReal) : Finset.fold max ⊥ f Finset.univ = Finset.univ.sup f := rfl

/-- The maximum after a further block of `m` scores. -/
theorem runMax_add (s : ℕ → EReal) (n m : ℕ) :
    max (runMax s n) (Finset.fold max ⊥ (fun x : Fin m => s (n + x)) Finset.univ) = runMax s (n + m) := by
  rw [fold_max_eq_sup]
  apply le_antisymm
  · refine max_le (Finset.sup_mono (Finset.range_mono (Nat.le_add_right n m))) (Finset.sup_le fun x _ => ?_)
    exact Finset.le_sup (f := s) (Finset.mem_range.2 (by omega))
  · refine Finset.sup_le fun k hk => ?_
    rw [Finset.mem_range] at hk
    by_cases h : k < n
    · exact le_max_of_le_left (Finset.le_sup (f := s) (Finset.mem_range.2 h))
    · refine le_max_of_le_right ?_
      have := Finset.le_sup (f := fun x : Fin m => s (n + x)) (Finset.mem_univ (⟨k - n, by omega⟩ : Fin m))
      simpa [show n + (k - n) = k by omega] using this

/-- The maximum is not +∞ where no score is. -/
theorem runMax_ne_top (s : ℕ → EReal) (n : ℕ) (h : ∀ k < n, s k ≠ ⊤) : runMax s n ≠ ⊤ := by
  rw [runMax, ← lt_top_iff_ne_top, Finset.sup_lt_iff (by simp)]
  exact fun k hk => lt_top_iff_ne_top.2 (h k (Finset.mem_range.1 hk))

/-- A score is at most the maximum. -/
theorem le_runMax (s : ℕ → EReal) {n k : ℕ} (h : k < n) : s k ≤ runMax s n := Finset.le_sup (f := s) (Finset.mem_range.2 h)

/-- Two to a power is not negative; to a power that is not +∞ it is a real. -/
theorem exp2_nonneg (x : EReal) : 0 ≤ Ideal.exp2 x := by
  induction x with
  | bot => simp [Ideal.exp2_bot]
  | top => rw [Ideal.exp2_top]; exact le_top
  | coe r => rw [Ideal.exp2_coe]; exact_mod_cast Real.rpow_nonneg (by norm_num) r

theorem exp2_ne_top {x : EReal} (h : x ≠ ⊤) : Ideal.exp2 x ≠ ⊤ := by
  induction x with
  | bot => simp [Ideal.exp2_bot]
  | top => exact absurd rfl h
  | coe r => rw [Ideal.exp2_coe]; exact EReal.coe_ne_top _

/-- A score less a greater bound is not +∞, where the bound is not. -/
theorem sub_ne_top {x y : EReal} (hx : x ≠ ⊤) (hy : x ≤ y) : x - y ≠ ⊤ := by
  induction y with
  | bot => simp [le_bot_iff.1 hy]
  | top => induction x <;> simp_all
  | coe r => induction x <;> simp_all [← EReal.coe_sub]

/-- A nonnegative real times a sum is the sum of the products, whatever the summands. -/
theorem mul_sum_of_real {ι : Type} (t : Finset ι) (c : EReal) (h0 : 0 ≤ c) (h1 : c ≠ ⊤) (f : ι → EReal) :
    c * ∑ k ∈ t, f k = ∑ k ∈ t, c * f k := by
  classical
  induction t using Finset.induction_on with
  | empty => simp
  | insert a t ha ih => rw [Finset.sum_insert ha, Finset.sum_insert ha, EReal.left_distrib_of_nonneg_of_ne_top h0 h1, ih]

/-- Powers of two: from one bound on the scores to a greater one. -/
theorem exp2_rebase {x m m' : EReal} (hx : x ≠ ⊤) (h : x ≤ m) (h' : m ≤ m') (hm : m' ≠ ⊤) :
    Ideal.exp2 (m - m') * Ideal.exp2 (x - m) = Ideal.exp2 (x - m') := by
  induction m' with
  | top => exact absurd rfl hm
  | bot => obtain rfl := le_bot_iff.1 h'; obtain rfl := le_bot_iff.1 h; simp [Ideal.exp2_bot]
  | coe b =>
    induction m with
    | top => exact absurd h' (by simp)
    | bot => obtain rfl := le_bot_iff.1 h; simp [Ideal.exp2_bot]
    | coe a =>
      induction x with
      | top => exact absurd rfl hx
      | bot => simp [Ideal.exp2_bot]
      | coe r =>
        rw [← EReal.coe_sub, ← EReal.coe_sub, ← EReal.coe_sub, Ideal.exp2_coe, Ideal.exp2_coe, Ideal.exp2_coe, ← EReal.coe_mul,
          EReal.coe_eq_coe_iff]
        show Real.rpow 2 _ * Real.rpow 2 _ = Real.rpow 2 _
        simp only [Real.rpow_eq_pow]
        rw [← Real.rpow_add (by norm_num)]
        congr 1; ring

/-- The sums after a further block of `m` keys: the sums before, moved to the new maximum, plus the block's. -/
theorem runSum_add (s va : ℕ → EReal) (n m : ℕ) (h : ∀ k < n + m, s k ≠ ⊤) :
    Ideal.exp2 (runMax s n - runMax s (n + m)) * runSum s va n
      + ∑ x : Fin m, Ideal.exp2 (s (n + x) - runMax s (n + m)) * va (n + x) = runSum s va (n + m) := by
  have hle : runMax s n ≤ runMax s (n + m) := Finset.sup_mono (Finset.range_mono (Nat.le_add_right n m))
  have hn : runMax s n ≠ ⊤ := runMax_ne_top s n fun k hk => h k (by omega)
  rw [runSum, runSum, Finset.sum_range_add, mul_sum_of_real _ _ (exp2_nonneg _) (exp2_ne_top (sub_ne_top hn hle))]
  congr 1
  · refine Finset.sum_congr rfl fun k hk => ?_
    rw [Finset.mem_range] at hk
    rw [← mul_assoc, exp2_rebase (h k (by omega)) (le_runMax s hk) hle (runMax_ne_top s _ h)]
  · exact Fin.sum_univ_eq_sum_range (fun x => Ideal.exp2 (s (n + x) - runMax s (n + m)) * va (n + x)) m

end Cert.Attn

end
-- ==== Proof.Attn.State.lean ====
/- WHAT THE SCRATCH HOLDS: at a point of the grid, before a block of keys, the running maximum and the running sums of the keys
   before it, for every head and query of the point's block. A head's step moves both by one block of 512 keys. -/
module

public import proofs.«01_k».proof.Proof.Attn.Step
public import proofs.«01_k».proof.Proof.Attn.Online
public import Idealize.ShloMosaic.Lib.Pipeline.ValueKit
public import Idealize.ShloMosaic.Lib.Pipeline.ReadBack
public import Idealize.ShloMosaic.Lib.Ring

@[expose] public section

noncomputable section

namespace Cert.KernelIdeal.Attn

open Cert.KernelIdeal Cert.KernelIdeal.Gen Idealize.ShloMosaic Idealize.ShloMosaic.TcCoe Cert.Attn

/-- The point's blocks: 512 queries (16 half-heads of 128), 8192 keys and values of 8 heads, the shared positional keys. -/
structure Blocks where
  q : Vec Ideal S512x2048 .bf16
  kn : Vec Ideal S8192x1024 .bf16
  kr : Vec Ideal S8192x128 .bf16
  v : Vec Ideal S8192x1024 .bf16

variable (B : Blocks)

/-- A key's row, whose number is below 8192. -/
def keyRow (k : ℕ) : Fin 8192 := Fin.ofNat 8192 k

/-- The scaled score of head `h` at query `r` of the block and key `k`. -/
def Blocks.score (h : Fin 8) (r : Fin 512) (k : ℕ) : EReal :=
  (∑ d : Fin 128, B.q (ix2 r (⟨256 * h + d, by omega⟩ : Fin 2048)) * B.kn (ix2 (keyRow k) (⟨128 * h + d, by omega⟩ : Fin 1024))
      + ∑ d : Fin 128, B.q (ix2 r (⟨256 * h + (128 + d), by omega⟩ : Fin 2048)) * B.kr (ix2 (keyRow k) d))
    * (((Real.sqrt 192)⁻¹ * (Real.log 2)⁻¹ : ℝ) : EReal)

/-- … and −∞ where the key's chunk lies after the query's; `qi` is the block of queries. -/
def Blocks.msc (qi : ℕ) (h : Fin 8) (r : Fin 512) (k : ℕ) : EReal :=
  if k / 64 ≤ (512 * qi + r) / 64 then B.score h r k else ⊥

/-- The value of key `k` on a lane: a value below lane 128, one from there on. -/
def Blocks.val (h : Fin 8) (c : Fin 256) (k : ℕ) : EReal :=
  if hc : c.val < 128 then B.v (ix2 (keyRow k) (⟨128 * h + c, by omega⟩ : Fin 1024)) else 1

/-- The running maximum and sums of the first `n` keys. -/
def Blocks.mxAt (qi : ℕ) (n : ℕ) (h : Fin 8) (r : Fin 512) : EReal := runMax (B.msc qi h r) n
def Blocks.acAt (qi : ℕ) (n : ℕ) (h : Fin 8) (r : Fin 512) (c : Fin 256) : EReal := runSum (B.msc qi h r) (B.val h c) n

/-- No score is +∞. -/
def Blocks.Below : Prop := ∀ h r k, B.score h r k ≠ ⊤

theorem Blocks.msc_ne_top (hB : B.Below) (qi : ℕ) (h : Fin 8) (r : Fin 512) (k : ℕ) : B.msc qi h r k ≠ ⊤ := by
  unfold Blocks.msc; split
  · exact hB h r k
  · exact bot_ne_top

/-- A step's maximum, from the scores of block `j` of the keys and the maximum before it. -/
theorem maxRow_step (qi j : ℕ) (h : Fin 8) (s : FVec Ideal S512x512 .f32) (mx : Vec Ideal S1x512x128 .f32)
    (hs : ∀ r x, s (ix2 r x) = B.msc qi h r (512 * j + x.val)) (hm : ∀ r l, mx (ix3 0 r l) = B.mxAt qi (512 * j) h r)
    (r : Fin 512) (l : Fin 128) : maxRow s mx (ix3 0 r l) = B.mxAt qi (512 * j + 512) h r := by
  rw [maxRow_apply, hm]
  simp only [hs]
  exact runMax_add _ _ _

/-- A step's sums. -/
theorem accRow_step (hB : B.Below) (qi j : ℕ) (h : Fin 8) (s : FVec Ideal S512x512 .f32) (mx : Vec Ideal S1x512x128 .f32)
    (v : Vec Ideal S512x128 .bf16) (acc : Vec Ideal S1x512x256 .f32)
    (hs : ∀ r x, s (ix2 r x) = B.msc qi h r (512 * j + x.val)) (hm : ∀ r l, mx (ix3 0 r l) = B.mxAt qi (512 * j) h r)
    (hv : ∀ x d, v (ix2 x d) = B.v (ix2 (keyRow (512 * j + x.val)) (⟨128 * h + d.val, by omega⟩ : Fin 1024)))
    (ha : ∀ r c, acc (ix3 0 r c) = B.acAt qi (512 * j) h r c)
    (r : Fin 512) (c : Fin 256) : accRow s mx v acc (ix3 0 r c) = B.acAt qi (512 * j + 512) h r c := by
  rw [accRow_apply s mx v acc r c _ _ (fun l => hm r l) (fun l => maxRow_step B qi j h s mx hs hm r l), ha]
  simp only [hs, hv]
  exact runSum_add _ (B.val h c) (512 * j) 512 fun k _ => B.msc_ne_top hB qi h r k

section Loads
variable (arg3 : Memref sig .tc .vmem S512x2048 .bf16) (arg4 : Memref sig .tc .vmem S8192x1024 .bf16)
  (arg5 : Memref sig .tc .vmem S8192x128 .bf16) (arg6 : Memref sig .tc .vmem S8192x1024 .bf16)
  (arg8 : Memref sig .tc .vmem S8x512x128 .f32) (arg9 : Memref sig .tc .vmem S8x512x256 .f32)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (f8 : BufTy.Contents (Elt Ideal) arg8.view.ty) (f9 : BufTy.Contents (Elt Ideal) arg9.view.ty)

/-- The four input buffers hold the point's blocks. -/
structure Inputs : Prop where
  h3 : arg3.view.read (Elt Ideal) X3 = B.q
  h4 : arg4.view.read (Elt Ideal) X4 = B.kn
  h5 : arg5.view.read (Elt Ideal) X5 = B.kr
  h6 : arg6.view.read (Elt Ideal) X6 = B.v

/-- The two scratch buffers hold the maximum and the sums of the first `n` keys. -/
structure Holds (qi n : ℕ) : Prop where
  h8 : ∀ (h : Fin 8) (r : Fin 512) (l : Fin 128), arg8.view.read (Elt Ideal) f8 (ix3 h r l) = B.mxAt qi n h r
  h9 : ∀ (h : Fin 8) (r : Fin 512) (c : Fin 256), arg9.view.read (Elt Ideal) f9 (ix3 h r c) = B.acAt qi n h r c

variable {arg3 arg4 arg5 arg6 arg8 arg9 X3 X4 X5 X6 f8 f9} {B}

/-- Loads of the blocks' parts. -/
theorem Inputs.ld_q (I : Inputs B arg3 arg4 arg5 arg6 X3 X4 X5 X6) (h : Fin 8) (o : Fin 2 → ℕ) (h0 : o 0 = 0) (hc : o 1 = 256 * h)
    (inb : ∀ a, o a + (![512, 256] : Fin 2 → ℕ) a ≤ S512x2048.size a) (r : Fin 512) (d : Fin 256) :
    View.readAt (Elt Ideal) arg3.view (Rect.unit (s := S512x2048) o ![512, 256] inb).toLoadRect X3 (ix2 r d)
      = B.q (ix2 r (⟨256 * h + d, by omega⟩ : Fin 2048)) := by
  rw [View.readAt_eq_ld, I.h3]
  refine View.ld_unit_apply_of _ _ _ _ _ _ fun a => ?_
  match a with
  | 0 => simp [ix2, h0]
  | 1 => simp [ix2, hc]

theorem Inputs.ld_kn (I : Inputs B arg3 arg4 arg5 arg6 X3 X4 X5 X6) (h : Fin 8) (j : ℕ) (o : Fin 2 → ℕ) (hj : j < 16) (ho : o 0 = 512 * j)
    (hc : o 1 = 128 * h)
    (inb : ∀ a, o a + (![512, 128] : Fin 2 → ℕ) a ≤ S8192x1024.size a) (x : Fin 512) (d : Fin 128) :
    View.readAt (Elt Ideal) arg4.view (Rect.unit (s := S8192x1024) o ![512, 128] inb).toLoadRect X4 (ix2 x d)
      = B.kn (ix2 (keyRow (512 * j + x)) (⟨128 * h + d, by omega⟩ : Fin 1024)) := by
  rw [View.readAt_eq_ld, I.h4]
  refine View.ld_unit_apply_of _ _ _ _ _ _ fun a => ?_
  have : (512 * j + x.val) % 8192 = 512 * j + x.val := Nat.mod_eq_of_lt (by omega)
  match a with
  | 0 => simp [ix2, keyRow, this, ho]
  | 1 => simp [ix2, hc]

theorem Inputs.ld_v (I : Inputs B arg3 arg4 arg5 arg6 X3 X4 X5 X6) (h : Fin 8) (j : ℕ) (o : Fin 2 → ℕ) (hj : j < 16) (ho : o 0 = 512 * j)
    (hc : o 1 = 128 * h)
    (inb : ∀ a, o a + (![512, 128] : Fin 2 → ℕ) a ≤ S8192x1024.size a) (x : Fin 512) (d : Fin 128) :
    View.readAt (Elt Ideal) arg6.view (Rect.unit (s := S8192x1024) o ![512, 128] inb).toLoadRect X6 (ix2 x d)
      = B.v (ix2 (keyRow (512 * j + x)) (⟨128 * h + d, by omega⟩ : Fin 1024)) := by
  rw [View.readAt_eq_ld, I.h6]
  refine View.ld_unit_apply_of _ _ _ _ _ _ fun a => ?_
  have : (512 * j + x.val) % 8192 = 512 * j + x.val := Nat.mod_eq_of_lt (by omega)
  match a with
  | 0 => simp [ix2, keyRow, this, ho]
  | 1 => simp [ix2, hc]

theorem Inputs.ld_kr (I : Inputs B arg3 arg4 arg5 arg6 X3 X4 X5 X6) (j : ℕ) (o : Fin 2 → ℕ) (hj : j < 16) (ho : o 0 = 512 * j)
    (hc : o 1 = 0) (inb : ∀ a, o a + (![512, 128] : Fin 2 → ℕ) a ≤ S8192x128.size a) (x : Fin 512) (d : Fin 128) :
    View.readAt (Elt Ideal) arg5.view (Rect.unit (s := S8192x128) o ![512, 128] inb).toLoadRect X5 (ix2 x d)
      = B.kr (ix2 (keyRow (512 * j + x)) d) := by
  rw [View.readAt_eq_ld, I.h5]
  refine View.ld_unit_apply_of _ _ _ _ _ _ fun a => ?_
  have : (512 * j + x.val) % 8192 = 512 * j + x.val := Nat.mod_eq_of_lt (by omega)
  match a with
  | 0 => simp [ix2, keyRow, this, ho]
  | 1 => simp [ix2, hc]

theorem Holds.ld_mx {qi n : ℕ} (H : Holds B arg8 arg9 f8 f9 qi n) (h : Fin 8) (hh : ℕ) (he : hh = h)
    (inb : ∀ a, (![hh, 0, 0] : Fin 3 → ℕ) a + (![1, 512, 128] : Fin 3 → ℕ) a ≤ S8x512x128.size a) (r : Fin 512) (l : Fin 128) :
    View.readAt (Elt Ideal) arg8.view (Rect.unit (s := S8x512x128) ![hh, 0, 0] ![1, 512, 128] inb).toLoadRect f8 (ix3 0 r l)
      = B.mxAt qi n h r := by
  rw [View.readAt_eq_ld, ← H.h8 h r l]
  refine View.ld_unit_apply_of _ _ _ _ _ _ fun a => ?_
  subst he
  fin_cases a <;> simp [ix3]

theorem Holds.ld_ac {qi n : ℕ} (H : Holds B arg8 arg9 f8 f9 qi n) (h : Fin 8) (hh : ℕ) (he : hh = h)
    (inb : ∀ a, (![hh, 0, 0] : Fin 3 → ℕ) a + (![1, 512, 256] : Fin 3 → ℕ) a ≤ S8x512x256.size a) (r : Fin 512) (c : Fin 256) :
    View.readAt (Elt Ideal) arg9.view (Rect.unit (s := S8x512x256) ![hh, 0, 0] ![1, 512, 256] inb).toLoadRect f9 (ix3 0 r c)
      = B.acAt qi n h r c := by
  rw [View.readAt_eq_ld, ← H.h9 h r c]
  refine View.ld_unit_apply_of _ _ _ _ _ _ fun a => ?_
  subst he
  fin_cases a <;> simp [ix3]

/-- The scores of block `j` of the keys, of blocks loaded at its rows. -/
theorem Inputs.score_block (I : Inputs B arg3 arg4 arg5 arg6 X3 X4 X5 X6) (h : Fin 8) (j : ℕ) (o5 o4 o3 : Fin 2 → ℕ) (hj : j < 16)
    (h5 : o5 0 = 512 * j) (h5' : o5 1 = 0) (h4 : o4 0 = 512 * j)
    (h4' : o4 1 = 128 * h) (h3 : o3 0 = 0) (h3' : o3 1 = 256 * h)
    (inb5 : ∀ a, o5 a + (![512, 128] : Fin 2 → ℕ) a ≤ S8192x128.size a)
    (inb4 : ∀ a, o4 a + (![512, 128] : Fin 2 → ℕ) a ≤ S8192x1024.size a)
    (inb3 : ∀ a, o3 a + (![512, 256] : Fin 2 → ℕ) a ≤ S512x2048.size a) (r x : Fin 512) :
    score (F := Ideal) (View.readAt (Elt Ideal) arg5.view (Rect.unit (s := S8192x128) o5 ![512, 128] inb5).toLoadRect X5)
      (View.readAt (Elt Ideal) arg4.view (Rect.unit (s := S8192x1024) o4 ![512, 128] inb4).toLoadRect X4)
      (View.readAt (Elt Ideal) arg3.view (Rect.unit (s := S512x2048) o3 ![512, 256] inb3).toLoadRect X3) (ix2 r x)
      = B.score h r (512 * j + x) := by
  rw [score_apply]
  simp only [I.ld_q h o3 h3 h3', I.ld_kn h j o4 hj h4 h4', I.ld_kr j o5 hj h5 h5']
  rfl

/-- A block before the queries' own is scored without a mask. -/
theorem Inputs.score_full (I : Inputs B arg3 arg4 arg5 arg6 X3 X4 X5 X6) (qi : ℕ) (h : Fin 8) (j : ℕ) (o5 o4 o3 : Fin 2 → ℕ) (hj : j < qi) (hqi : qi < 16)
    (h5 : o5 0 = 512 * j) (h5' : o5 1 = 0) (h4 : o4 0 = 512 * j)
    (h4' : o4 1 = 128 * h) (h3 : o3 0 = 0) (h3' : o3 1 = 256 * h)
    (inb5 : ∀ a, o5 a + (![512, 128] : Fin 2 → ℕ) a ≤ S8192x128.size a)
    (inb4 : ∀ a, o4 a + (![512, 128] : Fin 2 → ℕ) a ≤ S8192x1024.size a)
    (inb3 : ∀ a, o3 a + (![512, 256] : Fin 2 → ℕ) a ≤ S512x2048.size a) (r x : Fin 512) :
    score (F := Ideal) (View.readAt (Elt Ideal) arg5.view (Rect.unit (s := S8192x128) o5 ![512, 128] inb5).toLoadRect X5)
      (View.readAt (Elt Ideal) arg4.view (Rect.unit (s := S8192x1024) o4 ![512, 128] inb4).toLoadRect X4)
      (View.readAt (Elt Ideal) arg3.view (Rect.unit (s := S512x2048) o3 ![512, 256] inb3).toLoadRect X3) (ix2 r x)
      = B.msc qi h r (512 * j + x) := by
  rw [I.score_block h j o5 o4 o3 (by omega) h5 h5' h4 h4' h3 h3', Blocks.msc, if_pos (by omega)]

/-- The queries' own block is scored under the mask. -/
theorem Inputs.score_diag (I : Inputs B arg3 arg4 arg5 arg6 X3 X4 X5 X6) (qi : ℕ) (h : Fin 8) (o5 o4 o3 : Fin 2 → ℕ) (hqi : qi < 16)
    (h5 : o5 0 = 512 * qi) (h5' : o5 1 = 0) (h4 : o4 0 = 512 * qi)
    (h4' : o4 1 = 128 * h) (h3 : o3 0 = 0) (h3' : o3 1 = 256 * h)
    (inb5 : ∀ a, o5 a + (![512, 128] : Fin 2 → ℕ) a ≤ S8192x128.size a)
    (inb4 : ∀ a, o4 a + (![512, 128] : Fin 2 → ℕ) a ≤ S8192x1024.size a)
    (inb3 : ∀ a, o3 a + (![512, 256] : Fin 2 → ℕ) a ≤ S512x2048.size a) (r x : Fin 512) :
    masked (score (F := Ideal) (View.readAt (Elt Ideal) arg5.view (Rect.unit (s := S8192x128) o5 ![512, 128] inb5).toLoadRect X5)
      (View.readAt (Elt Ideal) arg4.view (Rect.unit (s := S8192x1024) o4 ![512, 128] inb4).toLoadRect X4)
      (View.readAt (Elt Ideal) arg3.view (Rect.unit (s := S512x2048) o3 ![512, 256] inb3).toLoadRect X3)) (ix2 r x)
      = B.msc qi h r (512 * qi + x) := by
  rw [masked_apply, I.score_block h qi o5 o4 o3 hqi h5 h5' h4 h4' h3 h3', Blocks.msc]
  exact if_congr (by omega) rfl rfl

/-- A head's stored maximum is its part of the scratch after the step. -/
theorem max_piece (qi j : ℕ) (h : Fin 8) (hh : ℕ) (he : hh = h) (s : FVec Ideal S512x512 .f32) (mx : Vec Ideal S1x512x128 .f32)
    (inb : ∀ a, (![hh, 0, 0] : Fin 3 → ℕ) a + (![1, 512, 128] : Fin 3 → ℕ) a ≤ S8x512x128.size a)
    (hs : ∀ r x, s (ix2 r x) = B.msc qi h r (512 * j + x.val)) (hm : ∀ r l, mx (ix3 0 r l) = B.mxAt qi (512 * j) h r)
    (x : (Rect.unit (s := S8x512x128) ![hh, 0, 0] ![1, 512, 128] inb).shape.Idx) :
    maxRow s mx x = (fun y : S8x512x128.Idx => B.mxAt qi (512 * j + 512) (y 0) (y 1)) ((Rect.unit (s := S8x512x128) ![hh, 0, 0] ![1, 512, 128] inb).emb x) := by
  obtain ⟨a, r, l, rfl⟩ : ∃ (a : Fin 1) (r : Fin 512) (l : Fin 128), x = ix3 a r l := ⟨x 0, x 1, x 2, by funext a; fin_cases a <;> rfl⟩
  obtain rfl : a = 0 := Subsingleton.elim _ _
  subst he
  refine (maxRow_step B qi j h s mx hs hm r l).trans ?_
  have e : (Rect.unit (s := S8x512x128) ![h.val, 0, 0] ![1, 512, 128] inb).emb (ix3 0 r l) = ix3 h r l := by
    funext b; apply Fin.ext; rw [Rect.emb_apply]
    fin_cases b <;> simp [Rect.unit, ix3]
  rw [e]; rfl

/-- A head's stored sums are its part of the scratch after the step. -/
theorem acc_piece (hB : B.Below) (qi j : ℕ) (h : Fin 8) (hh : ℕ) (he : hh = h) (s : FVec Ideal S512x512 .f32) (mx : Vec Ideal S1x512x128 .f32)
    (v : Vec Ideal S512x128 .bf16) (acc : Vec Ideal S1x512x256 .f32)
    (inb : ∀ a, (![hh, 0, 0] : Fin 3 → ℕ) a + (![1, 512, 256] : Fin 3 → ℕ) a ≤ S8x512x256.size a)
    (hs : ∀ r x, s (ix2 r x) = B.msc qi h r (512 * j + x.val)) (hm : ∀ r l, mx (ix3 0 r l) = B.mxAt qi (512 * j) h r)
    (hv : ∀ x d, v (ix2 x d) = B.v (ix2 (keyRow (512 * j + x.val)) (⟨128 * h + d.val, by omega⟩ : Fin 1024)))
    (ha : ∀ r c, acc (ix3 0 r c) = B.acAt qi (512 * j) h r c)
    (x : (Rect.unit (s := S8x512x256) ![hh, 0, 0] ![1, 512, 256] inb).shape.Idx) :
    accRow s mx v acc x = (fun y : S8x512x256.Idx => B.acAt qi (512 * j + 512) (y 0) (y 1) (y 2)) ((Rect.unit (s := S8x512x256) ![hh, 0, 0] ![1, 512, 256] inb).emb x) := by
  obtain ⟨a, r, l, rfl⟩ : ∃ (a : Fin 1) (r : Fin 512) (l : Fin 256), x = ix3 a r l := ⟨x 0, x 1, x 2, by funext a; fin_cases a <;> rfl⟩
  obtain rfl : a = 0 := Subsingleton.elim _ _
  subst he
  refine (accRow_step B hB qi j h s mx v acc hs hm hv ha r l).trans ?_
  have e : (Rect.unit (s := S8x512x256) ![h.val, 0, 0] ![1, 512, 256] inb).emb (ix3 0 r l) = ix3 h r l := by
    funext b; apply Fin.ext; rw [Rect.emb_apply]
    fin_cases b <;> simp [Rect.unit, ix3]
  rw [e]; rfl

end Loads

end Cert.KernelIdeal.Attn

end
-- ==== Proof.Attn.Words.lean ====
/- THE WORDS OF THE LOOPS: how many trips each makes and at which rows of the keys a trip loads. -/
module

public import proofs.«01_k».proof.Proof.Gen.KernelIdeal.Skeleton

@[expose] public section

namespace Cert.KernelIdeal.Attn

open Cert.KernelIdeal Cert.KernelIdeal.Gen Idealize.ShloMosaic Idealize.ShloMosaic.TcCoe

/-- The first loop takes the blocks before the queries' own two by two; the third takes the one left over, if any; the second and
    the fourth, which the first and the third leave nothing to, make no trip. -/
theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = (i 2).val % 2 := by decide +kernel
theorem trips4 : ∀ i : grid0.Coords, (k0_t4_loop i).trips = 0 := by decide +kernel

/-! A trip of the first loop loads at blocks `2k` and `2k + 1`: the shared positional keys, then each head's keys and values. -/

theorem off1 : ∀ (i : grid0.Coords) (k : Fin (k0_t1_loop i).trips),
    (k0_off1 i k 0#32 0 = 512 * (2 * k.val) ∧ k0_off1 i k 0#32 1 = 0)
      ∧ (k0_off1 i k 1#32 0 = 512 * (2 * k.val + 1) ∧ k0_off1 i k 1#32 1 = 0) := by decide +kernel
theorem off1_0 : ∀ (i : grid0.Coords) (k : Fin (k0_t1_loop i).trips),
    (k0_off2 i k 0#32 0 = 512 * (2 * k.val) ∧ k0_off2 i k 0#32 1 = 0)
      ∧ (k0_off2 i k 1#32 0 = 512 * (2 * k.val + 1) ∧ k0_off2 i k 1#32 1 = 0) := by decide +kernel
theorem off1_1 : ∀ (i : grid0.Coords) (k : Fin (k0_t1_loop i).trips),
    (k0_off3 i k 0#32 0 = 512 * (2 * k.val) ∧ k0_off3 i k 0#32 1 = 128)
      ∧ (k0_off3 i k 1#32 0 = 512 * (2 * k.val + 1) ∧ k0_off3 i k 1#32 1 = 128) := by decide +kernel
theorem off1_2 : ∀ (i : grid0.Coords) (k : Fin (k0_t1_loop i).trips),
    (k0_off4 i k 0#32 0 = 512 * (2 * k.val) ∧ k0_off4 i k 0#32 1 = 256)
      ∧ (k0_off4 i k 1#32 0 = 512 * (2 * k.val + 1) ∧ k0_off4 i k 1#32 1 = 256) := by decide +kernel
theorem off1_3 : ∀ (i : grid0.Coords) (k : Fin (k0_t1_loop i).trips),
    (k0_off5 i k 0#32 0 = 512 * (2 * k.val) ∧ k0_off5 i k 0#32 1 = 384)
      ∧ (k0_off5 i k 1#32 0 = 512 * (2 * k.val + 1) ∧ k0_off5 i k 1#32 1 = 384) := by decide +kernel
theorem off1_4 : ∀ (i : grid0.Coords) (k : Fin (k0_t1_loop i).trips),
    (k0_off6 i k 0#32 0 = 512 * (2 * k.val) ∧ k0_off6 i k 0#32 1 = 512)
      ∧ (k0_off6 i k 1#32 0 = 512 * (2 * k.val + 1) ∧ k0_off6 i k 1#32 1 = 512) := by decide +kernel
theorem off1_5 : ∀ (i : grid0.Coords) (k : Fin (k0_t1_loop i).trips),
    (k0_off7 i k 0#32 0 = 512 * (2 * k.val) ∧ k0_off7 i k 0#32 1 = 640)
      ∧ (k0_off7 i k 1#32 0 = 512 * (2 * k.val + 1) ∧ k0_off7 i k 1#32 1 = 640) := by decide +kernel
theorem off1_6 : ∀ (i : grid0.Coords) (k : Fin (k0_t1_loop i).trips),
    (k0_off8 i k 0#32 0 = 512 * (2 * k.val) ∧ k0_off8 i k 0#32 1 = 768)
      ∧ (k0_off8 i k 1#32 0 = 512 * (2 * k.val + 1) ∧ k0_off8 i k 1#32 1 = 768) := by decide +kernel
theorem off1_7 : ∀ (i : grid0.Coords) (k : Fin (k0_t1_loop i).trips),
    (k0_off9 i k 0#32 0 = 512 * (2 * k.val) ∧ k0_off9 i k 0#32 1 = 896)
      ∧ (k0_off9 i k 1#32 0 = 512 * (2 * k.val + 1) ∧ k0_off9 i k 1#32 1 = 896) := by decide +kernel

/-! The trip of the third loop loads at the block before the queries' own. -/

theorem off3 : ∀ (i : grid0.Coords) (k : Fin (k0_t3_loop i).trips),
    k0_off19 i k 0 = 512 * (2 * ((i 2).val / 2)) ∧ k0_off19 i k 1 = 0 := by decide +kernel
theorem off3_0 : ∀ (i : grid0.Coords) (k : Fin (k0_t3_loop i).trips),
    k0_off20 i k 0 = 512 * (2 * ((i 2).val / 2)) ∧ k0_off20 i k 1 = 0 := by decide +kernel
theorem off3_1 : ∀ (i : grid0.Coords) (k : Fin (k0_t3_loop i).trips),
    k0_off21 i k 0 = 512 * (2 * ((i 2).val / 2)) ∧ k0_off21 i k 1 = 128 := by decide +kernel
theorem off3_2 : ∀ (i : grid0.Coords) (k : Fin (k0_t3_loop i).trips),
    k0_off22 i k 0 = 512 * (2 * ((i 2).val / 2)) ∧ k0_off22 i k 1 = 256 := by decide +kernel
theorem off3_3 : ∀ (i : grid0.Coords) (k : Fin (k0_t3_loop i).trips),
    k0_off23 i k 0 = 512 * (2 * ((i 2).val / 2)) ∧ k0_off23 i k 1 = 384 := by decide +kernel
theorem off3_4 : ∀ (i : grid0.Coords) (k : Fin (k0_t3_loop i).trips),
    k0_off24 i k 0 = 512 * (2 * ((i 2).val / 2)) ∧ k0_off24 i k 1 = 512 := by decide +kernel
theorem off3_5 : ∀ (i : grid0.Coords) (k : Fin (k0_t3_loop i).trips),
    k0_off25 i k 0 = 512 * (2 * ((i 2).val / 2)) ∧ k0_off25 i k 1 = 640 := by decide +kernel
theorem off3_6 : ∀ (i : grid0.Coords) (k : Fin (k0_t3_loop i).trips),
    k0_off26 i k 0 = 512 * (2 * ((i 2).val / 2)) ∧ k0_off26 i k 1 = 768 := by decide +kernel
theorem off3_7 : ∀ (i : grid0.Coords) (k : Fin (k0_t3_loop i).trips),
    k0_off27 i k 0 = 512 * (2 * ((i 2).val / 2)) ∧ k0_off27 i k 1 = 896 := by decide +kernel

/-! The last step loads at the queries' own block. -/

theorem offDiag : ∀ i : grid0.Coords, k0_off37 i 0 = 512 * (i 2).val ∧ k0_off37 i 1 = 0 := by decide +kernel
theorem offDiag_0 : ∀ i : grid0.Coords, k0_off38 i 0 = 512 * (i 2).val ∧ k0_off38 i 1 = 0 := by decide +kernel
theorem offDiag_1 : ∀ i : grid0.Coords, k0_off39 i 0 = 512 * (i 2).val ∧ k0_off39 i 1 = 128 := by decide +kernel
theorem offDiag_2 : ∀ i : grid0.Coords, k0_off40 i 0 = 512 * (i 2).val ∧ k0_off40 i 1 = 256 := by decide +kernel
theorem offDiag_3 : ∀ i : grid0.Coords, k0_off41 i 0 = 512 * (i 2).val ∧ k0_off41 i 1 = 384 := by decide +kernel
theorem offDiag_4 : ∀ i : grid0.Coords, k0_off42 i 0 = 512 * (i 2).val ∧ k0_off42 i 1 = 512 := by decide +kernel
theorem offDiag_5 : ∀ i : grid0.Coords, k0_off43 i 0 = 512 * (i 2).val ∧ k0_off43 i 1 = 640 := by decide +kernel
theorem offDiag_6 : ∀ i : grid0.Coords, k0_off44 i 0 = 512 * (i 2).val ∧ k0_off44 i 1 = 768 := by decide +kernel
theorem offDiag_7 : ∀ i : grid0.Coords, k0_off45 i 0 = 512 * (i 2).val ∧ k0_off45 i 1 = 896 := by decide +kernel

/-- The number of the block of queries is below 16. -/
theorem block_lt : ∀ i : grid0.Coords, (i 2).val < 16 := fun i => (i 2).isLt

end Cert.KernelIdeal.Attn
-- ==== Proof.Attn.Payloads.lean ====
/- THE STORED VALUES, head by head: what the kernel stores for a head in each of its loops, and after them, is that head's step.
   The kernel's text spells the eight heads out, each in operations of its own; every equation holds by unfolding. -/
module

public import proofs.«01_k».proof.Proof.Attn.Step

@[expose] public section

noncomputable section

namespace Cert.KernelIdeal.Attn

open Cert.KernelIdeal Cert.KernelIdeal.Gen Idealize.ShloMosaic Idealize.ShloMosaic.TcCoe

variable {F : FTy → Type} [FloatOps F] [Named F] (kr kn v : Vec F S512x128 .bf16) (q : Vec F S512x256 .bf16)
  (mx : Vec F S1x512x128 .f32) (acc : Vec F S1x512x256 .f32)

/-- The ones, and the two chunk columns, that are computed before the loops. -/
theorem ones_eq : (k0_pay268 : FVec F S512x128 .bf16) = ones := rfl

/-! The maxima of the first block of a pair -/

theorem firstMax7 : k0_pay47 (k0_pay45 (k0_pay4 kr) kn q mx) = maxRow (score kr kn q) mx := rfl
theorem firstMax6 : k0_pay42 (k0_pay40 (k0_pay4 kr) kn q mx) = maxRow (score kr kn q) mx := rfl
theorem firstMax5 : k0_pay37 (k0_pay35 (k0_pay4 kr) kn q mx) = maxRow (score kr kn q) mx := rfl
theorem firstMax4 : k0_pay32 (k0_pay30 (k0_pay4 kr) kn q mx) = maxRow (score kr kn q) mx := rfl
theorem firstMax3 : k0_pay27 (k0_pay25 (k0_pay4 kr) kn q mx) = maxRow (score kr kn q) mx := rfl
theorem firstMax2 : k0_pay22 (k0_pay19 (k0_pay4 kr) kn q mx) = maxRow (score kr kn q) mx := rfl
theorem firstMax1 : k0_pay16 (k0_pay13 (k0_pay4 kr) kn q mx) = maxRow (score kr kn q) mx := rfl
theorem firstMax0 : k0_pay10 (k0_pay7 kr kn q mx) = maxRow (score kr kn q) mx := rfl

/-! The maxima of the second block of a pair -/

theorem secondMax7 : k0_pay271 (k0_pay92 (k0_pay48 kr) kn q mx) = maxRow (score kr kn q) mx := rfl
theorem secondMax6 : k0_pay89 (k0_pay87 (k0_pay48 kr) kn q mx) = maxRow (score kr kn q) mx := rfl
theorem secondMax5 : k0_pay84 (k0_pay81 (k0_pay48 kr) kn q mx) = maxRow (score kr kn q) mx := rfl
theorem secondMax4 : k0_pay78 (k0_pay75 (k0_pay48 kr) kn q mx) = maxRow (score kr kn q) mx := rfl
theorem secondMax3 : k0_pay72 (k0_pay69 (k0_pay48 kr) kn q mx) = maxRow (score kr kn q) mx := rfl
theorem secondMax2 : k0_pay66 (k0_pay63 (k0_pay48 kr) kn q mx) = maxRow (score kr kn q) mx := rfl
theorem secondMax1 : k0_pay60 (k0_pay57 (k0_pay48 kr) kn q mx) = maxRow (score kr kn q) mx := rfl
theorem secondMax0 : k0_pay54 (k0_pay51 kr kn q mx) = maxRow (score kr kn q) mx := rfl

/-! The sums of the first block of a pair -/

theorem firstAcc7 : k0_pay46 ones (k0_pay4 kr) kn q mx v acc = accRow (score kr kn q) mx v acc := rfl
theorem firstAcc6 : k0_pay41 ones (k0_pay4 kr) kn q mx v acc = accRow (score kr kn q) mx v acc := rfl
theorem firstAcc5 : k0_pay36 ones (k0_pay4 kr) kn q mx v acc = accRow (score kr kn q) mx v acc := rfl
theorem firstAcc4 : k0_pay31 ones (k0_pay4 kr) kn q mx v acc = accRow (score kr kn q) mx v acc := rfl
theorem firstAcc3 : k0_pay26 ones (k0_pay4 kr) kn q mx v acc = accRow (score kr kn q) mx v acc := rfl
theorem firstAcc2 : k0_pay21 (k0_pay20 ones (k0_pay4 kr) kn q mx v acc) = accRow (score kr kn q) mx v acc := rfl
theorem firstAcc1 : k0_pay15 (k0_pay14 ones (k0_pay4 kr) kn q mx v acc) = accRow (score kr kn q) mx v acc := rfl
theorem firstAcc0 : k0_pay9 (k0_pay8 ones kr kn q mx v acc) = accRow (score kr kn q) mx v acc := rfl

/-! The sums of the second block of a pair -/

theorem secondAcc7 : k0_pay93 ones (k0_pay48 kr) kn q mx v acc = accRow (score kr kn q) mx v acc := rfl
theorem secondAcc6 : k0_pay88 ones (k0_pay48 kr) kn q mx v acc = accRow (score kr kn q) mx v acc := rfl
theorem secondAcc5 : k0_pay83 (k0_pay82 ones (k0_pay48 kr) kn q mx v acc) = accRow (score kr kn q) mx v acc := rfl
theorem secondAcc4 : k0_pay77 (k0_pay76 ones (k0_pay48 kr) kn q mx v acc) = accRow (score kr kn q) mx v acc := rfl
theorem secondAcc3 : k0_pay71 (k0_pay70 ones (k0_pay48 kr) kn q mx v acc) = accRow (score kr kn q) mx v acc := rfl
theorem secondAcc2 : k0_pay65 (k0_pay64 ones (k0_pay48 kr) kn q mx v acc) = accRow (score kr kn q) mx v acc := rfl
theorem secondAcc1 : k0_pay59 (k0_pay58 ones (k0_pay48 kr) kn q mx v acc) = accRow (score kr kn q) mx v acc := rfl
theorem secondAcc0 : k0_pay53 (k0_pay52 ones kr kn q mx v acc) = accRow (score kr kn q) mx v acc := rfl

/-! The maxima of the left-over block -/

theorem lastMax7 : k0_pay224 (k0_pay184 kr) kn q mx = maxRow (score kr kn q) mx := rfl
theorem lastMax6 : k0_pay219 (k0_pay184 kr) kn q mx = maxRow (score kr kn q) mx := rfl
theorem lastMax5 : k0_pay214 (k0_pay212 (k0_pay184 kr) kn q mx) = maxRow (score kr kn q) mx := rfl
theorem lastMax4 : k0_pay209 (k0_pay207 (k0_pay184 kr) kn q mx) = maxRow (score kr kn q) mx := rfl
theorem lastMax3 : k0_pay204 (k0_pay202 (k0_pay184 kr) kn q mx) = maxRow (score kr kn q) mx := rfl
theorem lastMax2 : k0_pay199 (k0_pay197 (k0_pay184 kr) kn q mx) = maxRow (score kr kn q) mx := rfl
theorem lastMax1 : k0_pay194 (k0_pay192 (k0_pay184 kr) kn q mx) = maxRow (score kr kn q) mx := rfl
theorem lastMax0 : k0_pay189 (k0_pay187 kr kn q mx) = maxRow (score kr kn q) mx := rfl

/-! The sums of the left-over block -/

theorem lastAcc7 : k0_pay223 ones (k0_pay184 kr) kn q mx v acc = accRow (score kr kn q) mx v acc := rfl
theorem lastAcc6 : k0_pay218 ones (k0_pay184 kr) kn q mx v acc = accRow (score kr kn q) mx v acc := rfl
theorem lastAcc5 : k0_pay213 ones (k0_pay184 kr) kn q mx v acc = accRow (score kr kn q) mx v acc := rfl
theorem lastAcc4 : k0_pay208 ones (k0_pay184 kr) kn q mx v acc = accRow (score kr kn q) mx v acc := rfl
theorem lastAcc3 : k0_pay203 ones (k0_pay184 kr) kn q mx v acc = accRow (score kr kn q) mx v acc := rfl
theorem lastAcc2 : k0_pay198 ones (k0_pay184 kr) kn q mx v acc = accRow (score kr kn q) mx v acc := rfl
theorem lastAcc1 : k0_pay193 ones (k0_pay184 kr) kn q mx v acc = accRow (score kr kn q) mx v acc := rfl
theorem lastAcc0 : k0_pay188 ones kr kn q mx v acc = accRow (score kr kn q) mx v acc := rfl

/-! What a head writes after its own block -/

theorem diag7 : k0_pay3 (k0_pay323 k0_pay268 k0_pay269 (k0_pay318 (k0_pay273 kr) kn q) (k0_pay319 k0_pay270) mx v acc) = outRow (accRow (masked (score kr kn q)) mx v acc) := rfl
theorem diag6 : k0_pay2 (k0_pay316 k0_pay268 (k0_pay313 k0_pay269 k0_pay270 (k0_pay273 kr) kn q) mx v acc) = outRow (accRow (masked (score kr kn q)) mx v acc) := rfl
theorem diag5 : k0_pay1 (k0_pay330 (k0_pay311 k0_pay268 (k0_pay307 k0_pay269 k0_pay270 (k0_pay273 kr) kn q) (k0_pay309 k0_pay269 k0_pay270 (k0_pay273 kr) kn q mx) (k0_pay310 k0_pay269 k0_pay270 (k0_pay273 kr) kn q mx) v acc)) = outRow (accRow (masked (score kr kn q)) mx v acc) := rfl
theorem diag4 : k0_pay329 (k0_pay305 k0_pay268 (k0_pay302 k0_pay269 k0_pay270 (k0_pay273 kr) kn q mx) (k0_pay303 k0_pay269 k0_pay270 (k0_pay273 kr) kn q mx) (k0_pay304 v) acc) = outRow (accRow (masked (score kr kn q)) mx v acc) := rfl
theorem diag3 : k0_pay328 (k0_pay297 (k0_pay295 k0_pay268 k0_pay269 k0_pay270 (k0_pay273 kr) kn q mx v) (k0_pay296 k0_pay269 k0_pay270 (k0_pay273 kr) kn q mx) acc) = outRow (accRow (masked (score kr kn q)) mx v acc) := rfl
theorem diag2 : k0_pay327 (k0_pay290 (k0_pay289 k0_pay268 k0_pay269 k0_pay270 (k0_pay273 kr) kn q mx v acc)) = outRow (accRow (masked (score kr kn q)) mx v acc) := rfl
theorem diag1 : k0_pay326 (k0_pay284 k0_pay268 k0_pay269 k0_pay270 (k0_pay280 (k0_pay273 kr) kn) q mx v acc) = outRow (accRow (masked (score kr kn q)) mx v acc) := rfl
theorem diag0 : k0_pay325 (k0_pay278 k0_pay268 k0_pay269 k0_pay270 (k0_pay274 kr kn q) mx v acc) = outRow (accRow (masked (score kr kn q)) mx v acc) := rfl

end Cert.KernelIdeal.Attn

end
-- ==== Proof.Attn.Trip1.lean ====
/- A TRIP OF THE MAIN LOOP: it takes two blocks of keys in, for all eight heads, the second over what the first stored. -/
module

public import proofs.«01_k».proof.Proof.Gen.KernelIdeal.Loops
public import proofs.«01_k».proof.Proof.Attn.State
public import proofs.«01_k».proof.Proof.Attn.Words
public import proofs.«01_k».proof.Proof.Attn.Payloads

@[expose] public section

set_option maxRecDepth 16384
set_option maxHeartbeats 400000

noncomputable section

namespace Cert.KernelIdeal.Attn

open Cert.KernelIdeal Cert.KernelIdeal.Gen Idealize.ShloMosaic Idealize.ShloMosaic.TcCoe Cert.Attn

variable {B : Blocks} (𝒱 : Variants) (c : Dev nD) (bd : Option 𝒱.V) (i : grid0.Coords)
  (arg3 : Memref sig .tc .vmem S512x2048 .bf16) (harg3 : arg3.IsWhole) (arg4 : Memref sig .tc .vmem S8192x1024 .bf16) (harg4 : arg4.IsWhole)
  (arg5 : Memref sig .tc .vmem S8192x128 .bf16) (harg5 : arg5.IsWhole) (arg6 : Memref sig .tc .vmem S8192x1024 .bf16) (harg6 : arg6.IsWhole)
  (arg7 : Memref sig .tc .vmem S512x1024 .bf16) (harg7 : arg7.IsWhole) (arg8 : Memref sig .tc .vmem S8x512x128 .f32) (harg8 : arg8.IsWhole)
  (arg9 : Memref sig .tc .vmem S8x512x256 .f32) (harg9 : arg9.IsWhole)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (f8 : BufTy.Contents (Elt Ideal) arg8.view.ty) (f9 : BufTy.Contents (Elt Ideal) arg9.view.ty)

/-- The maxima the trip stores last, head by head, are the maxima with both its blocks taken in. -/
theorem trip1_max (v0 c0 v33 : BitVec 32) (k : Fin (k0_t1_loop i).trips)
    (I : Inputs B arg3 arg4 arg5 arg6 X3 X4 X5 X6) (H : Holds B arg8 arg9 f8 f9 (i 2).val (512 * (2 * k.val))) :
    ∃ L L' : List (View.Piece (Elt Ideal) S8x512x128 .f32),
      (tripL_k0_t1 (F := Ideal) 𝒱 c bd i arg3 harg3 arg4 harg4 arg5 harg5 arg6 harg6 arg7 harg7 arg8 harg8 arg9 harg9 v0 ones c0 v33
        X3 X4 X5 X6 k f8 f9).1 = L ++ L'
      ∧ View.PiecesOf (fun y : S8x512x128.Idx => B.mxAt (i 2).val (512 * (2 * k.val + 1) + 512) (y 0) (y 1)) L
      ∧ ∀ y, ∃ p ∈ L, y ∈ p.1.set := by
  have h1 : 2 * k.val + 1 < (i 2).val := by
    have h1 : k.val < (i 2).val / 2 := k.isLt.trans_eq (trips1 i)
    omega
  have h0 : 2 * k.val < (i 2).val := by omega
  unfold tripL_k0_t1 trip_k0_t1
  dsimp only
  sl_unfold_run_names
  simp (disch := decide) only [↓ View.readCov_skip, ↓ View.readCov_cons_toLoadRect]
  simp only [firstMax0, firstMax1, firstMax2, firstMax3, firstMax4, firstMax5, firstMax6, firstMax7, secondMax0, secondMax1, secondMax2, secondMax3, secondMax4, secondMax5, secondMax6, secondMax7]
  refine ⟨[_, _, _, _, _, _, _, _], _, rfl, ⟨?_, ?_, ?_, ?_, ?_, ?_, ?_, ?_, trivial⟩, View.cover_of_tiledL _ ![1, 512, 128] rfl⟩
  · refine max_piece (i 2).val (2 * k.val + 1) 7 7 rfl _ _ inb_S8x512x128_S1x512x128_7_0_0 ?_ ?_
    · exact I.score_full (i 2).val 7 (2 * k.val + 1) _ _ _ h1 (block_lt i) (off1 i k).2.1 (off1 i k).2.2 (off1_7 i k).2.1 (off1_7 i k).2.2 rfl rfl _ _ _
    · exact maxRow_step B (i 2).val (2 * k.val) 7 _ _ (I.score_full (i 2).val 7 (2 * k.val) _ _ _ h0 (block_lt i) (off1 i k).1.1 (off1 i k).1.2 (off1_7 i k).1.1 (off1_7 i k).1.2 rfl rfl _ _ _) (H.ld_mx 7 7 rfl _)
  · refine max_piece (i 2).val (2 * k.val + 1) 6 6 rfl _ _ inb_S8x512x128_S1x512x128_6_0_0 ?_ ?_
    · exact I.score_full (i 2).val 6 (2 * k.val + 1) _ _ _ h1 (block_lt i) (off1 i k).2.1 (off1 i k).2.2 (off1_6 i k).2.1 (off1_6 i k).2.2 rfl rfl _ _ _
    · exact maxRow_step B (i 2).val (2 * k.val) 6 _ _ (I.score_full (i 2).val 6 (2 * k.val) _ _ _ h0 (block_lt i) (off1 i k).1.1 (off1 i k).1.2 (off1_6 i k).1.1 (off1_6 i k).1.2 rfl rfl _ _ _) (H.ld_mx 6 6 rfl _)
  · refine max_piece (i 2).val (2 * k.val + 1) 5 5 rfl _ _ inb_S8x512x128_S1x512x128_5_0_0 ?_ ?_
    · exact I.score_full (i 2).val 5 (2 * k.val + 1) _ _ _ h1 (block_lt i) (off1 i k).2.1 (off1 i k).2.2 (off1_5 i k).2.1 (off1_5 i k).2.2 rfl rfl _ _ _
    · exact maxRow_step B (i 2).val (2 * k.val) 5 _ _ (I.score_full (i 2).val 5 (2 * k.val) _ _ _ h0 (block_lt i) (off1 i k).1.1 (off1 i k).1.2 (off1_5 i k).1.1 (off1_5 i k).1.2 rfl rfl _ _ _) (H.ld_mx 5 5 rfl _)
  · refine max_piece (i 2).val (2 * k.val + 1) 4 4 rfl _ _ inb_S8x512x128_S1x512x128_4_0_0 ?_ ?_
    · exact I.score_full (i 2).val 4 (2 * k.val + 1) _ _ _ h1 (block_lt i) (off1 i k).2.1 (off1 i k).2.2 (off1_4 i k).2.1 (off1_4 i k).2.2 rfl rfl _ _ _
    · exact maxRow_step B (i 2).val (2 * k.val) 4 _ _ (I.score_full (i 2).val 4 (2 * k.val) _ _ _ h0 (block_lt i) (off1 i k).1.1 (off1 i k).1.2 (off1_4 i k).1.1 (off1_4 i k).1.2 rfl rfl _ _ _) (H.ld_mx 4 4 rfl _)
  · refine max_piece (i 2).val (2 * k.val + 1) 3 3 rfl _ _ inb_S8x512x128_S1x512x128_3_0_0 ?_ ?_
    · exact I.score_full (i 2).val 3 (2 * k.val + 1) _ _ _ h1 (block_lt i) (off1 i k).2.1 (off1 i k).2.2 (off1_3 i k).2.1 (off1_3 i k).2.2 rfl rfl _ _ _
    · exact maxRow_step B (i 2).val (2 * k.val) 3 _ _ (I.score_full (i 2).val 3 (2 * k.val) _ _ _ h0 (block_lt i) (off1 i k).1.1 (off1 i k).1.2 (off1_3 i k).1.1 (off1_3 i k).1.2 rfl rfl _ _ _) (H.ld_mx 3 3 rfl _)
  · refine max_piece (i 2).val (2 * k.val + 1) 2 2 rfl _ _ inb_S8x512x128_S1x512x128_2_0_0 ?_ ?_
    · exact I.score_full (i 2).val 2 (2 * k.val + 1) _ _ _ h1 (block_lt i) (off1 i k).2.1 (off1 i k).2.2 (off1_2 i k).2.1 (off1_2 i k).2.2 rfl rfl _ _ _
    · exact maxRow_step B (i 2).val (2 * k.val) 2 _ _ (I.score_full (i 2).val 2 (2 * k.val) _ _ _ h0 (block_lt i) (off1 i k).1.1 (off1 i k).1.2 (off1_2 i k).1.1 (off1_2 i k).1.2 rfl rfl _ _ _) (H.ld_mx 2 2 rfl _)
  · refine max_piece (i 2).val (2 * k.val + 1) 1 1 rfl _ _ inb_S8x512x128_S1x512x128_1_0_0 ?_ ?_
    · exact I.score_full (i 2).val 1 (2 * k.val + 1) _ _ _ h1 (block_lt i) (off1 i k).2.1 (off1 i k).2.2 (off1_1 i k).2.1 (off1_1 i k).2.2 rfl rfl _ _ _
    · exact maxRow_step B (i 2).val (2 * k.val) 1 _ _ (I.score_full (i 2).val 1 (2 * k.val) _ _ _ h0 (block_lt i) (off1 i k).1.1 (off1 i k).1.2 (off1_1 i k).1.1 (off1_1 i k).1.2 rfl rfl _ _ _) (H.ld_mx 1 1 rfl _)
  · refine max_piece (i 2).val (2 * k.val + 1) 0 0 rfl _ _ inb_S8x512x128_S1x512x128_0_0_0 ?_ ?_
    · exact I.score_full (i 2).val 0 (2 * k.val + 1) _ _ _ h1 (block_lt i) (off1 i k).2.1 (off1 i k).2.2 (off1_0 i k).2.1 (off1_0 i k).2.2 rfl rfl _ _ _
    · exact maxRow_step B (i 2).val (2 * k.val) 0 _ _ (I.score_full (i 2).val 0 (2 * k.val) _ _ _ h0 (block_lt i) (off1 i k).1.1 (off1 i k).1.2 (off1_0 i k).1.1 (off1_0 i k).1.2 rfl rfl _ _ _) (H.ld_mx 0 0 rfl _)

/-- The sums likewise. -/
theorem trip1_acc (v0 c0 v33 : BitVec 32) (k : Fin (k0_t1_loop i).trips) (hB : B.Below)
    (I : Inputs B arg3 arg4 arg5 arg6 X3 X4 X5 X6) (H : Holds B arg8 arg9 f8 f9 (i 2).val (512 * (2 * k.val))) :
    ∃ L L' : List (View.Piece (Elt Ideal) S8x512x256 .f32),
      (tripL_k0_t1 (F := Ideal) 𝒱 c bd i arg3 harg3 arg4 harg4 arg5 harg5 arg6 harg6 arg7 harg7 arg8 harg8 arg9 harg9 v0 ones c0 v33
        X3 X4 X5 X6 k f8 f9).2 = L ++ L'
      ∧ View.PiecesOf (fun y : S8x512x256.Idx => B.acAt (i 2).val (512 * (2 * k.val + 1) + 512) (y 0) (y 1) (y 2)) L
      ∧ ∀ y, ∃ p ∈ L, y ∈ p.1.set := by
  have h1 : 2 * k.val + 1 < (i 2).val := by
    have h1 : k.val < (i 2).val / 2 := k.isLt.trans_eq (trips1 i)
    omega
  have h0 : 2 * k.val < (i 2).val := by omega
  unfold tripL_k0_t1 trip_k0_t1
  dsimp only
  sl_unfold_run_names
  simp (disch := decide) only [↓ View.readCov_skip, ↓ View.readCov_cons_toLoadRect]
  simp only [firstMax0, firstMax1, firstMax2, firstMax3, firstMax4, firstMax5, firstMax6, firstMax7, firstAcc0, firstAcc1, firstAcc2, firstAcc3, firstAcc4, firstAcc5, firstAcc6, firstAcc7, secondAcc0, secondAcc1, secondAcc2, secondAcc3, secondAcc4, secondAcc5, secondAcc6, secondAcc7]
  refine ⟨[_, _, _, _, _, _, _, _], _, rfl, ⟨?_, ?_, ?_, ?_, ?_, ?_, ?_, ?_, trivial⟩, View.cover_of_tiledL _ ![1, 512, 256] rfl⟩
  · refine acc_piece hB (i 2).val (2 * k.val + 1) 7 7 rfl _ _ _ _ inb_S8x512x256_S1x512x256_7_0_0 ?_ ?_ ?_ ?_
    · exact I.score_full (i 2).val 7 (2 * k.val + 1) _ _ _ h1 (block_lt i) (off1 i k).2.1 (off1 i k).2.2 (off1_7 i k).2.1 (off1_7 i k).2.2 rfl rfl _ _ _
    · exact maxRow_step B (i 2).val (2 * k.val) 7 _ _ (I.score_full (i 2).val 7 (2 * k.val) _ _ _ h0 (block_lt i) (off1 i k).1.1 (off1 i k).1.2 (off1_7 i k).1.1 (off1_7 i k).1.2 rfl rfl _ _ _) (H.ld_mx 7 7 rfl _)
    · exact I.ld_v 7 (2 * k.val + 1) _ (h1.trans (block_lt i)) (off1_7 i k).2.1 (off1_7 i k).2.2 _
    · exact accRow_step B hB (i 2).val (2 * k.val) 7 _ _ _ _ (I.score_full (i 2).val 7 (2 * k.val) _ _ _ h0 (block_lt i) (off1 i k).1.1 (off1 i k).1.2 (off1_7 i k).1.1 (off1_7 i k).1.2 rfl rfl _ _ _)
        (H.ld_mx 7 7 rfl _) (I.ld_v 7 (2 * k.val) _ (h0.trans (block_lt i)) (off1_7 i k).1.1 (off1_7 i k).1.2 _) (H.ld_ac 7 7 rfl _)
  · refine acc_piece hB (i 2).val (2 * k.val + 1) 6 6 rfl _ _ _ _ inb_S8x512x256_S1x512x256_6_0_0 ?_ ?_ ?_ ?_
    · exact I.score_full (i 2).val 6 (2 * k.val + 1) _ _ _ h1 (block_lt i) (off1 i k).2.1 (off1 i k).2.2 (off1_6 i k).2.1 (off1_6 i k).2.2 rfl rfl _ _ _
    · exact maxRow_step B (i 2).val (2 * k.val) 6 _ _ (I.score_full (i 2).val 6 (2 * k.val) _ _ _ h0 (block_lt i) (off1 i k).1.1 (off1 i k).1.2 (off1_6 i k).1.1 (off1_6 i k).1.2 rfl rfl _ _ _) (H.ld_mx 6 6 rfl _)
    · exact I.ld_v 6 (2 * k.val + 1) _ (h1.trans (block_lt i)) (off1_6 i k).2.1 (off1_6 i k).2.2 _
    · exact accRow_step B hB (i 2).val (2 * k.val) 6 _ _ _ _ (I.score_full (i 2).val 6 (2 * k.val) _ _ _ h0 (block_lt i) (off1 i k).1.1 (off1 i k).1.2 (off1_6 i k).1.1 (off1_6 i k).1.2 rfl rfl _ _ _)
        (H.ld_mx 6 6 rfl _) (I.ld_v 6 (2 * k.val) _ (h0.trans (block_lt i)) (off1_6 i k).1.1 (off1_6 i k).1.2 _) (H.ld_ac 6 6 rfl _)
  · refine acc_piece hB (i 2).val (2 * k.val + 1) 5 5 rfl _ _ _ _ inb_S8x512x256_S1x512x256_5_0_0 ?_ ?_ ?_ ?_
    · exact I.score_full (i 2).val 5 (2 * k.val + 1) _ _ _ h1 (block_lt i) (off1 i k).2.1 (off1 i k).2.2 (off1_5 i k).2.1 (off1_5 i k).2.2 rfl rfl _ _ _
    · exact maxRow_step B (i 2).val (2 * k.val) 5 _ _ (I.score_full (i 2).val 5 (2 * k.val) _ _ _ h0 (block_lt i) (off1 i k).1.1 (off1 i k).1.2 (off1_5 i k).1.1 (off1_5 i k).1.2 rfl rfl _ _ _) (H.ld_mx 5 5 rfl _)
    · exact I.ld_v 5 (2 * k.val + 1) _ (h1.trans (block_lt i)) (off1_5 i k).2.1 (off1_5 i k).2.2 _
    · exact accRow_step B hB (i 2).val (2 * k.val) 5 _ _ _ _ (I.score_full (i 2).val 5 (2 * k.val) _ _ _ h0 (block_lt i) (off1 i k).1.1 (off1 i k).1.2 (off1_5 i k).1.1 (off1_5 i k).1.2 rfl rfl _ _ _)
        (H.ld_mx 5 5 rfl _) (I.ld_v 5 (2 * k.val) _ (h0.trans (block_lt i)) (off1_5 i k).1.1 (off1_5 i k).1.2 _) (H.ld_ac 5 5 rfl _)
  · refine acc_piece hB (i 2).val (2 * k.val + 1) 4 4 rfl _ _ _ _ inb_S8x512x256_S1x512x256_4_0_0 ?_ ?_ ?_ ?_
    · exact I.score_full (i 2).val 4 (2 * k.val + 1) _ _ _ h1 (block_lt i) (off1 i k).2.1 (off1 i k).2.2 (off1_4 i k).2.1 (off1_4 i k).2.2 rfl rfl _ _ _
    · exact maxRow_step B (i 2).val (2 * k.val) 4 _ _ (I.score_full (i 2).val 4 (2 * k.val) _ _ _ h0 (block_lt i) (off1 i k).1.1 (off1 i k).1.2 (off1_4 i k).1.1 (off1_4 i k).1.2 rfl rfl _ _ _) (H.ld_mx 4 4 rfl _)
    · exact I.ld_v 4 (2 * k.val + 1) _ (h1.trans (block_lt i)) (off1_4 i k).2.1 (off1_4 i k).2.2 _
    · exact accRow_step B hB (i 2).val (2 * k.val) 4 _ _ _ _ (I.score_full (i 2).val 4 (2 * k.val) _ _ _ h0 (block_lt i) (off1 i k).1.1 (off1 i k).1.2 (off1_4 i k).1.1 (off1_4 i k).1.2 rfl rfl _ _ _)
        (H.ld_mx 4 4 rfl _) (I.ld_v 4 (2 * k.val) _ (h0.trans (block_lt i)) (off1_4 i k).1.1 (off1_4 i k).1.2 _) (H.ld_ac 4 4 rfl _)
  · refine acc_piece hB (i 2).val (2 * k.val + 1) 3 3 rfl _ _ _ _ inb_S8x512x256_S1x512x256_3_0_0 ?_ ?_ ?_ ?_
    · exact I.score_full (i 2).val 3 (2 * k.val + 1) _ _ _ h1 (block_lt i) (off1 i k).2.1 (off1 i k).2.2 (off1_3 i k).2.1 (off1_3 i k).2.2 rfl rfl _ _ _
    · exact maxRow_step B (i 2).val (2 * k.val) 3 _ _ (I.score_full (i 2).val 3 (2 * k.val) _ _ _ h0 (block_lt i) (off1 i k).1.1 (off1 i k).1.2 (off1_3 i k).1.1 (off1_3 i k).1.2 rfl rfl _ _ _) (H.ld_mx 3 3 rfl _)
    · exact I.ld_v 3 (2 * k.val + 1) _ (h1.trans (block_lt i)) (off1_3 i k).2.1 (off1_3 i k).2.2 _
    · exact accRow_step B hB (i 2).val (2 * k.val) 3 _ _ _ _ (I.score_full (i 2).val 3 (2 * k.val) _ _ _ h0 (block_lt i) (off1 i k).1.1 (off1 i k).1.2 (off1_3 i k).1.1 (off1_3 i k).1.2 rfl rfl _ _ _)
        (H.ld_mx 3 3 rfl _) (I.ld_v 3 (2 * k.val) _ (h0.trans (block_lt i)) (off1_3 i k).1.1 (off1_3 i k).1.2 _) (H.ld_ac 3 3 rfl _)
  · refine acc_piece hB (i 2).val (2 * k.val + 1) 2 2 rfl _ _ _ _ inb_S8x512x256_S1x512x256_2_0_0 ?_ ?_ ?_ ?_
    · exact I.score_full (i 2).val 2 (2 * k.val + 1) _ _ _ h1 (block_lt i) (off1 i k).2.1 (off1 i k).2.2 (off1_2 i k).2.1 (off1_2 i k).2.2 rfl rfl _ _ _
    · exact maxRow_step B (i 2).val (2 * k.val) 2 _ _ (I.score_full (i 2).val 2 (2 * k.val) _ _ _ h0 (block_lt i) (off1 i k).1.1 (off1 i k).1.2 (off1_2 i k).1.1 (off1_2 i k).1.2 rfl rfl _ _ _) (H.ld_mx 2 2 rfl _)
    · exact I.ld_v 2 (2 * k.val + 1) _ (h1.trans (block_lt i)) (off1_2 i k).2.1 (off1_2 i k).2.2 _
    · exact accRow_step B hB (i 2).val (2 * k.val) 2 _ _ _ _ (I.score_full (i 2).val 2 (2 * k.val) _ _ _ h0 (block_lt i) (off1 i k).1.1 (off1 i k).1.2 (off1_2 i k).1.1 (off1_2 i k).1.2 rfl rfl _ _ _)
        (H.ld_mx 2 2 rfl _) (I.ld_v 2 (2 * k.val) _ (h0.trans (block_lt i)) (off1_2 i k).1.1 (off1_2 i k).1.2 _) (H.ld_ac 2 2 rfl _)
  · refine acc_piece hB (i 2).val (2 * k.val + 1) 1 1 rfl _ _ _ _ inb_S8x512x256_S1x512x256_1_0_0 ?_ ?_ ?_ ?_
    · exact I.score_full (i 2).val 1 (2 * k.val + 1) _ _ _ h1 (block_lt i) (off1 i k).2.1 (off1 i k).2.2 (off1_1 i k).2.1 (off1_1 i k).2.2 rfl rfl _ _ _
    · exact maxRow_step B (i 2).val (2 * k.val) 1 _ _ (I.score_full (i 2).val 1 (2 * k.val) _ _ _ h0 (block_lt i) (off1 i k).1.1 (off1 i k).1.2 (off1_1 i k).1.1 (off1_1 i k).1.2 rfl rfl _ _ _) (H.ld_mx 1 1 rfl _)
    · exact I.ld_v 1 (2 * k.val + 1) _ (h1.trans (block_lt i)) (off1_1 i k).2.1 (off1_1 i k).2.2 _
    · exact accRow_step B hB (i 2).val (2 * k.val) 1 _ _ _ _ (I.score_full (i 2).val 1 (2 * k.val) _ _ _ h0 (block_lt i) (off1 i k).1.1 (off1 i k).1.2 (off1_1 i k).1.1 (off1_1 i k).1.2 rfl rfl _ _ _)
        (H.ld_mx 1 1 rfl _) (I.ld_v 1 (2 * k.val) _ (h0.trans (block_lt i)) (off1_1 i k).1.1 (off1_1 i k).1.2 _) (H.ld_ac 1 1 rfl _)
  · refine acc_piece hB (i 2).val (2 * k.val + 1) 0 0 rfl _ _ _ _ inb_S8x512x256_S1x512x256_0_0_0 ?_ ?_ ?_ ?_
    · exact I.score_full (i 2).val 0 (2 * k.val + 1) _ _ _ h1 (block_lt i) (off1 i k).2.1 (off1 i k).2.2 (off1_0 i k).2.1 (off1_0 i k).2.2 rfl rfl _ _ _
    · exact maxRow_step B (i 2).val (2 * k.val) 0 _ _ (I.score_full (i 2).val 0 (2 * k.val) _ _ _ h0 (block_lt i) (off1 i k).1.1 (off1 i k).1.2 (off1_0 i k).1.1 (off1_0 i k).1.2 rfl rfl _ _ _) (H.ld_mx 0 0 rfl _)
    · exact I.ld_v 0 (2 * k.val + 1) _ (h1.trans (block_lt i)) (off1_0 i k).2.1 (off1_0 i k).2.2 _
    · exact accRow_step B hB (i 2).val (2 * k.val) 0 _ _ _ _ (I.score_full (i 2).val 0 (2 * k.val) _ _ _ h0 (block_lt i) (off1 i k).1.1 (off1 i k).1.2 (off1_0 i k).1.1 (off1_0 i k).1.2 rfl rfl _ _ _)
        (H.ld_mx 0 0 rfl _) (I.ld_v 0 (2 * k.val) _ (h0.trans (block_lt i)) (off1_0 i k).1.1 (off1_0 i k).1.2 _) (H.ld_ac 0 0 rfl _)

/-- The trip takes its two blocks in. -/
theorem trip1_holds (v0 c0 v33 : BitVec 32) (k : Fin (k0_t1_loop i).trips) (hB : B.Below)
    (I : Inputs B arg3 arg4 arg5 arg6 X3 X4 X5 X6) (H : Holds B arg8 arg9 f8 f9 (i 2).val (512 * (2 * k.val))) :
    Holds B arg8 arg9 (arg8.view.writes (Elt Ideal) f8 (tripL_k0_t1 (F := Ideal) 𝒱 c bd i arg3 harg3 arg4 harg4 arg5 harg5 arg6 harg6 arg7 harg7 arg8 harg8 arg9 harg9 v0 ones c0 v33
        X3 X4 X5 X6 k f8 f9).1)
      (arg9.view.writes (Elt Ideal) f9 (tripL_k0_t1 (F := Ideal) 𝒱 c bd i arg3 harg3 arg4 harg4 arg5 harg5 arg6 harg6 arg7 harg7 arg8 harg8 arg9 harg9 v0 ones c0 v33
        X3 X4 X5 X6 k f8 f9).2)
      (i 2).val (512 * (2 * k.val + 1) + 512) := by
  obtain ⟨L8, L8', e8, p8, c8⟩ := trip1_max 𝒱 c bd i arg3 harg3 arg4 harg4 arg5 harg5 arg6 harg6 arg7 harg7 arg8 harg8 arg9 harg9 X3 X4 X5 X6 f8 f9 v0 c0 v33 k I H
  obtain ⟨L9, L9', e9, p9, c9⟩ := trip1_acc 𝒱 c bd i arg3 harg3 arg4 harg4 arg5 harg5 arg6 harg6 arg7 harg7 arg8 harg8 arg9 harg9 X3 X4 X5 X6 f8 f9 v0 c0 v33 k hB I H
  have q8 := View.PiecesOf.mem p8
  have q9 := View.PiecesOf.mem p9
  rw [e8, e9, View.writes_append, View.writes_append]
  exact
    { h8 := fun h r l => View.read_writes_apply_of_pieces arg8.view _
        (fun y : S8x512x128.Idx => B.mxAt (i 2).val (512 * (2 * k.val + 1) + 512) (y 0) (y 1)) _ q8 (ix3 h r l) (c8 _)
      h9 := fun h r l => View.read_writes_apply_of_pieces arg9.view _
        (fun y : S8x512x256.Idx => B.acAt (i 2).val (512 * (2 * k.val + 1) + 512) (y 0) (y 1) (y 2)) _ q9 (ix3 h r l) (c9 _) }

end Cert.KernelIdeal.Attn

end
-- ==== Proof.Attn.Trip3.lean ====
/- THE LEFT-OVER TRIP: it takes one block of keys in, for all eight heads. -/
module

public import proofs.«01_k».proof.Proof.Gen.KernelIdeal.Loops
public import proofs.«01_k».proof.Proof.Attn.State
public import proofs.«01_k».proof.Proof.Attn.Words
public import proofs.«01_k».proof.Proof.Attn.Payloads

@[expose] public section

set_option maxRecDepth 16384
set_option maxHeartbeats 400000

noncomputable section

namespace Cert.KernelIdeal.Attn

open Cert.KernelIdeal Cert.KernelIdeal.Gen Idealize.ShloMosaic Idealize.ShloMosaic.TcCoe Cert.Attn

variable {B : Blocks} (𝒱 : Variants) (c : Dev nD) (bd : Option 𝒱.V) (i : grid0.Coords)
  (arg3 : Memref sig .tc .vmem S512x2048 .bf16) (harg3 : arg3.IsWhole) (arg4 : Memref sig .tc .vmem S8192x1024 .bf16) (harg4 : arg4.IsWhole)
  (arg5 : Memref sig .tc .vmem S8192x128 .bf16) (harg5 : arg5.IsWhole) (arg6 : Memref sig .tc .vmem S8192x1024 .bf16) (harg6 : arg6.IsWhole)
  (arg7 : Memref sig .tc .vmem S512x1024 .bf16) (harg7 : arg7.IsWhole) (arg8 : Memref sig .tc .vmem S8x512x128 .f32) (harg8 : arg8.IsWhole)
  (arg9 : Memref sig .tc .vmem S8x512x256 .f32) (harg9 : arg9.IsWhole)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (f8 : BufTy.Contents (Elt Ideal) arg8.view.ty) (f9 : BufTy.Contents (Elt Ideal) arg9.view.ty)

/-- The maxima the trip stores, head by head, are the maxima with its block taken in. -/
theorem trip3_max (v0 c0 v33 v48 : BitVec 32) (k : Fin (k0_t3_loop i).trips)
    (I : Inputs B arg3 arg4 arg5 arg6 X3 X4 X5 X6) (H : Holds B arg8 arg9 f8 f9 (i 2).val (512 * (2 * ((i 2).val / 2)))) :
    View.PiecesOf (fun y : S8x512x128.Idx => B.mxAt (i 2).val (512 * (2 * ((i 2).val / 2)) + 512) (y 0) (y 1))
      (tripL_k0_t3 (F := Ideal) 𝒱 c bd i arg3 harg3 arg4 harg4 arg5 harg5 arg6 harg6 arg7 harg7 arg8 harg8 arg9 harg9 v0 ones c0 v33 v48
        X3 X4 X5 X6 k f8 f9).1 := by
  have hk : 2 * ((i 2).val / 2) < (i 2).val := by
    have h1 : k.val < (i 2).val % 2 := k.isLt.trans_eq (trips3 i)
    omega
  have ho := off3 i k
  unfold tripL_k0_t3 trip_k0_t3
  dsimp only
  sl_unfold_run_names
  simp only [lastMax0, lastMax1, lastMax2, lastMax3, lastMax4, lastMax5, lastMax6, lastMax7]
  refine ⟨?_, ?_, ?_, ?_, ?_, ?_, ?_, ?_, trivial⟩
  · refine max_piece (i 2).val (2 * ((i 2).val / 2)) 7 7 rfl _ _ inb_S8x512x128_S1x512x128_7_0_0 ?_ ?_
    · exact I.score_full (i 2).val 7 (2 * ((i 2).val / 2)) _ _ _ hk (block_lt i) ho.1 ho.2 (off3_7 i k).1 (off3_7 i k).2 rfl rfl _ _ _
    · exact H.ld_mx 7 7 rfl _
  · refine max_piece (i 2).val (2 * ((i 2).val / 2)) 6 6 rfl _ _ inb_S8x512x128_S1x512x128_6_0_0 ?_ ?_
    · exact I.score_full (i 2).val 6 (2 * ((i 2).val / 2)) _ _ _ hk (block_lt i) ho.1 ho.2 (off3_6 i k).1 (off3_6 i k).2 rfl rfl _ _ _
    · exact H.ld_mx 6 6 rfl _
  · refine max_piece (i 2).val (2 * ((i 2).val / 2)) 5 5 rfl _ _ inb_S8x512x128_S1x512x128_5_0_0 ?_ ?_
    · exact I.score_full (i 2).val 5 (2 * ((i 2).val / 2)) _ _ _ hk (block_lt i) ho.1 ho.2 (off3_5 i k).1 (off3_5 i k).2 rfl rfl _ _ _
    · exact H.ld_mx 5 5 rfl _
  · refine max_piece (i 2).val (2 * ((i 2).val / 2)) 4 4 rfl _ _ inb_S8x512x128_S1x512x128_4_0_0 ?_ ?_
    · exact I.score_full (i 2).val 4 (2 * ((i 2).val / 2)) _ _ _ hk (block_lt i) ho.1 ho.2 (off3_4 i k).1 (off3_4 i k).2 rfl rfl _ _ _
    · exact H.ld_mx 4 4 rfl _
  · refine max_piece (i 2).val (2 * ((i 2).val / 2)) 3 3 rfl _ _ inb_S8x512x128_S1x512x128_3_0_0 ?_ ?_
    · exact I.score_full (i 2).val 3 (2 * ((i 2).val / 2)) _ _ _ hk (block_lt i) ho.1 ho.2 (off3_3 i k).1 (off3_3 i k).2 rfl rfl _ _ _
    · exact H.ld_mx 3 3 rfl _
  · refine max_piece (i 2).val (2 * ((i 2).val / 2)) 2 2 rfl _ _ inb_S8x512x128_S1x512x128_2_0_0 ?_ ?_
    · exact I.score_full (i 2).val 2 (2 * ((i 2).val / 2)) _ _ _ hk (block_lt i) ho.1 ho.2 (off3_2 i k).1 (off3_2 i k).2 rfl rfl _ _ _
    · exact H.ld_mx 2 2 rfl _
  · refine max_piece (i 2).val (2 * ((i 2).val / 2)) 1 1 rfl _ _ inb_S8x512x128_S1x512x128_1_0_0 ?_ ?_
    · exact I.score_full (i 2).val 1 (2 * ((i 2).val / 2)) _ _ _ hk (block_lt i) ho.1 ho.2 (off3_1 i k).1 (off3_1 i k).2 rfl rfl _ _ _
    · exact H.ld_mx 1 1 rfl _
  · refine max_piece (i 2).val (2 * ((i 2).val / 2)) 0 0 rfl _ _ inb_S8x512x128_S1x512x128_0_0_0 ?_ ?_
    · exact I.score_full (i 2).val 0 (2 * ((i 2).val / 2)) _ _ _ hk (block_lt i) ho.1 ho.2 (off3_0 i k).1 (off3_0 i k).2 rfl rfl _ _ _
    · exact H.ld_mx 0 0 rfl _

/-- The sums likewise. -/
theorem trip3_acc (v0 c0 v33 v48 : BitVec 32) (k : Fin (k0_t3_loop i).trips) (hB : B.Below)
    (I : Inputs B arg3 arg4 arg5 arg6 X3 X4 X5 X6) (H : Holds B arg8 arg9 f8 f9 (i 2).val (512 * (2 * ((i 2).val / 2)))) :
    View.PiecesOf (fun y : S8x512x256.Idx => B.acAt (i 2).val (512 * (2 * ((i 2).val / 2)) + 512) (y 0) (y 1) (y 2))
      (tripL_k0_t3 (F := Ideal) 𝒱 c bd i arg3 harg3 arg4 harg4 arg5 harg5 arg6 harg6 arg7 harg7 arg8 harg8 arg9 harg9 v0 ones c0 v33 v48
        X3 X4 X5 X6 k f8 f9).2 := by
  have hk : 2 * ((i 2).val / 2) < (i 2).val := by
    have h1 : k.val < (i 2).val % 2 := k.isLt.trans_eq (trips3 i)
    omega
  have ho := off3 i k
  unfold tripL_k0_t3 trip_k0_t3
  dsimp only
  sl_unfold_run_names
  simp only [lastAcc0, lastAcc1, lastAcc2, lastAcc3, lastAcc4, lastAcc5, lastAcc6, lastAcc7]
  refine ⟨?_, ?_, ?_, ?_, ?_, ?_, ?_, ?_, trivial⟩
  · refine acc_piece hB (i 2).val (2 * ((i 2).val / 2)) 7 7 rfl _ _ _ _ inb_S8x512x256_S1x512x256_7_0_0 ?_ ?_ ?_ ?_
    · exact I.score_full (i 2).val 7 (2 * ((i 2).val / 2)) _ _ _ hk (block_lt i) ho.1 ho.2 (off3_7 i k).1 (off3_7 i k).2 rfl rfl _ _ _
    · exact H.ld_mx 7 7 rfl _
    · exact I.ld_v 7 (2 * ((i 2).val / 2)) _ (hk.trans (block_lt i)) (off3_7 i k).1 (off3_7 i k).2 _
    · exact H.ld_ac 7 7 rfl _
  · refine acc_piece hB (i 2).val (2 * ((i 2).val / 2)) 6 6 rfl _ _ _ _ inb_S8x512x256_S1x512x256_6_0_0 ?_ ?_ ?_ ?_
    · exact I.score_full (i 2).val 6 (2 * ((i 2).val / 2)) _ _ _ hk (block_lt i) ho.1 ho.2 (off3_6 i k).1 (off3_6 i k).2 rfl rfl _ _ _
    · exact H.ld_mx 6 6 rfl _
    · exact I.ld_v 6 (2 * ((i 2).val / 2)) _ (hk.trans (block_lt i)) (off3_6 i k).1 (off3_6 i k).2 _
    · exact H.ld_ac 6 6 rfl _
  · refine acc_piece hB (i 2).val (2 * ((i 2).val / 2)) 5 5 rfl _ _ _ _ inb_S8x512x256_S1x512x256_5_0_0 ?_ ?_ ?_ ?_
    · exact I.score_full (i 2).val 5 (2 * ((i 2).val / 2)) _ _ _ hk (block_lt i) ho.1 ho.2 (off3_5 i k).1 (off3_5 i k).2 rfl rfl _ _ _
    · exact H.ld_mx 5 5 rfl _
    · exact I.ld_v 5 (2 * ((i 2).val / 2)) _ (hk.trans (block_lt i)) (off3_5 i k).1 (off3_5 i k).2 _
    · exact H.ld_ac 5 5 rfl _
  · refine acc_piece hB (i 2).val (2 * ((i 2).val / 2)) 4 4 rfl _ _ _ _ inb_S8x512x256_S1x512x256_4_0_0 ?_ ?_ ?_ ?_
    · exact I.score_full (i 2).val 4 (2 * ((i 2).val / 2)) _ _ _ hk (block_lt i) ho.1 ho.2 (off3_4 i k).1 (off3_4 i k).2 rfl rfl _ _ _
    · exact H.ld_mx 4 4 rfl _
    · exact I.ld_v 4 (2 * ((i 2).val / 2)) _ (hk.trans (block_lt i)) (off3_4 i k).1 (off3_4 i k).2 _
    · exact H.ld_ac 4 4 rfl _
  · refine acc_piece hB (i 2).val (2 * ((i 2).val / 2)) 3 3 rfl _ _ _ _ inb_S8x512x256_S1x512x256_3_0_0 ?_ ?_ ?_ ?_
    · exact I.score_full (i 2).val 3 (2 * ((i 2).val / 2)) _ _ _ hk (block_lt i) ho.1 ho.2 (off3_3 i k).1 (off3_3 i k).2 rfl rfl _ _ _
    · exact H.ld_mx 3 3 rfl _
    · exact I.ld_v 3 (2 * ((i 2).val / 2)) _ (hk.trans (block_lt i)) (off3_3 i k).1 (off3_3 i k).2 _
    · exact H.ld_ac 3 3 rfl _
  · refine acc_piece hB (i 2).val (2 * ((i 2).val / 2)) 2 2 rfl _ _ _ _ inb_S8x512x256_S1x512x256_2_0_0 ?_ ?_ ?_ ?_
    · exact I.score_full (i 2).val 2 (2 * ((i 2).val / 2)) _ _ _ hk (block_lt i) ho.1 ho.2 (off3_2 i k).1 (off3_2 i k).2 rfl rfl _ _ _
    · exact H.ld_mx 2 2 rfl _
    · exact I.ld_v 2 (2 * ((i 2).val / 2)) _ (hk.trans (block_lt i)) (off3_2 i k).1 (off3_2 i k).2 _
    · exact H.ld_ac 2 2 rfl _
  · refine acc_piece hB (i 2).val (2 * ((i 2).val / 2)) 1 1 rfl _ _ _ _ inb_S8x512x256_S1x512x256_1_0_0 ?_ ?_ ?_ ?_
    · exact I.score_full (i 2).val 1 (2 * ((i 2).val / 2)) _ _ _ hk (block_lt i) ho.1 ho.2 (off3_1 i k).1 (off3_1 i k).2 rfl rfl _ _ _
    · exact H.ld_mx 1 1 rfl _
    · exact I.ld_v 1 (2 * ((i 2).val / 2)) _ (hk.trans (block_lt i)) (off3_1 i k).1 (off3_1 i k).2 _
    · exact H.ld_ac 1 1 rfl _
  · refine acc_piece hB (i 2).val (2 * ((i 2).val / 2)) 0 0 rfl _ _ _ _ inb_S8x512x256_S1x512x256_0_0_0 ?_ ?_ ?_ ?_
    · exact I.score_full (i 2).val 0 (2 * ((i 2).val / 2)) _ _ _ hk (block_lt i) ho.1 ho.2 (off3_0 i k).1 (off3_0 i k).2 rfl rfl _ _ _
    · exact H.ld_mx 0 0 rfl _
    · exact I.ld_v 0 (2 * ((i 2).val / 2)) _ (hk.trans (block_lt i)) (off3_0 i k).1 (off3_0 i k).2 _
    · exact H.ld_ac 0 0 rfl _

/-- The eight stores fill the scratch. -/
theorem trip3_cover8 (v0 c0 v33 v48 : BitVec 32) (k : Fin (k0_t3_loop i).trips) (y : S8x512x128.Idx) :
    ∃ p ∈ (tripL_k0_t3 (F := Ideal) 𝒱 c bd i arg3 harg3 arg4 harg4 arg5 harg5 arg6 harg6 arg7 harg7 arg8 harg8 arg9 harg9 v0 ones c0 v33 v48
        X3 X4 X5 X6 k f8 f9).1, y ∈ p.1.set :=
  View.cover_of_tiledL _ ![1, 512, 128] (by unfold tripL_k0_t3 trip_k0_t3; rfl) y
theorem trip3_cover9 (v0 c0 v33 v48 : BitVec 32) (k : Fin (k0_t3_loop i).trips) (y : S8x512x256.Idx) :
    ∃ p ∈ (tripL_k0_t3 (F := Ideal) 𝒱 c bd i arg3 harg3 arg4 harg4 arg5 harg5 arg6 harg6 arg7 harg7 arg8 harg8 arg9 harg9 v0 ones c0 v33 v48
        X3 X4 X5 X6 k f8 f9).2, y ∈ p.1.set :=
  View.cover_of_tiledL _ ![1, 512, 256] (by unfold tripL_k0_t3 trip_k0_t3; rfl) y

/-- The trip takes its block in. -/
theorem trip3_holds (v0 c0 v33 v48 : BitVec 32) (k : Fin (k0_t3_loop i).trips) (hB : B.Below)
    (I : Inputs B arg3 arg4 arg5 arg6 X3 X4 X5 X6) (H : Holds B arg8 arg9 f8 f9 (i 2).val (512 * (2 * ((i 2).val / 2)))) :
    Holds B arg8 arg9 (arg8.view.writes (Elt Ideal) f8 (tripL_k0_t3 (F := Ideal) 𝒱 c bd i arg3 harg3 arg4 harg4 arg5 harg5 arg6 harg6 arg7 harg7 arg8 harg8 arg9 harg9 v0 ones c0 v33 v48
        X3 X4 X5 X6 k f8 f9).1)
      (arg9.view.writes (Elt Ideal) f9 (tripL_k0_t3 (F := Ideal) 𝒱 c bd i arg3 harg3 arg4 harg4 arg5 harg5 arg6 harg6 arg7 harg7 arg8 harg8 arg9 harg9 v0 ones c0 v33 v48
        X3 X4 X5 X6 k f8 f9).2)
      (i 2).val (512 * (2 * ((i 2).val / 2)) + 512) where
  h8 h r l := View.read_writes_apply_of_pieces arg8.view f8
    (fun y : S8x512x128.Idx => B.mxAt (i 2).val (512 * (2 * ((i 2).val / 2)) + 512) (y 0) (y 1)) _
    (View.PiecesOf.mem (trip3_max 𝒱 c bd i arg3 harg3 arg4 harg4 arg5 harg5 arg6 harg6 arg7 harg7 arg8 harg8 arg9 harg9 X3 X4 X5 X6 f8 f9
      v0 c0 v33 v48 k I H)) (ix3 h r l)
    (trip3_cover8 𝒱 c bd i arg3 harg3 arg4 harg4 arg5 harg5 arg6 harg6 arg7 harg7 arg8 harg8 arg9 harg9 X3 X4 X5 X6 f8 f9 v0 c0 v33 v48 k _)
  h9 h r l := View.read_writes_apply_of_pieces arg9.view f9
    (fun y : S8x512x256.Idx => B.acAt (i 2).val (512 * (2 * ((i 2).val / 2)) + 512) (y 0) (y 1) (y 2)) _
    (View.PiecesOf.mem (trip3_acc 𝒱 c bd i arg3 harg3 arg4 harg4 arg5 harg5 arg6 harg6 arg7 harg7 arg8 harg8 arg9 harg9 X3 X4 X5 X6 f8 f9
      v0 c0 v33 v48 k hB I H)) (ix3 h r l)
    (trip3_cover9 𝒱 c bd i arg3 harg3 arg4 harg4 arg5 harg5 arg6 harg6 arg7 harg7 arg8 harg8 arg9 harg9 X3 X4 X5 X6 f8 f9 v0 c0 v33 v48 k _)

end Cert.KernelIdeal.Attn

end
-- ==== Proof.Attn.Loops.lean ====
/- THE LOOPS, trip after trip: before the last step the scratch holds the maximum and the sums of all blocks before the queries' own. -/
module

public import proofs.«01_k».proof.Proof.Attn.Trip1
public import proofs.«01_k».proof.Proof.Attn.Trip3

@[expose] public section

set_option maxRecDepth 16384

noncomputable section

namespace Cert.KernelIdeal.Attn

open Cert.KernelIdeal Cert.KernelIdeal.Gen Idealize.ShloMosaic Idealize.ShloMosaic.TcCoe Cert.Attn

variable {B : Blocks} (𝒱 : Variants) (c : Dev nD) (bd : Option 𝒱.V) (i : grid0.Coords)
  (arg3 : Memref sig .tc .vmem S512x2048 .bf16) (harg3 : arg3.IsWhole) (arg4 : Memref sig .tc .vmem S8192x1024 .bf16) (harg4 : arg4.IsWhole)
  (arg5 : Memref sig .tc .vmem S8192x128 .bf16) (harg5 : arg5.IsWhole) (arg6 : Memref sig .tc .vmem S8192x1024 .bf16) (harg6 : arg6.IsWhole)
  (arg7 : Memref sig .tc .vmem S512x1024 .bf16) (harg7 : arg7.IsWhole) (arg8 : Memref sig .tc .vmem S8x512x128 .f32) (harg8 : arg8.IsWhole)
  (arg9 : Memref sig .tc .vmem S8x512x256 .f32) (harg9 : arg9.IsWhole)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (f8 : BufTy.Contents (Elt Ideal) arg8.view.ty) (f9 : BufTy.Contents (Elt Ideal) arg9.view.ty)

/-- After `n` trips of the main loop `2n` blocks are taken in. -/
theorem loop1_holds (v0 c0 v33 : BitVec 32) (hB : B.Below) (I : Inputs B arg3 arg4 arg5 arg6 X3 X4 X5 X6)
    (H : Holds B arg8 arg9 f8 f9 (i 2).val 0) : ∀ n ≤ (k0_t1_loop i).trips,
    Holds B arg8 arg9 (arg8.view.writes (Elt Ideal) f8 (pb_k0_t1 (F := Ideal) 𝒱 c bd i arg3 harg3 arg4 harg4 arg5 harg5 arg6 harg6 arg7 harg7 arg8 harg8 arg9 harg9 v0 ones c0 v33
          X3 X4 X5 X6 f8 f9 n).1)
      (arg9.view.writes (Elt Ideal) f9 (pb_k0_t1 (F := Ideal) 𝒱 c bd i arg3 harg3 arg4 harg4 arg5 harg5 arg6 harg6 arg7 harg7 arg8 harg8 arg9 harg9 v0 ones c0 v33
          X3 X4 X5 X6 f8 f9 n).2) (i 2).val (512 * (2 * n))
  | 0, _ => H
  | n + 1, hn => by
      have IH := loop1_holds v0 c0 v33 hB I H n (by omega)
      have e := pb_k0_t1_succ (F := Ideal) 𝒱 c bd i arg3 harg3 arg4 harg4 arg5 harg5 arg6 harg6 arg7 harg7 arg8 harg8 arg9 harg9 v0 ones c0 v33
        X3 X4 X5 X6 f8 f9 ⟨n, hn⟩
      dsimp only at e
      rw [e, View.writes_append, View.writes_append]
      have h := trip1_holds 𝒱 c bd i arg3 harg3 arg4 harg4 arg5 harg5 arg6 harg6 arg7 harg7 arg8 harg8 arg9 harg9 X3 X4 X5 X6 _ _ v0 c0 v33 ⟨n, hn⟩ hB I IH
      have e : 512 * (2 * n + 1) + 512 = 512 * (2 * (n + 1)) := by omega
      rw [← e]
      exact h

/-- After the third loop all blocks before the queries' own are. -/
theorem loop3_holds (v0 c0 v33 v48 : BitVec 32) (hB : B.Below) (I : Inputs B arg3 arg4 arg5 arg6 X3 X4 X5 X6)
    (H : Holds B arg8 arg9 f8 f9 (i 2).val (512 * (2 * ((i 2).val / 2)))) :
    Holds B arg8 arg9 (arg8.view.writes (Elt Ideal) f8 (pb_k0_t3 (F := Ideal) 𝒱 c bd i arg3 harg3 arg4 harg4 arg5 harg5 arg6 harg6 arg7 harg7 arg8 harg8 arg9 harg9 v0 ones c0 v33 v48
          X3 X4 X5 X6 f8 f9 (k0_t3_loop i).trips).1)
      (arg9.view.writes (Elt Ideal) f9 (pb_k0_t3 (F := Ideal) 𝒱 c bd i arg3 harg3 arg4 harg4 arg5 harg5 arg6 harg6 arg7 harg7 arg8 harg8 arg9 harg9 v0 ones c0 v33 v48
          X3 X4 X5 X6 f8 f9 (k0_t3_loop i).trips).2) (i 2).val (512 * (i 2).val) := by
  have ht := trips3 i
  rcases Nat.mod_two_eq_zero_or_one (i 2).val with h0 | h0
  · rw [h0] at ht
    rw [ht]
    have e : 512 * (i 2).val = 512 * (2 * ((i 2).val / 2)) := by omega
    rw [e]
    exact H
  · rw [h0] at ht
    have e := pb_k0_t3_succ (F := Ideal) 𝒱 c bd i arg3 harg3 arg4 harg4 arg5 harg5 arg6 harg6 arg7 harg7 arg8 harg8 arg9 harg9 v0 ones c0 v33 v48
      X3 X4 X5 X6 f8 f9 ⟨0, by omega⟩
    dsimp only at e
    rw [ht, e, View.writes_append, View.writes_append]
    have h := trip3_holds 𝒱 c bd i arg3 harg3 arg4 harg4 arg5 harg5 arg6 harg6 arg7 harg7 arg8 harg8 arg9 harg9 X3 X4 X5 X6 _ _ v0 c0 v33 v48 ⟨0, by omega⟩ hB I H
    have e : 512 * (2 * ((i 2).val / 2)) + 512 = 512 * (i 2).val := by omega
    rw [← e]
    exact h

/-- At the start nothing is taken in: −∞ and zero. -/
theorem start_holds (qi : ℕ) (j8 : BufTy.Contents (Elt Ideal) arg8.view.ty) (j9 : BufTy.Contents (Elt Ideal) arg9.view.ty) :
    Holds B arg8 arg9
      (arg8.view.writes (Elt Ideal) j8 [⟨Rect.unit ![0, 0, 0] ![8, 512, 128] inb_S8x512x128_S8x512x128_0_0_0, k0_pay266 (F := Ideal)⟩])
      (arg9.view.writes (Elt Ideal) j9 [⟨Rect.unit ![0, 0, 0] ![8, 512, 256] inb_S8x512x256_S8x512x256_0_0_0, k0_pay267 (F := Ideal)⟩]) qi 0 where
  h8 h r l := View.read_writes_apply_of_pieces arg8.view j8 (fun _ => (⊥ : EReal)) _
    (by intro p hp x; rw [List.mem_singleton] at hp; subst hp; exact negInf) _ (View.cover_of_tiledL _ ![8, 512, 128] rfl _)
  h9 h r l := View.read_writes_apply_of_pieces arg9.view j9 (fun _ => (0 : EReal)) _
    (by intro p hp x; rw [List.mem_singleton] at hp; subst hp; simp [k0_pay267, Ideal.ofBits, Ideal.ieee]; rfl) _
    (View.cover_of_tiledL _ ![8, 512, 256] rfl _)

/-- The scratch before the last step: the fills, then the four loops' stores, each loop's over those before it. -/
theorem before_holds (v1 c1 w1 v2 c2 w2 u2 v3 c3 w3 u3 v4 c4 w4 u4 : BitVec 32) (hB : B.Below) (I : Inputs B arg3 arg4 arg5 arg6 X3 X4 X5 X6)
    (j8 : BufTy.Contents (Elt Ideal) arg8.view.ty) (j9 : BufTy.Contents (Elt Ideal) arg9.view.ty) (n1 n2 n3 n4 : ℕ)
    (h1 : n1 = (k0_t1_loop i).trips) (h2 : n2 = (k0_t2_loop i).trips) (h3 : n3 = (k0_t3_loop i).trips) (h4 : n4 = (k0_t4_loop i).trips)
    (L8a L8b L8c L8d L8e : List (View.Piece (Elt Ideal) S8x512x128 .f32)) (L9a L9b L9c L9d L9e : List (View.Piece (Elt Ideal) S8x512x256 .f32))
    (ea8 : L8a = [⟨Rect.unit ![0, 0, 0] ![8, 512, 128] inb_S8x512x128_S8x512x128_0_0_0, k0_pay266 (F := Ideal)⟩])
    (ea9 : L9a = [⟨Rect.unit ![0, 0, 0] ![8, 512, 256] inb_S8x512x256_S8x512x256_0_0_0, k0_pay267 (F := Ideal)⟩])
    (eb8 : L8b = (pb_k0_t1 (F := Ideal) 𝒱 c bd i arg3 harg3 arg4 harg4 arg5 harg5 arg6 harg6 arg7 harg7 arg8 harg8 arg9 harg9 v1 ones c1 w1 X3 X4 X5 X6 (arg8.view.writes (Elt Ideal) j8 L8a) (arg9.view.writes (Elt Ideal) j9 L9a) n1).1 ++ L8a)
    (eb9 : L9b = (pb_k0_t1 (F := Ideal) 𝒱 c bd i arg3 harg3 arg4 harg4 arg5 harg5 arg6 harg6 arg7 harg7 arg8 harg8 arg9 harg9 v1 ones c1 w1 X3 X4 X5 X6 (arg8.view.writes (Elt Ideal) j8 L8a) (arg9.view.writes (Elt Ideal) j9 L9a) n1).2 ++ L9a)
    (ec8 : L8c = (pb_k0_t2 (F := Ideal) 𝒱 c bd i arg3 harg3 arg4 harg4 arg5 harg5 arg6 harg6 arg7 harg7 arg8 harg8 arg9 harg9 v2 ones c2 w2 u2 X3 X4 X5 X6 (arg8.view.writes (Elt Ideal) j8 L8b) (arg9.view.writes (Elt Ideal) j9 L9b) n2).1 ++ L8b)
    (ec9 : L9c = (pb_k0_t2 (F := Ideal) 𝒱 c bd i arg3 harg3 arg4 harg4 arg5 harg5 arg6 harg6 arg7 harg7 arg8 harg8 arg9 harg9 v2 ones c2 w2 u2 X3 X4 X5 X6 (arg8.view.writes (Elt Ideal) j8 L8b) (arg9.view.writes (Elt Ideal) j9 L9b) n2).2 ++ L9b)
    (ed8 : L8d = (pb_k0_t3 (F := Ideal) 𝒱 c bd i arg3 harg3 arg4 harg4 arg5 harg5 arg6 harg6 arg7 harg7 arg8 harg8 arg9 harg9 v3 ones c3 w3 u3 X3 X4 X5 X6 (arg8.view.writes (Elt Ideal) j8 L8c) (arg9.view.writes (Elt Ideal) j9 L9c) n3).1 ++ L8c)
    (ed9 : L9d = (pb_k0_t3 (F := Ideal) 𝒱 c bd i arg3 harg3 arg4 harg4 arg5 harg5 arg6 harg6 arg7 harg7 arg8 harg8 arg9 harg9 v3 ones c3 w3 u3 X3 X4 X5 X6 (arg8.view.writes (Elt Ideal) j8 L8c) (arg9.view.writes (Elt Ideal) j9 L9c) n3).2 ++ L9c)
    (ee8 : L8e = (pb_k0_t4 (F := Ideal) 𝒱 c bd i arg3 harg3 arg4 harg4 arg5 harg5 arg6 harg6 arg7 harg7 arg8 harg8 arg9 harg9 v4 ones c4 w4 u4 X3 X4 X5 X6 (arg8.view.writes (Elt Ideal) j8 L8d) (arg9.view.writes (Elt Ideal) j9 L9d) n4).1 ++ L8d)
    (ee9 : L9e = (pb_k0_t4 (F := Ideal) 𝒱 c bd i arg3 harg3 arg4 harg4 arg5 harg5 arg6 harg6 arg7 harg7 arg8 harg8 arg9 harg9 v4 ones c4 w4 u4 X3 X4 X5 X6 (arg8.view.writes (Elt Ideal) j8 L8d) (arg9.view.writes (Elt Ideal) j9 L9d) n4).2 ++ L9d) :
    Holds B arg8 arg9 (arg8.view.writes (Elt Ideal) j8 L8e) (arg9.view.writes (Elt Ideal) j9 L9e) (i 2).val (512 * (i 2).val) := by
  have Ha : Holds B arg8 arg9 (arg8.view.writes (Elt Ideal) j8 L8a) (arg9.view.writes (Elt Ideal) j9 L9a) (i 2).val 0 := by
    rw [ea8, ea9]; exact start_holds (B := B) arg8 arg9 (i 2).val j8 j9
  have Hb := loop1_holds 𝒱 c bd i arg3 harg3 arg4 harg4 arg5 harg5 arg6 harg6 arg7 harg7 arg8 harg8 arg9 harg9 X3 X4 X5 X6 _ _ v1 c1 w1 hB I Ha _ h1.le
  rw [← View.writes_append, ← View.writes_append, ← eb8, ← eb9, h1, trips1] at Hb
  rw [h2, trips2] at ec8 ec9
  have ec8' : L8c = L8b := ec8
  have ec9' : L9c = L9b := ec9
  rw [← ec8', ← ec9'] at Hb
  have Hd := loop3_holds 𝒱 c bd i arg3 harg3 arg4 harg4 arg5 harg5 arg6 harg6 arg7 harg7 arg8 harg8 arg9 harg9 X3 X4 X5 X6 _ _ v3 c3 w3 u3 hB I Hb
  rw [← View.writes_append, ← View.writes_append, ← h3, ← ed8, ← ed9] at Hd
  rw [h4, trips4] at ee8 ee9
  have ee8' : L8e = L8d := ee8
  have ee9' : L9e = L9d := ee9
  rw [ee8', ee9']
  exact Hd

end Cert.KernelIdeal.Attn

end
-- ==== Proof.Attn.Body.lean ====
/- THE BODY: what a grid point stores in its block of the output is, for every query and head, the quotient of the sums over the
   values by the sum of the weights, over all blocks up to the queries' own. -/
module

public import proofs.«01_k».proof.Proof.Gen.KernelIdeal.Frame
public import proofs.«01_k».proof.Proof.Attn.Loops

@[expose] public section

set_option maxRecDepth 16384

noncomputable section

namespace Cert.KernelIdeal.Attn

open Cert.KernelIdeal Cert.KernelIdeal.Gen Idealize.ShloMosaic Idealize.ShloMosaic.TcCoe Cert.Attn

variable {B : Blocks}

/-- The output's head and lane of a column. -/
def headOf (col : Fin 1024) : Fin 8 := ⟨col / 128, by omega⟩
def laneOf (col : Fin 1024) : Fin 128 := ⟨col % 128, by omega⟩

/-- The point's block of the output. -/
def Blocks.outAt (B : Blocks) (qi : ℕ) (r : Fin 512) (h : Fin 8) (d : Fin 128) : EReal :=
  Ideal.div (B.acAt qi (512 * qi + 512) h r ⟨d, by omega⟩) (B.acAt qi (512 * qi + 512) h r ⟨128 + d, by omega⟩)

/-- A head's stored quotients are its columns of that block. -/
theorem out_piece (hB : B.Below) (qi : ℕ) (h : Fin 8) (o : ℕ) (ho : o = 128 * h) (s : FVec Ideal S512x512 .f32) (mx : Vec Ideal S1x512x128 .f32)
    (v : Vec Ideal S512x128 .bf16) (acc : Vec Ideal S1x512x256 .f32)
    (inb : ∀ a, (![0, o] : Fin 2 → ℕ) a + (![512, 128] : Fin 2 → ℕ) a ≤ S512x1024.size a)
    (hs : ∀ r x, s (ix2 r x) = B.msc qi h r (512 * qi + x.val)) (hm : ∀ r l, mx (ix3 0 r l) = B.mxAt qi (512 * qi) h r)
    (hv : ∀ x d, v (ix2 x d) = B.v (ix2 (keyRow (512 * qi + x.val)) (⟨128 * h + d.val, by omega⟩ : Fin 1024)))
    (ha : ∀ r c, acc (ix3 0 r c) = B.acAt qi (512 * qi) h r c)
    (x : (Rect.unit (s := S512x1024) ![0, o] ![512, 128] inb).shape.Idx) :
    outRow (accRow s mx v acc) x = (fun y : S512x1024.Idx => B.outAt qi (y 0) (headOf (y 1)) (laneOf (y 1)))
      ((Rect.unit (s := S512x1024) ![0, o] ![512, 128] inb).emb x) := by
  obtain ⟨r, l, rfl⟩ : ∃ (r : Fin 512) (l : Fin 128), x = ix2 r l := ⟨x 0, x 1, by funext a; fin_cases a <;> rfl⟩
  subst ho
  have e : (Rect.unit (s := S512x1024) ![0, 128 * h.val] ![512, 128] inb).emb (ix2 r l) = ix2 r (⟨128 * h + l, by omega⟩ : Fin 1024) := by
    funext b; apply Fin.ext; rw [Rect.emb_apply]
    fin_cases b <;> simp [Rect.unit, ix2]
  have eh : headOf (⟨128 * h + l, by omega⟩ : Fin 1024) = h := Fin.ext (by simp only [headOf]; omega)
  have el : laneOf (⟨128 * h + l, by omega⟩ : Fin 1024) = l := Fin.ext (by simp only [laneOf]; omega)
  rw [e]
  show _ = B.outAt qi r (headOf (⟨128 * h + l, by omega⟩ : Fin 1024)) (laneOf (⟨128 * h + l, by omega⟩ : Fin 1024))
  rw [eh, el, outRow_apply, accRow_step B hB qi qi h s mx v acc hs hm hv ha, accRow_step B hB qi qi h s mx v acc hs hm hv ha]
  rfl

variable (c : Dev nD) (i : grid0.Coords)
  (arg3 : Memref sig .tc .vmem S512x2048 .bf16) (harg3 : arg3.IsWhole) (arg4 : Memref sig .tc .vmem S8192x1024 .bf16) (harg4 : arg4.IsWhole)
  (arg5 : Memref sig .tc .vmem S8192x128 .bf16) (harg5 : arg5.IsWhole) (arg6 : Memref sig .tc .vmem S8192x1024 .bf16) (harg6 : arg6.IsWhole)
  (arg7 : Memref sig .tc .vmem S512x1024 .bf16) (harg7 : arg7.IsWhole) (arg8 : Memref sig .tc .vmem S8x512x128 .f32) (harg8 : arg8.IsWhole)
  (arg9 : Memref sig .tc .vmem S8x512x256 .f32) (harg9 : arg9.IsWhole)
  (x0 : Vec Ideal S512x2048 .bf16) (x1 : Vec Ideal S8192x1024 .bf16) (x2 : Vec Ideal S8192x128 .bf16) (x3 : Vec Ideal S8192x1024 .bf16)

/-- The eight stores of a point, head by head. -/
theorem body_pieces (hB : (Blocks.mk x0 x1 x2 x3).Below) :
    View.PiecesOf (fun y : S512x1024.Idx => (Blocks.mk x0 x1 x2 x3).outAt (i 2).val (y 0) (headOf (y 1)) (laneOf (y 1)))
      (kernelRun0_A (F := Ideal) c i arg3 harg3 arg4 harg4 arg5 harg5 arg6 harg6 arg7 harg7 arg8 harg8 arg9 harg9 x0 x1 x2 x3).1 := by
  have I : Inputs (Blocks.mk x0 x1 x2 x3) arg3 arg4 arg5 arg6 (harg3.unread x0) (harg4.unread x1) (harg5.unread x2) (harg6.unread x3) :=
    ⟨harg3.read_unread x0, harg4.read_unread x1, harg5.read_unread x2, harg6.read_unread x3⟩
  unfold kernelRun0_A
  dsimp only
  sl_unfold_run_names
  simp (disch := decide) only [↓ View.readCov_skip, ↓ View.readCov_cons_toLoadRect]
  simp only [diag0, diag1, diag2, diag3, diag4, diag5, diag6, diag7]
  simp only [ones_eq]
  refine ⟨?_, ?_, ?_, ?_, ?_, ?_, ?_, ?_, trivial⟩
  · refine out_piece hB (i 2).val 7 896 rfl _ _ _ _ inb_S512x1024_S512x128_0_896 ?_ ?_ ?_ ?_
    · exact I.score_diag (i 2).val 7 _ _ _ (block_lt i) (offDiag i).1 (offDiag i).2 (offDiag_7 i).1 (offDiag_7 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 7 7 rfl _ r l
    · exact I.ld_v 7 (i 2).val _ (block_lt i) (offDiag_7 i).1 (offDiag_7 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 7 7 rfl _ r l
  · refine out_piece hB (i 2).val 6 768 rfl _ _ _ _ inb_S512x1024_S512x128_0_768 ?_ ?_ ?_ ?_
    · exact I.score_diag (i 2).val 6 _ _ _ (block_lt i) (offDiag i).1 (offDiag i).2 (offDiag_6 i).1 (offDiag_6 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 6 6 rfl _ r l
    · exact I.ld_v 6 (i 2).val _ (block_lt i) (offDiag_6 i).1 (offDiag_6 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 6 6 rfl _ r l
  · refine out_piece hB (i 2).val 5 640 rfl _ _ _ _ inb_S512x1024_S512x128_0_640 ?_ ?_ ?_ ?_
    · exact I.score_diag (i 2).val 5 _ _ _ (block_lt i) (offDiag i).1 (offDiag i).2 (offDiag_5 i).1 (offDiag_5 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 5 5 rfl _ r l
    · exact I.ld_v 5 (i 2).val _ (block_lt i) (offDiag_5 i).1 (offDiag_5 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 5 5 rfl _ r l
  · refine out_piece hB (i 2).val 4 512 rfl _ _ _ _ inb_S512x1024_S512x128_0_512 ?_ ?_ ?_ ?_
    · exact I.score_diag (i 2).val 4 _ _ _ (block_lt i) (offDiag i).1 (offDiag i).2 (offDiag_4 i).1 (offDiag_4 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 4 4 rfl _ r l
    · exact I.ld_v 4 (i 2).val _ (block_lt i) (offDiag_4 i).1 (offDiag_4 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 4 4 rfl _ r l
  · refine out_piece hB (i 2).val 3 384 rfl _ _ _ _ inb_S512x1024_S512x128_0_384 ?_ ?_ ?_ ?_
    · exact I.score_diag (i 2).val 3 _ _ _ (block_lt i) (offDiag i).1 (offDiag i).2 (offDiag_3 i).1 (offDiag_3 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 3 3 rfl _ r l
    · exact I.ld_v 3 (i 2).val _ (block_lt i) (offDiag_3 i).1 (offDiag_3 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 3 3 rfl _ r l
  · refine out_piece hB (i 2).val 2 256 rfl _ _ _ _ inb_S512x1024_S512x128_0_256 ?_ ?_ ?_ ?_
    · exact I.score_diag (i 2).val 2 _ _ _ (block_lt i) (offDiag i).1 (offDiag i).2 (offDiag_2 i).1 (offDiag_2 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 2 2 rfl _ r l
    · exact I.ld_v 2 (i 2).val _ (block_lt i) (offDiag_2 i).1 (offDiag_2 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 2 2 rfl _ r l
  · refine out_piece hB (i 2).val 1 128 rfl _ _ _ _ inb_S512x1024_S512x128_0_128 ?_ ?_ ?_ ?_
    · exact I.score_diag (i 2).val 1 _ _ _ (block_lt i) (offDiag i).1 (offDiag i).2 (offDiag_1 i).1 (offDiag_1 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 1 1 rfl _ r l
    · exact I.ld_v 1 (i 2).val _ (block_lt i) (offDiag_1 i).1 (offDiag_1 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 1 1 rfl _ r l
  · refine out_piece hB (i 2).val 0 0 rfl _ _ _ _ inb_S512x1024_S512x128_0_0 ?_ ?_ ?_ ?_
    · exact I.score_diag (i 2).val 0 _ _ _ (block_lt i) (offDiag i).1 (offDiag i).2 (offDiag_0 i).1 (offDiag_0 i).2 rfl rfl _ _ _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_mx 0 0 rfl _ r l
    · exact I.ld_v 0 (i 2).val _ (block_lt i) (offDiag_0 i).1 (offDiag_0 i).2 _
    · intro r l; exact (before_holds Variants.none c none i arg3 harg3 arg4 harg4 arg5 harg5 arg6 harg6 arg7 harg7 arg8 harg8 arg9 harg9 (harg3.unread x0) (harg4.unread x1) (harg5.unread x2) (harg6.unread x3)
        _ _ _ _ _ _ _ _ _ _ _ _ _ _ _ hB I arg8.view.junk arg9.view.junk _ _ _ _ rfl rfl rfl rfl _ _ _ _ _ _ _ _ _ _ rfl rfl rfl rfl rfl rfl rfl rfl rfl rfl).ld_ac 0 0 rfl _ r l

/-- The point's output. -/
theorem out_apply (hB : (Blocks.mk x0 x1 x2 x3).Below) (r : Fin 512) (col : Fin 1024) :
    out0_A_4 (F := Ideal) c i arg3 harg3 arg4 harg4 arg5 harg5 arg6 harg6 arg7 harg7 arg8 harg8 arg9 harg9 x0 x1 x2 x3 (ix2 r col)
      = (Blocks.mk x0 x1 x2 x3).outAt (i 2).val r (headOf col) (laneOf col) := by
  have hp := View.PiecesOf.mem (body_pieces c i arg3 harg3 arg4 harg4 arg5 harg5 arg6 harg6 arg7 harg7 arg8 harg8 arg9 harg9 x0 x1 x2 x3 hB)
  exact View.read_writes_apply_of_pieces VO0_4 _
    (fun y : S512x1024.Idx => (Blocks.mk x0 x1 x2 x3).outAt (i 2).val (y 0) (headOf (y 1)) (laneOf (y 1))) _ hp (ix2 r col)
    (cover0_A_4 c i arg3 harg3 arg4 harg4 arg5 harg5 arg6 harg6 arg7 harg7 arg8 harg8 arg9 harg9 x0 x1 x2 x3 (ix2 r col))

end Cert.KernelIdeal.Attn

end
-- ==== Proof.Attn.Grid.lean ====
/- THE GRID'S BLOCKS: point (b, hb, qi) works on batch b, heads 8·hb to 8·hb + 7 and the 512 queries from 512·qi on; its blocks are
   these parts of the kernel's arrays. -/
module

public import proofs.«01_k».proof.Proof.Attn.Host
public import proofs.«01_k».proof.Proof.Attn.Body

@[expose] public section

set_option maxRecDepth 16384

noncomputable section

namespace Cert.KernelIdeal.Attn

open Cert.KernelIdeal Cert.KernelIdeal.Gen Idealize.ShloMosaic Idealize.ShloMosaic.TcCoe

/-- A point's batch, half of the heads and block of queries. -/
def bOf (t : Fin cfg0.N) : Fin 2 := (grid0.coords t) 0
def hbOf (t : Fin cfg0.N) : Fin 2 := (grid0.coords t) 1
def qiOf (t : Fin cfg0.N) : Fin 16 := (grid0.coords t) 2

/-- The points run through the blocks of queries first, then the halves of the heads, then the batches. -/
theorem point_val : ∀ t : Fin cfg0.N, t.val = 32 * (bOf t).val + 16 * (hbOf t).val + (qiOf t).val :=
  (by decide +kernel : ∀ t : Fin grid0.N, t.val = 32 * ((grid0.coords t) 0).val + 16 * ((grid0.coords t) 1).val + ((grid0.coords t) 2).val)

theorem index0 : ∀ t : Fin cfg0.N, win0_0.index t (0 : Fin 2) = 16 * (bOf t).val + (qiOf t).val ∧ win0_0.index t (1 : Fin 2) = (hbOf t).val :=
  (by decide +kernel : ∀ t : Fin grid0.N, win0_0.index t (0 : Fin 2) = 16 * ((grid0.coords t) 0).val + ((grid0.coords t) 2).val
    ∧ win0_0.index t (1 : Fin 2) = ((grid0.coords t) 1).val)
theorem index1 : ∀ t : Fin cfg0.N, win0_1.index t (0 : Fin 2) = (bOf t).val ∧ win0_1.index t (1 : Fin 2) = (hbOf t).val :=
  (by decide +kernel : ∀ t : Fin grid0.N, win0_1.index t (0 : Fin 2) = ((grid0.coords t) 0).val
    ∧ win0_1.index t (1 : Fin 2) = ((grid0.coords t) 1).val)
theorem index2 : ∀ t : Fin cfg0.N, win0_2.index t (0 : Fin 2) = (bOf t).val ∧ win0_2.index t (1 : Fin 2) = 0 :=
  (by decide +kernel : ∀ t : Fin grid0.N, win0_2.index t (0 : Fin 2) = ((grid0.coords t) 0).val ∧ win0_2.index t (1 : Fin 2) = 0)
theorem index3 : ∀ t : Fin cfg0.N, win0_3.index t (0 : Fin 2) = (bOf t).val ∧ win0_3.index t (1 : Fin 2) = 2 + (hbOf t).val :=
  (by decide +kernel : ∀ t : Fin grid0.N, win0_3.index t (0 : Fin 2) = ((grid0.coords t) 0).val
    ∧ win0_3.index t (1 : Fin 2) = 2 + ((grid0.coords t) 1).val)
theorem index4 : ∀ t : Fin cfg0.N, win0_4.index t (0 : Fin 2) = 16 * (bOf t).val + (qiOf t).val ∧ win0_4.index t (1 : Fin 2) = (hbOf t).val :=
  (by decide +kernel : ∀ t : Fin grid0.N, win0_4.index t (0 : Fin 2) = 16 * ((grid0.coords t) 0).val + ((grid0.coords t) 2).val
    ∧ win0_4.index t (1 : Fin 2) = ((grid0.coords t) 1).val)

/-- Where an entry of a point's block lies in its array. -/
theorem emb0 (t : Fin cfg0.N) (r : Fin 512) (d : Fin 2048) : ((cfg0.win 0).blk t).view.emb (ix2 r d)
    = (ix2 (⟨512 * (16 * (bOf t).val + (qiOf t).val) + r, by omega⟩ : Fin 16384) (⟨2048 * (hbOf t).val + d, by omega⟩ : Fin 4096)) := by
  obtain ⟨e0, e1⟩ := index0 t
  funext a; apply Fin.ext
  match a with
  | ⟨0, _⟩ => show win0_0.index t (0 : Fin 2) * 512 + 1 * r.val = 512 * (16 * (bOf t).val + (qiOf t).val) + r.val; omega
  | ⟨1, _⟩ => show win0_0.index t (1 : Fin 2) * 2048 + 1 * d.val = 2048 * (hbOf t).val + d.val; omega
theorem emb1 (t : Fin cfg0.N) (k : Fin 8192) (d : Fin 1024) : ((cfg0.win 1).blk t).view.emb (ix2 k d)
    = (ix2 (⟨8192 * (bOf t).val + k, by omega⟩ : Fin 16384) (⟨1024 * (hbOf t).val + d, by omega⟩ : Fin 4096)) := by
  obtain ⟨e0, e1⟩ := index1 t
  funext a; apply Fin.ext
  match a with
  | ⟨0, _⟩ => show win0_1.index t (0 : Fin 2) * 8192 + 1 * k.val = 8192 * (bOf t).val + k.val; omega
  | ⟨1, _⟩ => show win0_1.index t (1 : Fin 2) * 1024 + 1 * d.val = 1024 * (hbOf t).val + d.val; omega
theorem emb2 (t : Fin cfg0.N) (k : Fin 8192) (d : Fin 128) : ((cfg0.win 2).blk t).view.emb (ix2 k d)
    = (ix2 (⟨8192 * (bOf t).val + k, by omega⟩ : Fin 16384) d) := by
  obtain ⟨e0, e1⟩ := index2 t
  funext a; apply Fin.ext
  match a with
  | ⟨0, _⟩ => show win0_2.index t (0 : Fin 2) * 8192 + 1 * k.val = 8192 * (bOf t).val + k.val; omega
  | ⟨1, _⟩ => show win0_2.index t (1 : Fin 2) * 128 + 1 * d.val = d.val; omega
theorem emb3 (t : Fin cfg0.N) (k : Fin 8192) (d : Fin 1024) : ((cfg0.win 3).blk t).view.emb (ix2 k d)
    = (ix2 (⟨8192 * (bOf t).val + k, by omega⟩ : Fin 16384) (⟨2048 + (1024 * (hbOf t).val + d), by omega⟩ : Fin 4096)) := by
  obtain ⟨e0, e1⟩ := index3 t
  funext a; apply Fin.ext
  match a with
  | ⟨0, _⟩ => show win0_3.index t (0 : Fin 2) * 8192 + 1 * k.val = 8192 * (bOf t).val + k.val; omega
  | ⟨1, _⟩ => show win0_3.index t (1 : Fin 2) * 1024 + 1 * d.val = 2048 + (1024 * (hbOf t).val + d.val); omega
theorem emb4 (t : Fin cfg0.N) (r : Fin 512) (n : Fin 1024) : ((cfg0.win 4).blk t).view.emb (ix2 r n)
    = (ix2 (⟨512 * (16 * (bOf t).val + (qiOf t).val) + r, by omega⟩ : Fin 16384) (⟨1024 * (hbOf t).val + n, by omega⟩ : Fin 2048)) := by
  obtain ⟨e0, e1⟩ := index4 t
  funext a; apply Fin.ext
  match a with
  | ⟨0, _⟩ => show win0_4.index t (0 : Fin 2) * 512 + 1 * r.val = 512 * (16 * (bOf t).val + (qiOf t).val) + r.val; omega
  | ⟨1, _⟩ => show win0_4.index t (1 : Fin 2) * 1024 + 1 * n.val = 1024 * (hbOf t).val + n.val; omega

/-- Every entry of the result is in the block of some point. -/
theorem covered (i : S16384x2048.Idx) : ∃ t : Fin cfg0.N, (cfg0.win 4).flush t = true ∧ i ∈ ((cfg0.win 4).blk t).view.set := by
  have hR : (i 0).val < 16384 := (i 0).isLt
  have hn : (i 1).val < 2048 := (i 1).isLt
  let t : Fin cfg0.N := ⟨32 * ((i 0).val / 8192) + 16 * ((i 1).val / 1024) + (i 0).val % 8192 / 512, by
    show _ < grid0.N; rw [N_0]; omega⟩
  have ht : 32 * ((i 0).val / 8192) + 16 * ((i 1).val / 1024) + (i 0).val % 8192 / 512
    = 32 * (bOf t).val + 16 * (hbOf t).val + (qiOf t).val := point_val t
  have h := ((cfg0.win 4).blk t).view.emb_mem_set (ix2 (⟨(i 0).val % 512, by omega⟩ : Fin 512) (⟨(i 1).val % 1024, by omega⟩ : Fin 1024))
  rw [emb4] at h
  refine ⟨t, flush0_4 _, ?_⟩
  have := (bOf t).isLt; have := (hbOf t).isLt; have := (qiOf t).isLt
  have e : i = ix2 (⟨512 * (16 * (bOf t).val + (qiOf t).val) + (i 0).val % 512, by omega⟩ : Fin 16384)
      (⟨1024 * (hbOf t).val + (i 1).val % 1024, by omega⟩ : Fin 2048) := by
    funext a; apply Fin.ext
    match a with
    | ⟨0, _⟩ => show (i 0).val = 512 * (16 * (bOf t).val + (qiOf t).val) + (i 0).val % 512; omega
    | ⟨1, _⟩ => show (i 1).val = 1024 * (hbOf t).val + (i 1).val % 1024; omega
  exact (congrArg (· ∈ ((cfg0.win 4).blk t).view.set) e).mpr h

end Cert.KernelIdeal.Attn

end
-- ==== Proof.Attn.Softmax.lean ====
/- THE SOFTMAX, and that the running sums of the powers of two, divided, are its weighted sum. -/
module

public import proofs.«01_k».proof.Proof.Attn.Online

@[expose] public section

noncomputable section

namespace Cert.Attn

open Idealize.ShloMosaic

/-- A row of scores, softmaxed, at key k. -/
def softmax {N : ℕ} (x : Fin N → EReal) (k : Fin N) : EReal :=
  Ideal.div (Ideal.exp (x k - max ⊥ (Finset.univ.fold max ⊥ x))) (∑ j, Ideal.exp (x j - max ⊥ (Finset.univ.fold max ⊥ x)))

/-- The factor on the kernel's scores, of √192 and the change of base. -/
abbrev scale : ℝ := (Real.sqrt 192)⁻¹ * (Real.log 2)⁻¹

theorem log2_pos : 0 < Real.log 2 := Real.log_pos (by norm_num)

/-- A sum of reals, taken in the extended reals. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A softmax whose greatest score is a real: its exponentials are reals, and so are its weights. -/
theorem softmax_of {N : ℕ} (x : Fin N → EReal) (p : Fin N → ℝ) (m : ℝ) (hm : ∀ k, x k ≤ m) (k0 : Fin N) (h0 : x k0 = m)
    (hp : ∀ k, Ideal.exp (x k - m) = p k) (hpos : 0 < ∑ k, p k) (k : Fin N) :
    softmax x k = ((p k * (∑ j, p j)⁻¹ : ℝ) : EReal) := by
  have e : max ⊥ (Finset.univ.fold max ⊥ x) = (m : EReal) := by
    rw [fold_max_eq_sup, max_eq_right bot_le]
    exact le_antisymm (Finset.sup_le fun k _ => hm k) (h0 ▸ Finset.le_sup (f := x) (Finset.mem_univ k0))
  unfold softmax
  simp only [e, hp]
  rw [← coe_sum, Ideal.div_coe hpos.ne', one_div, ← EReal.coe_mul]

/-- The kernel's quotient is the softmax's weighted sum: the scores are real where a key is admitted and −∞ elsewhere; every
    admitted key is among the first `n`, and there is one. -/
theorem quotient_eq {N : ℕ} (A : ℕ → Prop) [DecidablePred A] (d : ℕ → ℝ) (s v : ℕ → EReal) (x : Fin N → EReal) (n : ℕ)
    (hs : ∀ k, s k = if A k then ((d k : ℝ) : EReal) * (scale : ℝ) else ⊥)
    (hx : ∀ k : Fin N, x k = if A k then Ideal.div ((d k : ℝ) : EReal) ((Real.sqrt 192 : ℝ) : EReal) else ⊥)
    (hn : n ≤ N) (hA : ∀ k < N, n ≤ k → ¬ A k) (h0 : ∃ k < n, A k) :
    Ideal.div (runSum s v n) (runSum s (fun _ => 1) n) = ∑ k : Fin N, v k * softmax x k := by
  classical
  have h192 : Real.sqrt 192 ≠ 0 := by positivity
  have hs' : ∀ k, s k = if A k then ((d k * scale : ℝ) : EReal) else ⊥ := fun k => by rw [hs]; split <;> simp
  have hx' : ∀ k : Fin N, x k = if A k then ((d k * scale * Real.log 2 : ℝ) : EReal) else ⊥ := fun k => by
    rw [hx]; split
    · rw [Ideal.div_coe h192, one_div, ← EReal.coe_mul]
      congr 1
      rw [scale, ← mul_assoc, mul_assoc _ _ (Real.log 2), inv_mul_cancel₀ log2_pos.ne', mul_one]
    · rfl
  -- the greatest score
  obtain ⟨a, ha, hAa⟩ := h0
  obtain ⟨k0, hk0, hmax⟩ := Finset.exists_max_image (Finset.range n) s ⟨a, Finset.mem_range.2 ha⟩
  have hMk : runMax s n = s k0 := le_antisymm (Finset.sup_le fun k hk => hmax k hk) (Finset.le_sup (f := s) hk0)
  have hA0 : A k0 := by
    by_contra hc
    have := hmax a (Finset.mem_range.2 ha)
    rw [hs' a, hs' k0, if_pos hAa, if_neg hc] at this
    exact absurd (le_bot_iff.1 this) (EReal.coe_ne_bot _)
  rw [Finset.mem_range] at hk0
  set M : ℝ := d k0 * scale with hM
  have hMM : runMax s n = (M : EReal) := by rw [hMk, hs', if_pos hA0]
  -- the weights before the division
  let p : ℕ → ℝ := fun k => if A k then Real.exp ((d k * scale - M) * Real.log 2) else 0
  have hp2 : ∀ k, Ideal.exp2 (s k - runMax s n) = p k := fun k => by
    rw [hMM, hs']; simp only [p]; split
    · rw [← EReal.coe_sub, Ideal.exp2_coe, EReal.coe_eq_coe_iff]
      show Real.rpow 2 _ = _
      rw [Real.rpow_eq_pow, Real.rpow_def_of_pos (by norm_num), mul_comm]
    · simp [Ideal.exp2_bot]
  have hpe : ∀ k : Fin N, Ideal.exp (x k - ((M * Real.log 2 : ℝ) : EReal)) = p k := fun k => by
    rw [hx']; simp only [p]; split
    · rw [← EReal.coe_sub, Ideal.exp_coe, ← sub_mul]
    · simp [Ideal.exp_bot]
  have hp0 : ∀ k, 0 ≤ p k := fun k => by simp only [p]; split <;> positivity
  have hsum : ∑ k : Fin N, p k = ∑ k ∈ Finset.range n, p k := by
    rw [Fin.sum_univ_eq_sum_range p N]
    refine (Finset.sum_subset (Finset.range_mono hn) fun k hk hk' => ?_).symm
    rw [Finset.mem_range] at hk hk'
    simp [p, hA k hk (by omega)]
  have hpos : 0 < ∑ k ∈ Finset.range n, p k :=
    Finset.sum_pos' (fun k _ => hp0 k) ⟨a, Finset.mem_range.2 ha, by simp only [p, if_pos hAa]; positivity⟩
  have hle : ∀ k : Fin N, x k ≤ ((M * Real.log 2 : ℝ) : EReal) := fun k => by
    rw [hx']; split
    · rename_i hk
      have hkn : k.val < n := by by_contra hc; exact hA k k.isLt (by omega) hk
      have := hmax k (Finset.mem_range.2 hkn)
      rw [hs' k, hs' k0, if_pos hk, if_pos hA0, EReal.coe_le_coe_iff] at this
      exact EReal.coe_le_coe_iff.2 (mul_le_mul_of_nonneg_right this log2_pos.le)
    · exact bot_le
  have hsm := softmax_of x (fun k => p k) (M * Real.log 2) hle ⟨k0, by omega⟩ (by rw [hx', if_pos hA0]) hpe (by rw [hsum]; exact hpos)
  simp only [hsm, hsum]
  set P := ∑ k ∈ Finset.range n, p k
  have hden : runSum s (fun _ => 1) n = (P : EReal) := by
    simp only [runSum, hp2, mul_one, P]
    exact (coe_sum _ _).symm
  rw [hden, Ideal.div_coe hpos.ne', one_div, mul_comm, runSum, mul_sum_of_real _ _ (by exact_mod_cast (inv_pos.2 hpos).le) (EReal.coe_ne_top _)]
  rw [Fin.sum_univ_eq_sum_range (fun k => v k * ((p k * P⁻¹ : ℝ) : EReal)) N]
  rw [← Finset.sum_subset (Finset.range_mono hn) fun k hk hk' => by
    rw [Finset.mem_range] at hk hk'
    simp [p, hA k hk (by omega)]]
  refine Finset.sum_congr rfl fun k _ => ?_
  rw [hp2, EReal.coe_mul, mul_comm, mul_comm (p k : EReal) (v k), mul_assoc]

end Cert.Attn

end
-- ==== Proof.Attn.Reference.lean ====
/- THE REFERENCE, read at an index: the softmax over all 8192 keys, −∞ where a key's chunk lies after the query's, and the
   weighted sum of the values. -/
module

public import proofs.«01_k».proof.Proof.Gen.ReferenceIdeal.Run
public import Idealize.ShloMosaic.Lib.Pointwise
public import proofs.«01_k».proof.Proof.Attn.Softmax

@[expose] public section

set_option maxRecDepth 16384

noncomputable section

namespace Cert.ReferenceIdeal.Attn

open Cert.ReferenceIdeal Cert.ReferenceIdeal.Gen Idealize.ShloMosaic Idealize.ShloMosaic.TcCoe

section General
variable {F : FTy → Type} [FloatOps F] (a0 : FVec F S2x8192x16x128 .f32) (a1 : FVec F S2x8192x16x64 .f32)
  (a2 : FVec F S2x8192x16x128 .f32) (a3 : FVec F S2x8192x64 .f32) (a4 : FVec F S2x8192x16x128 .f32)

/-- The chunk of a position: its 64th, rounded down. -/
def refChunk : IVec S8192 32 :=
  (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32)))))

/-- The scores, divided by √192, −∞ where masked. -/
def refScores : FVec F S2x16x8192x8192 .f32 :=
  (select (broadcastInDim S2x16x8192x8192 ![0, 1, 2, 3] bcast_S1x1x8192x8192_S2x16x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 refChunk)) (broadcastInDim S8192x8192 ![0, 1] bcast_S8192x1_S8192x8192_0_1 (broadcastInDim S8192x1 ![0] bcast_S8192_S8192x1_0 refChunk))))) (Host.divf (addf (Host.dotGeneral dot_S2x8192x16x128_S2x8192x16x128_S2x16x8192x8192_3_3_1_1_02_02 none a0 a2) (transpose S2x16x8192x8192 [0, 3, 2, 1] (Host.dotGeneral dot_S2x8192x64_S2x8192x16x64_S2x8192x8192x16_2_3_1_12_0_0 none a3 a1) transposes_S2x8192x8192x16_S2x16x8192x8192_0_3_2_1)) (broadcastInDim S2x16x8192x8192 ![] bcast_S_S2x16x8192x8192 (Host.sqrt (constant S_ .f32 0x43400000#32)))) (broadcastInDim S2x16x8192x8192 ![] bcast_S_S2x16x8192x8192 (id (constant S_ .f32 0xFF800000#32))))

/-- The exponentials of the scores less their row's maximum. -/
def refExp (s : FVec F S2x16x8192x8192 .f32) : FVec F S2x16x8192x8192 .f32 :=
  (Host.exp (subf s (broadcastInDim S2x16x8192x8192 ![0, 1, 2, 3] bcast_S2x16x8192x1_S2x16x8192x8192_0_1_2_3 (broadcastInDim S2x16x8192x1 ![0, 1, 2] bcast_S2x16x8192_S2x16x8192x1_0_1_2 (maximumf (broadcastInDim S2x16x8192 ![] bcast_S_S2x16x8192 (constant S_ .f32 0xFF800000#32)) (Host.reduce FloatOps.maximumf s (constant S_ .f32 0xFF800000#32) reducesTo_S2x16x8192x8192_S2x16x8192_d3 h_S_))))))

/-- The result. -/
def refOut : FVec F S16384x2048 .bf16 :=
  truncf .bf16 (shapeCast _ (transpose S2x8192x16x128 [0, 3, 1, 2] (Host.dotGeneral dot_S2x8192x16x128_S2x16x8192x8192_S2x16x128x8192_1_3_3_2_02_01 none a4 (Host.divf (refExp (refScores a0 a1 a2 a3)) (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd (refExp (refScores a0 a1 a2 a3)) (constant S_ .f32 0x00000000#32) reducesTo_S2x16x8192x8192_S2x16x8192_d3 h_S_))))) transposes_S2x16x128x8192_S2x8192x16x128_0_3_1_2) shapeCasts_S2x8192x16x128_S16384x2048) bitsLt_bf16_f32

/-- The program's result is this function of its arguments. -/
theorem res_eq (m : (ℓ : Loc nD τ sig) → Buf (Elt F) ℓ) (c : Dev nD) :
    Value.res_out0 (F := F) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end General

theorem rowMax_apply {n0 n1 n2 n3 : ℕ} (s : FVec Ideal ⟨4, ![n0, n1, n2, n3]⟩ .f32) (init : FVec Ideal S_ .f32)
    (h : (⟨4, ![n0, n1, n2, n3]⟩ : Shape).ReducesTo [3] ⟨3, ![n0, n1, n2]⟩) (hS : 0 < S_.numel) (a : Fin n0) (b : Fin n1) (c : Fin n2) :
    Host.reduce (FloatOps.maximumf (F := Ideal) (φ := .f32)) s init h hS (ix3 a b c)
      = (Finset.univ : Finset (Fin n3)).fold max (init ix0) (fun k => s (ix4 a b c k)) := by
  pointwise
  exact congrArg (fun x => Finset.fold max (init x) _ _) (funext fun a => a.elim0)

theorem spread_apply {n0 n1 n2 n3 : ℕ} (M : FVec Ideal ⟨3, ![n0, n1, n2]⟩ .f32)
    (h1 : (⟨4, ![n0, n1, n2, 1]⟩ : Shape).BroadcastsInDim ⟨4, ![n0, n1, n2, n3]⟩ (![0, 1, 2, 3] : Fin 4 → Fin 4))
    (h2 : (⟨3, ![n0, n1, n2]⟩ : Shape).BroadcastsInDim ⟨4, ![n0, n1, n2, 1]⟩ (![0, 1, 2] : Fin 3 → Fin 4))
    (a : Fin n0) (b : Fin n1) (c : Fin n2) (d : Fin n3) :
    broadcastInDim ⟨4, ![n0, n1, n2, n3]⟩ ![0, 1, 2, 3] h1 (broadcastInDim ⟨4, ![n0, n1, n2, 1]⟩ ![0, 1, 2] h2 M) (ix4 a b c d) = M (ix3 a b c) := by
  unfold broadcastInDim
  refine congrArg M (funext fun x => Fin.ext ?_)
  match x with
  | 0 => dsimp only; split <;> rename_i hx
         · simp only [ix3]; have : a.val < n0 := a.isLt; have hx' : n0 = 1 := hx; simp; omega
         · split <;> rename_i hy
           · exact absurd hy hx
           · rfl
  | 1 => dsimp only; split <;> rename_i hx
         · simp only [ix3]; have : b.val < n1 := b.isLt; have hx' : n1 = 1 := hx; simp; omega
         · split <;> rename_i hy
           · exact absurd hy hx
           · rfl
  | 2 => dsimp only; split <;> rename_i hx
         · simp only [ix3]; have : c.val < n2 := c.isLt; have hx' : n2 = 1 := hx; simp; omega
         · split <;> rename_i hy
           · exact absurd hy hx
           · rfl

/-- The exponentials of the scores less their row's maximum, of any sizes. -/
def expOf {n0 n1 n2 n3 : ℕ} (s : FVec Ideal ⟨4, ![n0, n1, n2, n3]⟩ .f32)
    (h0 : S_.BroadcastsInDim ⟨3, ![n0, n1, n2]⟩ (![] : Fin 0 → Fin 3))
    (h1 : (⟨4, ![n0, n1, n2, 1]⟩ : Shape).BroadcastsInDim ⟨4, ![n0, n1, n2, n3]⟩ (![0, 1, 2, 3] : Fin 4 → Fin 4))
    (h2 : (⟨3, ![n0, n1, n2]⟩ : Shape).BroadcastsInDim ⟨4, ![n0, n1, n2, 1]⟩ (![0, 1, 2] : Fin 3 → Fin 4))
    (h : (⟨4, ![n0, n1, n2, n3]⟩ : Shape).ReducesTo [3] ⟨3, ![n0, n1, n2]⟩) (hS : 0 < S_.numel) :
    FVec Ideal ⟨4, ![n0, n1, n2, n3]⟩ .f32 :=
  Host.exp (subf s (broadcastInDim ⟨4, ![n0, n1, n2, n3]⟩ ![0, 1, 2, 3] h1 (broadcastInDim ⟨4, ![n0, n1, n2, 1]⟩ ![0, 1, 2] h2
    (maximumf (broadcastInDim ⟨3, ![n0, n1, n2]⟩ ![] h0 (constant S_ .f32 0xFF800000#32))
      (Host.reduce FloatOps.maximumf s (constant S_ .f32 0xFF800000#32) h hS)))))

theorem expOf_apply {n0 n1 n2 n3 : ℕ} (s : FVec Ideal ⟨4, ![n0, n1, n2, n3]⟩ .f32) (h0) (h1) (h2) (h) (hS)
    (a : Fin n0) (b : Fin n1) (c : Fin n2) (d : Fin n3) :
    expOf s h0 h1 h2 h hS (ix4 a b c d) = Ideal.exp (s (ix4 a b c d) - max (Ideal.ofBits .f32 0xFF800000#32)
      ((Finset.univ : Finset (Fin n3)).fold max (Ideal.ofBits .f32 0xFF800000#32) (fun k => s (ix4 a b c k)))) := by
  have hM := rowMax_apply s (constant S_ .f32 0xFF800000#32) h hS a b c
  unfold expOf
  generalize Host.reduce (FloatOps.maximumf (F := Ideal) (φ := .f32)) s (constant S_ .f32 0xFF800000#32) h hS = M at hM ⊢
  have e := spread_apply (maximumf (broadcastInDim ⟨3, ![n0, n1, n2]⟩ ![] h0 (constant (F := Ideal) S_ .f32 0xFF800000#32)) M) h1 h2 a b c d
  refine (congrArg (fun z : EReal => Ideal.exp (s (ix4 a b c d) - z)) e).trans ?_
  exact congrArg (fun z : EReal => Ideal.exp (s (ix4 a b c d) - max (Ideal.ofBits .f32 0xFF800000#32) z)) hM

theorem refExp_eq (s : FVec Ideal S2x16x8192x8192 .f32) : refExp s = expOf s bcast_S_S2x16x8192
  bcast_S2x16x8192x1_S2x16x8192x8192_0_1_2_3 bcast_S2x16x8192_S2x16x8192x1_0_1_2 reducesTo_S2x16x8192x8192_S2x16x8192_d3 h_S_ := rfl

theorem refExp_apply (s : FVec Ideal S2x16x8192x8192 .f32) (b : Fin 2) (h : Fin 16) (q k : Fin 8192) :
    refExp s (ix4 b h q k) = Ideal.exp (s (ix4 b h q k) - max (Ideal.ofBits .f32 0xFF800000#32)
      ((Finset.univ : Finset (Fin 8192)).fold max (Ideal.ofBits .f32 0xFF800000#32) (fun k => s (ix4 b h q k)))) := by
  rw [refExp_eq]
  exact expOf_apply s _ _ _ _ _ b h q k

/-- The chunk of position k is k / 64. -/
theorem refChunk_apply (k : Fin 8192) : refChunk (ix1 k) = BitVec.ofNat 32 (k.val / 64) := by
  unfold refChunk
  pointwise
  revert k
  decide +kernel

theorem sle_small : ∀ x y : Fin 128, IntOp.cmpi CmpIPredicate.sle (BitVec.ofNat 32 x.val) (BitVec.ofNat 32 y.val)
    = if x.val ≤ y.val then 1#1 else 0#1 := by decide +kernel

/-- A score: the sum of the two dots over √192, −∞ where the key's chunk lies after the query's. -/
theorem refScores_apply (a0 : FVec Ideal S2x8192x16x128 .f32) (a1 : FVec Ideal S2x8192x16x64 .f32)
    (a2 : FVec Ideal S2x8192x16x128 .f32) (a3 : FVec Ideal S2x8192x64 .f32) (b : Fin 2) (h : Fin 16) (q k : Fin 8192) :
    refScores a0 a1 a2 a3 (ix4 b h q k) = if k.val / 64 ≤ q.val / 64
      then Ideal.div (∑ x : Fin 128, a0 (ix4 b q h x) * a2 (ix4 b k h x) + ∑ x : Fin 64, a3 (ix3 b k x) * a1 (ix4 b q h x))
        ((Real.sqrt 192 : ℝ) : EReal)
      else ⊥ := by
  have hk := refChunk_apply k
  have hq := refChunk_apply q
  have hs : Ideal.sqrt (Ideal.ofBits .f32 0x43400000#32) = ((Real.sqrt 192 : ℝ) : EReal) := by
    rw [show Ideal.ofBits .f32 0x43400000#32 = ((192 : ℝ) : EReal) by
      simp [Ideal.ofBits, Ideal.ieee, -EReal.coe_mul]; norm_num, Ideal.sqrt_coe, if_neg (by norm_num)]
  have hb : (id (constant (F := Ideal) S_ FTy.f32 0xFF800000#32) ix0 : EReal) = ⊥ := by
    show Ideal.ofBits .f32 0xFF800000#32 = ⊥
    simp [Ideal.ofBits, Ideal.ieee]
  have hc := sle_small ⟨k.val / 64, by omega⟩ ⟨q.val / 64, by omega⟩
  unfold refScores
  generalize refChunk = C at hk hq ⊢
  pointwise
  rw [hk, hq, hs, hc, hb]
  by_cases hle : k.val / 64 ≤ q.val / 64
  · simp [hle, Scalar.select]
  · simp [hle, Scalar.select]

/-- The batch, the position and the head and lane of an entry of the result. -/
def batchOf (r : Fin 16384) : Fin 2 := ⟨r.val / 8192, by omega⟩
def posOf (r : Fin 16384) : Fin 8192 := ⟨r.val % 8192, by omega⟩
def headOf (n : Fin 2048) : Fin 16 := ⟨n.val / 128, by omega⟩
def laneOf (n : Fin 2048) : Fin 128 := ⟨n.val % 128, by omega⟩

/-- THE REFERENCE at an index. -/
theorem refOut_apply (a0 : FVec Ideal S2x8192x16x128 .f32) (a1 : FVec Ideal S2x8192x16x64 .f32)
    (a2 : FVec Ideal S2x8192x16x128 .f32) (a3 : FVec Ideal S2x8192x64 .f32) (a4 : FVec Ideal S2x8192x16x128 .f32)
    (r : Fin 16384) (n : Fin 2048) : refOut a0 a1 a2 a3 a4 (ix2 r n)
      = ∑ k : Fin 8192, a4 (ix4 (batchOf r) k (headOf n) (laneOf n))
        * Cert.Attn.softmax (fun k => refScores a0 a1 a2 a3 (ix4 (batchOf r) (headOf n) (posOf r) k)) k := by
  have hb : Ideal.ofBits .f32 0xFF800000#32 = ⊥ := by simp [Ideal.ofBits, Ideal.ieee]
  unfold refOut
  generalize refScores a0 a1 a2 a3 = s
  have he := fun k => refExp_apply s (batchOf r) (headOf n) (posOf r) k
  simp only [hb] at he
  unfold Cert.Attn.softmax
  simp only [← he]
  generalize refExp s = e
  pointwise
  rfl

end Cert.ReferenceIdeal.Attn

end
-- ==== Proof.Attn.Value.lean ====
/- THE KERNEL'S RESULT: of real queries and keys every entry is the reference's softmax-weighted sum of the values. -/
module

public import proofs.«01_k».proof.Proof.Attn.Grid
public import proofs.«01_k».proof.Proof.Attn.Reference

@[expose] public section

set_option maxRecDepth 16384

noncomputable section

namespace Cert.KernelIdeal.Attn

open Cert.KernelIdeal Cert.KernelIdeal.Gen Cert.KernelIdeal.Value Idealize.ShloMosaic Idealize.ShloMosaic.TcCoe Cert.Attn
open Cert.ReferenceIdeal.Attn (refOut refOut_apply refScores_apply)

/-- A query's dot with a key, the shared positional part after the head's own. -/
def dot (f0 : S2x8192x16x128.Idx → ℝ) (f1 : S2x8192x16x64.Idx → ℝ) (f2 : S2x8192x16x128.Idx → ℝ) (f3 : S2x8192x64.Idx → ℝ)
    (b : Fin 2) (h : Fin 16) (q k : Fin 8192) : ℝ :=
  ∑ d : Fin 128, f0 (ix4 b q h d) * f2 (ix4 b k h d) + ∑ x : Fin 64, f3 (ix3 b k x) * f1 (ix4 b q h x)

variable (m : (ℓ : Loc nD τ sig) → Buf (Elt Ideal) ℓ) (c : Dev nD)

/-- The arguments as arrays of extended reals. -/
abbrev arr0 : FVec Ideal S2x8192x16x128 .f32 := m ((c : Thread nD τ).loc main_arg0)
abbrev arr1 : FVec Ideal S2x8192x16x64 .f32 := m ((c : Thread nD τ).loc main_arg1)
abbrev arr2 : FVec Ideal S2x8192x16x128 .f32 := m ((c : Thread nD τ).loc main_arg2)
abbrev arr3 : FVec Ideal S2x8192x64 .f32 := m ((c : Thread nD τ).loc main_arg3)
abbrev arr4 : FVec Ideal S2x8192x16x128 .f32 := m ((c : Thread nD τ).loc main_arg4)

/-- A point's blocks. -/
def ptBlocks (t : Fin cfg0.N) : Blocks := ⟨iblk m c 0 t, iblk m c 1 t, iblk m c 2 t, iblk m c 3 t⟩

/-- A head of a point's half. -/
def headAt (t : Fin cfg0.N) (h : Fin 8) : Fin 16 := ⟨8 * (hbOf t).val + h, by have := (hbOf t).isLt; omega⟩
/-- A query of a point's block. -/
def posAt (t : Fin cfg0.N) (r : Fin 512) : Fin 8192 := ⟨512 * (qiOf t).val + r, by have := (qiOf t).isLt; omega⟩

theorem blk_q_nope (t : Fin cfg0.N) (r : Fin 512) (h : Fin 8) (d : Fin 128) :
    (ptBlocks m c t).q (ix2 r (⟨256 * h + d, by omega⟩ : Fin 2048))
      = arr0 m c (ix4 (bOf t) (posAt t r) (headAt t h) d) := by
  show V m c main_v3 (((cfg0.win 0).blk t).view.emb _) = _
  rw [V_q, emb0]
  exact qArr_nope _ _ _ _ _ _ _ _ (by simp only [posAt]; omega) (by simp only [headAt]; omega)

theorem blk_q_rope (t : Fin cfg0.N) (r : Fin 512) (h : Fin 8) (d : Fin 64) :
    (ptBlocks m c t).q (ix2 r (⟨256 * h + (128 + d), by omega⟩ : Fin 2048))
      = arr1 m c (ix4 (bOf t) (posAt t r) (headAt t h) d) := by
  show V m c main_v3 (((cfg0.win 0).blk t).view.emb _) = _
  rw [V_q, emb0]
  exact qArr_rope _ _ _ _ _ _ _ _ (by simp only [posAt]; omega) (by simp only [headAt]; omega)

theorem blk_kn (t : Fin cfg0.N) (k : Fin 8192) (h : Fin 8) (d : Fin 128) :
    (ptBlocks m c t).kn (ix2 k (⟨128 * h + d, by omega⟩ : Fin 1024))
      = arr2 m c (ix4 (bOf t) k (headAt t h) d) := by
  show V m c main_v7 (((cfg0.win 1).blk t).view.emb _) = _
  rw [V_kv, emb1]
  exact kvArr_k _ _ _ _ _ _ _ _ (by simp only) (by simp only [headAt]; omega)

theorem blk_v (t : Fin cfg0.N) (k : Fin 8192) (h : Fin 8) (d : Fin 128) :
    (ptBlocks m c t).v (ix2 k (⟨128 * h + d, by omega⟩ : Fin 1024))
      = arr4 m c (ix4 (bOf t) k (headAt t h) d) := by
  show V m c main_v7 (((cfg0.win 3).blk t).view.emb _) = _
  rw [V_kv, emb3]
  exact kvArr_v _ _ _ _ _ _ _ _ (by simp only) (by simp only [headAt]; omega)

theorem blk_kr_lo (t : Fin cfg0.N) (k : Fin 8192) (d : Fin 128) (x : Fin 64) (hd : d.val = x.val) :
    (ptBlocks m c t).kr (ix2 k d) = arr3 m c (ix3 (bOf t) k x) := by
  show V m c main_v11 (((cfg0.win 2).blk t).view.emb _) = _
  rw [V_kr, emb2]
  exact krArr_lo _ _ _ _ _ _ (by simp only) hd
theorem blk_kr_hi (t : Fin cfg0.N) (k : Fin 8192) (d : Fin 128) (hd : 64 ≤ d.val) : (ptBlocks m c t).kr (ix2 k d) = 0 := by
  show V m c main_v11 (((cfg0.win 2).blk t).view.emb _) = _
  rw [V_kr, emb2]
  exact krArr_hi _ _ _ hd

/-- Queries and keys are reals. -/
structure Reals (f0 : S2x8192x16x128.Idx → ℝ) (f1 : S2x8192x16x64.Idx → ℝ) (f2 : S2x8192x16x128.Idx → ℝ) (f3 : S2x8192x64.Idx → ℝ) : Prop where
  h0 : ∀ i, arr0 m c i = (f0 i : EReal)
  h1 : ∀ i, arr1 m c i = (f1 i : EReal)
  h2 : ∀ i, arr2 m c i = (f2 i : EReal)
  h3 : ∀ i, arr3 m c i = (f3 i : EReal)

variable {m c} {f0 : S2x8192x16x128.Idx → ℝ} {f1 : S2x8192x16x64.Idx → ℝ} {f2 : S2x8192x16x128.Idx → ℝ} {f3 : S2x8192x64.Idx → ℝ}

/-- The positional part: the upper 64 lanes are multiplied by zeros. -/
theorem rope_sum (t : Fin cfg0.N) (h : Fin 8) (r : Fin 512) (k : Fin 8192) :
    ∑ d : Fin 128, (ptBlocks m c t).q (ix2 r (⟨256 * h + (128 + d), by omega⟩ : Fin 2048)) * (ptBlocks m c t).kr (ix2 k d)
      = ∑ x : Fin 64, arr3 m c (ix3 (bOf t) k x)
          * arr1 m c (ix4 (bOf t) (posAt t r) (headAt t h) x) := by
  refine (Fin.sum_univ_add (a := 64) (b := 64) _).trans ?_
  have hz : ∀ x : Fin 64, (ptBlocks m c t).kr (ix2 k (Fin.natAdd 64 x)) = 0 := fun x => blk_kr_hi m c t k _ (by simp)
  simp only [hz, mul_zero, Finset.sum_const_zero, add_zero]
  refine Finset.sum_congr rfl fun x _ => ?_
  rw [blk_kr_lo m c t k _ x rfl, mul_comm]
  exact congrArg _ (blk_q_rope m c t r h x)

/-- A score is the scaled dot. -/
theorem score_eq (R : Reals m c f0 f1 f2 f3) (t : Fin cfg0.N) (h : Fin 8) (r : Fin 512) (k : ℕ) :
    (ptBlocks m c t).score h r k
      = ((dot f0 f1 f2 f3 (bOf t) (headAt t h) (posAt t r) (keyRow k) : ℝ) : EReal) * (scale : ℝ) := by
  unfold Blocks.score
  rw [rope_sum]
  simp only [blk_q_nope, blk_kn, R.h0, R.h1, R.h2, R.h3, ← EReal.coe_mul, ← coe_sum, ← EReal.coe_add]
  rfl

theorem below (R : Reals m c f0 f1 f2 f3) (t : Fin cfg0.N) : (ptBlocks m c t).Below := fun h r k => by
  rw [score_eq R, ← EReal.coe_mul]; exact EReal.coe_ne_top _

/-- A point's block of the output is the reference's. -/
theorem outAt_eq (R : Reals m c f0 f1 f2 f3) (t : Fin cfg0.N) (r : Fin 512) (col : Fin 1024) (i : Fin 16384) (n : Fin 2048)
    (hi : i.val = 512 * (16 * (bOf t).val + (qiOf t).val) + r) (hn : n.val = 1024 * (hbOf t).val + col) :
    (ptBlocks m c t).outAt (qiOf t).val r (headOf col) (laneOf col)
      = refOut (F := Ideal) (arr0 m c) (arr1 m c) (arr2 m c)
          (arr3 m c) (arr4 m c) (ix2 i n) := by
  have hb := (bOf t).isLt; have hhb := (hbOf t).isLt; have hq := (qiOf t).isLt
  have e1 : Cert.ReferenceIdeal.Attn.batchOf i = bOf t := Fin.ext (by simp only [Cert.ReferenceIdeal.Attn.batchOf]; omega)
  have e2 : Cert.ReferenceIdeal.Attn.posOf i = posAt t r := Fin.ext (by simp only [Cert.ReferenceIdeal.Attn.posOf, posAt]; omega)
  have e3 : Cert.ReferenceIdeal.Attn.headOf n = headAt t (headOf col) :=
    Fin.ext (by simp only [Cert.ReferenceIdeal.Attn.headOf, headAt, headOf]; omega)
  have e4 : Cert.ReferenceIdeal.Attn.laneOf n = laneOf col :=
    Fin.ext (by simp only [Cert.ReferenceIdeal.Attn.laneOf, laneOf]; omega)
  rw [refOut_apply, e1, e2, e3, e4]
  have hk : ∀ k : Fin 8192, keyRow k.val = k := fun k => Fin.ext (Nat.mod_eq_of_lt k.isLt)
  have hden : (ptBlocks m c t).val (headOf col) ⟨128 + (laneOf col).val, by have := (laneOf col).isLt; omega⟩ = fun _ => 1 := by
    funext k; unfold Blocks.val; rw [dif_neg (by simp)]
  unfold Blocks.outAt Blocks.acAt
  rw [hden]
  refine (quotient_eq (N := 8192) (fun k => k / 64 ≤ (512 * (qiOf t).val + r.val) / 64)
    (fun k => dot f0 f1 f2 f3 (bOf t) (headAt t (headOf col)) (posAt t r) (keyRow k)) _ _
    (fun k => Cert.ReferenceIdeal.Attn.refScores (arr0 m c) (arr1 m c)
      (arr2 m c) (arr3 m c) (ix4 (bOf t) (headAt t (headOf col)) (posAt t r) k))
    _ (fun k => ?_) (fun k => ?_) (by omega) (fun k _ hn => by omega) ⟨512 * (qiOf t).val + r.val, by omega, le_refl _⟩).trans ?_
  · unfold Blocks.msc
    rw [score_eq R]
  · rw [refScores_apply, hk]
    simp only [R.h0, R.h1, R.h2, R.h3, ← EReal.coe_mul, ← coe_sum, ← EReal.coe_add]
    rfl
  · refine Finset.sum_congr rfl fun k _ => ?_
    congr 1
    unfold Blocks.val
    rw [dif_pos (laneOf col).isLt, hk]
    exact blk_v m c t k (headOf col) (laneOf col)

/-- What a point writes back is its block of the reference's result. -/
theorem flushed_eq (R : Reals m c f0 f1 f2 f3) (t : Fin cfg0.N) : (dats m 0 c).flushed 4 t
    = ((cfg0.win 4).blk t).view.read (Elt Ideal) (refOut (F := Ideal) (arr0 m c) (arr1 m c)
        (arr2 m c) (arr3 m c) (arr4 m c)) := by
  rw [flushed4_A]
  funext j
  obtain ⟨r, col, rfl⟩ : ∃ (r : Fin 512) (col : Fin 1024), j = ix2 r col := ⟨j 0, j 1, by funext a; fin_cases a <;> rfl⟩
  refine (out_apply c (grid0.coords t) _ _ _ _ _ _ _ _ _ _ _ _ _ _ _ _ _ _ (below R t) r col).trans ?_
  have hb := (bOf t).isLt; have hhb := (hbOf t).isLt; have hq := (qiOf t).isLt
  refine (outAt_eq R t r col ⟨512 * (16 * (bOf t).val + (qiOf t).val) + r, by omega⟩ ⟨1024 * (hbOf t).val + col, by omega⟩ rfl rfl).trans ?_
  exact congrArg _ (emb4 t r col).symm

/-- The result array after the run is the reference's function of the arguments. -/
theorem final (R : Reals m c f0 f1 f2 f3) : (dats m 0 c).arrAt 4 cfg0.N
    = refOut (F := Ideal) (arr0 m c) (arr1 m c)
        (arr2 m c) (arr3 m c) (arr4 m c) :=
  (dats m 0 c).arrAt_eq_of_cover 4 _ (fun t _ => flushed_eq R t) covered

end Cert.KernelIdeal.Attn

end
-- ==== Proof.Attn.Finite.lean ====
/- THE PRECONDITION, read: where it holds, every query and key is a real. -/
module

public import proofs.«01_k».proof.Pre_finite
public import Idealize.ShloMosaic.Lib.ReduceAll
public import Idealize.ShloMosaic.Lib.Pointwise
public import Idealize.ShloMosaic.PureOps.Ideal.Laws

@[expose] public section

noncomputable section

namespace Cert.Pre_finite.Attn

open Cert.Pre_finite Idealize.ShloMosaic

/-- The shape relations of the precondition's operations. -/
theorem facts : Cert.Pre_finite.Facts where
  bcast_S_S2x8192x16x128 := by decide
  reducesTo_S2x8192x16x128_S_d0_1_2_3 := by decide
  h_S_ := by decide
  bcast_S_S2x8192x16x64 := by decide
  reducesTo_S2x8192x16x64_S_d0_1_2_3 := by decide
  bcast_S_S2x8192x64 := by decide
  reducesTo_S2x8192x64_S_d0_1_2 := by decide

/-- A number whose absolute value is below +∞ is a real. -/
theorem real_of_lt (x : EReal) (h : Ideal.cmp .olt (max x (-x)) (Ideal.ofBits .f32 0x7F800000#32) = 1#1) : x = (x.toReal : EReal) := by
  have e : Ideal.ofBits .f32 0x7F800000#32 = ⊤ := by simp [Ideal.ofBits, Ideal.ieee]
  rw [e] at h
  induction x with
  | bot => simp [Ideal.cmp] at h
  | top => simp [Ideal.cmp] at h
  | coe r => rfl

instance : Subsingleton S_.Idx := ⟨fun a b => funext fun i => i.elim0⟩

/-- An array of reals, of the precondition's test on it. -/
theorem reals_of_all {s : Shape} {axes : List (Fin s.rank)} (x : FVec Ideal s .f32) (hb : S_.BroadcastsInDim s (![] : Fin 0 → Fin s.rank))
    (h : s.ReducesTo axes S_) (hS : 0 < S_.numel)
    (e : Host.reduce IntOp.andi (cmpf .olt (Host.absf x) (broadcastInDim s ![] hb (constant S_ .f32 0x7F800000#32))) (constantI S_ 1 1#1) h hS ix0 = 1#1)
    (i : s.Idx) : x i = ((x i : EReal).toReal : EReal) :=
  real_of_lt (x i) (Host.reduce_andi_all _ _ h hS ix0 e i)

theorem and_split {a b : BitVec 1} (h : IntOp.andi a b = 1#1) : a = 1#1 ∧ b = 1#1 := by
  revert a b; decide

/-- The precondition: queries and keys, with position and without, are reals. -/
theorem reals [Facts] (a0 : FVec Ideal S2x8192x16x128 .f32) (a1 : FVec Ideal S2x8192x16x64 .f32)
    (a2 : FVec Ideal S2x8192x16x128 .f32) (a3 : FVec Ideal S2x8192x64 .f32) (a4 : FVec Ideal S2x8192x16x128 .f32)
    (h : fn (F := Ideal) a0 a1 a2 a3 a4 = fun _ => 1#1) :
    (∀ i, a0 i = ((a0 i : EReal).toReal : EReal)) ∧ (∀ i, a1 i = ((a1 i : EReal).toReal : EReal))
      ∧ (∀ i, a2 i = ((a2 i : EReal).toReal : EReal)) ∧ (∀ i, a3 i = ((a3 i : EReal).toReal : EReal)) := by
  have e := congrFun h ix0
  dsimp only [fn, fn_part1] at e
  obtain ⟨e, e3⟩ := and_split e
  obtain ⟨e, e2⟩ := and_split e
  obtain ⟨e0, e1⟩ := and_split e
  exact ⟨reals_of_all a0 _ _ _ e0, reals_of_all a1 _ _ _ e1, reals_of_all a2 _ _ _ e2, reals_of_all a3 _ _ _ e3⟩

end Cert.Pre_finite.Attn

end
-- ==== Proof.Attn.Algebraic.lean ====
/- THE VALUE CLAIM: of real queries and keys, whatever the values, the kernel and the reference end with equal results. -/
module

public import proofs.«01_k».proof.Defs
public import proofs.«01_k».proof.Proof.Attn.Value
public import proofs.«01_k».proof.Proof.Attn.Finite

@[expose] public section

noncomputable section

namespace Cert.Attn

open Idealize.ShloMosaic Idealize.SL.Sem

instance : Cert.Pre_finite.Facts := Cert.Pre_finite.Attn.facts

/-- Kernel and reference run from equal arguments: both end with the reference's function of them. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Attn.facts) := by
  intro m g m' g' hpre hm
  refine ⟨fun c => Cert.ReferenceIdeal.Attn.refOut (F := Ideal) (Cert.KernelIdeal.Attn.arr0 m c) (Cert.KernelIdeal.Attn.arr1 m c)
    (Cert.KernelIdeal.Attn.arr2 m c) (Cert.KernelIdeal.Attn.arr3 m c) (Cert.KernelIdeal.Attn.arr4 m c), ?_, ?_⟩
  · refine (θ_run _ _ _).mono (fun r h c => ⟨(h c).1.trans ?_, (h c).2⟩) (Cert.KernelIdeal.Value.run_blocks (F := Ideal) m g)
    obtain ⟨h0, h1, h2, h3⟩ := Cert.Pre_finite.Attn.reals _ _ _ _ _ (hpre c)
    exact Cert.KernelIdeal.Attn.final ⟨h0, h1, h2, h3⟩
  · refine (θ_run _ _ _).mono (fun r h c => ⟨(h c).1.trans ?_, (h c).2⟩) (Cert.ReferenceIdeal.Value.run (F := Ideal) m' g')
    refine (Cert.ReferenceIdeal.Attn.res_eq m' c).trans ?_
    obtain ⟨e0, e1, e2, e3, e4⟩ := hm c
    rw [e0, e1, e2, e3, e4]

end Cert.Attn

end
-- ==== Proof.Proj.In.lean ====
/- THE EVEN LAYERS' INPUT PROJECTION: the kernel's blocks of 512 rows, written in four strips of 1024 columns, are the product of the
   rows with the weights. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ReadBack

@[expose] public section

set_option maxRecDepth 16384

noncomputable section

namespace Cert.Kernel2Ideal.Proj

open Cert.Kernel2Ideal Cert.Kernel2Ideal.Gen Cert.Kernel2Ideal.Value Idealize.ShloMosaic Idealize.ShloMosaic.TcCoe Idealize.SL.Sem

/-- Rows times weights, at an index. -/
def prod (x : FVec Ideal S2x8192x2048 .f32) (w : FVec Ideal S2048x4096 .f32) (i : Fin 16384) (n : Fin 4096) : EReal :=
  ∑ k : Fin 2048, x (ix3 (⟨i / 8192, by omega⟩ : Fin 2) (⟨i % 8192, by omega⟩ : Fin 8192) k) * w (ix2 k n)

/-- A strip: its rows' dots with its columns. -/
theorem strip2 (x : Vec Ideal S512x2048 .f32) (w : Vec Ideal S2048x1024 .bf16) (r : Fin 512) (j : Fin 1024) :
    k0_pay2 x w (ix2 r j) = ∑ k : Fin 2048, x (ix2 r k) * w (ix2 k j) := by
  unfold k0_pay2 k0_pay1
  pointwise
theorem strip3 (x : Vec Ideal S512x2048 .f32) (w : Vec Ideal S2048x1024 .bf16) : k0_pay3 x w = k0_pay2 x w := rfl
theorem strip4 (x : Vec Ideal S512x2048 .f32) (w : Vec Ideal S2048x1024 .bf16) : k0_pay4 x w = k0_pay2 x w := rfl
theorem strip5 (x : Vec Ideal S512x2048 .f32) (w : Vec Ideal S2048x1024 .bf16) : k0_pay5 x w = k0_pay2 x w := rfl

/-- A strip loaded from column `o` on is those columns of the block's product. -/
theorem piece (x0 : Vec Ideal S512x2048 .f32) (x1 : Vec Ideal S2048x4096 .bf16) (o : ℕ)
    (inbw : ∀ a, (![0, o] : Fin 2 → ℕ) a + (![2048, 1024] : Fin 2 → ℕ) a ≤ S2048x4096.size a)
    (inb : ∀ a, (![0, o] : Fin 2 → ℕ) a + (![512, 1024] : Fin 2 → ℕ) a ≤ S512x4096.size a)
    (x : (Rect.unit (s := S512x4096) ![0, o] ![512, 1024] inb).shape.Idx) :
    k0_pay2 (View.ld x0 r0_0) (View.ld x1 (Rect.unit (s := S2048x4096) ![0, o] ![2048, 1024] inbw)) x
      = (fun y : S512x4096.Idx => ∑ k : Fin 2048, x0 (ix2 (y 0) k) * x1 (ix2 k (y 1))) ((Rect.unit (s := S512x4096) ![0, o] ![512, 1024] inb).emb x) := by
  obtain ⟨r, j, rfl⟩ : ∃ (r : Fin 512) (j : Fin 1024), x = ix2 r j := ⟨x 0, x 1, by funext a; fin_cases a <;> rfl⟩
  rw [strip2]
  refine Finset.sum_congr rfl fun k _ => ?_
  refine congrArg₂ (· * ·) (congrArg x0 ?_) (congrArg x1 ?_)
  · funext a; apply Fin.ext; match a with
    | ⟨0, _⟩ => show 0 + 1 * r.val = 0 + 1 * r.val; rfl
    | ⟨1, _⟩ => show 0 + 1 * k.val = k.val; omega
  · funext a; apply Fin.ext; match a with
    | ⟨0, _⟩ => show 0 + 1 * k.val = k.val; omega
    | ⟨1, _⟩ => show o + 1 * j.val = o + 1 * j.val; rfl

/-- The block a point stores. -/
theorem out_apply (x0 : Vec Ideal S512x2048 .f32) (x1 : Vec Ideal S2048x4096 .bf16) (r : Fin 512) (n : Fin 4096) :
    out0_2 x0 x1 (ix2 r n) = ∑ k : Fin 2048, x0 (ix2 r k) * x1 (ix2 k n) := by
  have h : View.PiecesOf (Val := Elt Ideal) (e := .bf16) (fun y : S512x4096.Idx => ∑ k : Fin 2048, x0 (ix2 (y 0) k) * x1 (ix2 k (y 1)))
      [⟨r0_8, k0_pay5 (View.ld x0 r0_0) (View.ld x1 r0_7)⟩, ⟨r0_6, k0_pay4 (View.ld x0 r0_0) (View.ld x1 r0_5)⟩,
        ⟨r0_4, k0_pay3 (View.ld x0 r0_0) (View.ld x1 r0_3)⟩, ⟨r0_2, k0_pay2 (View.ld x0 r0_0) (View.ld x1 r0_1)⟩] := by
    rw [strip3, strip4, strip5]
    exact ⟨piece x0 x1 3072 _ inb_S512x4096_S512x1024_0_3072, piece x0 x1 2048 _ inb_S512x4096_S512x1024_0_2048,
      piece x0 x1 1024 _ inb_S512x4096_S512x1024_0_1024, piece x0 x1 0 _ inb_S512x4096_S512x1024_0_0, trivial⟩
  exact View.canon_apply_of_pieces (Val := Elt Ideal) (e := .bf16) (fun y : S512x4096.Idx => ∑ k : Fin 2048, x0 (ix2 (y 0) k) * x1 (ix2 k (y 1)))
    _ h.mem (ix2 r n) (cover0_2 (k0_pay5 (View.ld x0 r0_0) (View.ld x1 r0_7)) (k0_pay4 (View.ld x0 r0_0) (View.ld x1 r0_5))
      (k0_pay3 (View.ld x0 r0_0) (View.ld x1 r0_3)) (k0_pay2 (View.ld x0 r0_0) (View.ld x1 r0_1)) (ix2 r n))

/-- Point t works on the rows from 512·t on and on all the weights. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem lt_points (t : Fin cfg0.N) : t.val < 32 := t.isLt

theorem emb0 (t : Fin cfg0.N) (r : Fin 512) (d : Fin 2048) : ((cfg0.win 0).blk t).view.emb (ix2 r d)
    = (ix2 (⟨512 * t.val + r, by have := lt_points t; omega⟩ : Fin 16384) d) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 2048 + 1 * d.val = d.val; omega
theorem emb1 (t : Fin cfg0.N) (k : Fin 2048) (n : Fin 4096) : ((cfg0.win 1).blk t).view.emb (ix2 k n) = (ix2 k n) := by
  obtain ⟨e0, e1⟩ := index1 t
  funext a; apply Fin.ext
  match a with
  | ⟨0, _⟩ => show win0_1.index t (0 : Fin 2) * 2048 + 1 * k.val = k.val; omega
  | ⟨1, _⟩ => show win0_1.index t (1 : Fin 2) * 4096 + 1 * n.val = n.val; omega
theorem emb2 (t : Fin cfg0.N) (r : Fin 512) (n : Fin 4096) : ((cfg0.win 2).blk t).view.emb (ix2 r n)
    = (ix2 (⟨512 * t.val + r, by have := lt_points t; omega⟩ : Fin 16384) n) := by
  obtain ⟨e0, e1⟩ := index2 t
  funext a; apply Fin.ext
  match a with
  | ⟨0, _⟩ => show win0_2.index t (0 : Fin 2) * 512 + 1 * r.val = 512 * t.val + r.val; omega
  | ⟨1, _⟩ => show win0_2.index t (1 : Fin 2) * 4096 + 1 * n.val = n.val; omega

/-- Every entry of the result is in some point's block. -/
theorem covered (i : S16384x4096.Idx) : ∃ t : Fin cfg0.N, (cfg0.win 2).flush t = true ∧ i ∈ ((cfg0.win 2).blk t).view.set := by
  have hR : (i 0).val < 16384 := (i 0).isLt
  let t : Fin cfg0.N := ⟨(i 0).val / 512, by show _ < 32; omega⟩
  have h := ((cfg0.win 2).blk t).view.emb_mem_set (ix2 (⟨(i 0).val % 512, by omega⟩ : Fin 512) (⟨(i 1).val, (i 1).isLt⟩ : Fin 4096))
  rw [emb2] at h
  refine ⟨t, flush0_2 _, ?_⟩
  have e : i = ix2 (⟨512 * t.val + (i 0).val % 512, by have := lt_points t; omega⟩ : Fin 16384) (⟨(i 1).val, (i 1).isLt⟩ : Fin 4096) := by
    funext a; apply Fin.ext
    match a with
    | ⟨0, _⟩ => show (i 0).val = 512 * ((i 0).val / 512) + (i 0).val % 512; omega
    | ⟨1, _⟩ => rfl
  exact (congrArg (· ∈ ((cfg0.win 2).blk t).view.set) e).mpr h

variable (m : (ℓ : Loc nD τ sig) → Buf (Elt Ideal) ℓ) (c : Dev nD)

/-- The arguments as arrays of extended reals. -/
abbrev arr0 : FVec Ideal S2x8192x2048 .f32 := m ((c : Thread nD τ).loc main_arg0)
abbrev arr1 : FVec Ideal S2048x4096 .f32 := m ((c : Thread nD τ).loc main_arg1)

/-- The rows and the weights as the host code lays them out. -/
theorem V_x (i : Fin 16384) (k : Fin 2048) :
    V m c main_v0 (ix2 i k) = arr0 m c (ix3 (⟨i / 8192, by omega⟩ : Fin 2) (⟨i % 8192, by omega⟩ : Fin 8192) k) := by
  have e : V m c main_v0 = shapeCast S16384x2048 (arr0 m c) shapeCasts_S2x8192x2048_S16384x2048 := by
    show StableHlo.after hostOps0 _ (Proc.devRef .tc main_v0) = _
    after_results
    rfl
  rw [e]
  pointwise
theorem V_w : V m c main_v1 = truncf .bf16 (arr1 m c) bitsLt_bf16_f32 := by
  show StableHlo.after hostOps0 _ (Proc.devRef .tc main_v1) = _
  after_results

/-- What a point writes back is its block of the product. -/
theorem flushed_eq (t : Fin cfg0.N) : (dats m 0 c).flushed 2 t
    = ((cfg0.win 2).blk t).view.read (Elt Ideal) (fun i : S16384x4096.Idx => prod (arr0 m c) (arr1 m c) (i 0) (i 1)) := by
  rw [flushed2]
  funext j
  obtain ⟨r, n, rfl⟩ : ∃ (r : Fin 512) (n : Fin 4096), j = ix2 r n := ⟨j 0, j 1, by funext a; fin_cases a <;> rfl⟩
  refine (out_apply _ _ r n).trans ?_
  refine Eq.trans ?_ (congrArg (fun i : S16384x4096.Idx => prod (arr0 m c) (arr1 m c) (i 0) (i 1)) (emb2 t r n)).symm
  refine Finset.sum_congr rfl fun k _ => congrArg₂ (· * ·) ?_ ?_
  · show V m c main_v0 (((cfg0.win 0).blk t).view.emb (ix2 r k)) = _
    rw [emb0, V_x]
    rfl
  · show V m c main_v1 (((cfg0.win 1).blk t).view.emb (ix2 k n)) = _
    rw [emb1, V_w]
    rfl

/-- The result after the run. -/
theorem final : (dats m 0 c).arrAt 2 cfg0.N = fun i : S16384x4096.Idx => prod (arr0 m c) (arr1 m c) (i 0) (i 1) :=
  (dats m 0 c).arrAt_eq_of_cover 2 _ (fun t _ => flushed_eq m c t) covered

/-- The reference's result is the product. -/
theorem ref_eq (x : FVec Ideal S2x8192x2048 .f32) (w : FVec Ideal S2048x4096 .f32) :
    truncf (F := Ideal) .bf16 (shapeCast _ (Host.dotGeneral Cert.Reference2Ideal.dot_S2x8192x2048_S2048x4096_S2x8192x4096_2_0_01_1_n_n none x w)
      Cert.Reference2Ideal.Gen.facts.shapeCasts_S2x8192x4096_S16384x4096) Cert.Reference2Ideal.Gen.facts.bitsLt_bf16_f32
      = fun i : S16384x4096.Idx => prod x w (i 0) (i 1) := by
  funext i
  obtain ⟨r, n, rfl⟩ : ∃ (r : Fin 16384) (n : Fin 4096), i = ix2 r n := ⟨i 0, i 1, by funext a; fin_cases a <;> rfl⟩
  pointwise
  rfl

/-- Kernel and reference run from equal arguments: both end with the product. -/
theorem algebraic : Cert.algebraic_Kernel2Ideal_Reference2Ideal (hKernel2Ideal := Cert.Kernel2Ideal.Gen.facts)
    (hReference2Ideal := Cert.Reference2Ideal.Gen.facts) := by
  intro m g m' g' _ hm
  refine ⟨fun c => fun i : S16384x4096.Idx => prod (arr0 m c) (arr1 m c) (i 0) (i 1), ?_, ?_⟩
  · exact (θ_run _ _ _).mono (fun r h c => ⟨(h c).1.trans (final m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    refine (ref_eq _ _).trans ?_
    obtain ⟨e0, e1⟩ := hm c
    rw [e0, e1]

end Cert.Kernel2Ideal.Proj

end
-- ==== Proof.Proj.KeysValues.lean ====
/- THE LATENTS' PROJECTION TO KEYS AND VALUES: the kernel's blocks of 512 rows, written in four strips of 1024 columns, are the products
   of the latents with the keys' weights beside the values' weights. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ReadBack

@[expose] public section

set_option maxRecDepth 16384

noncomputable section

namespace Cert.Kernel3Ideal.Proj

open Cert.Kernel3Ideal Cert.Kernel3Ideal.Gen Cert.Kernel3Ideal.Value Idealize.ShloMosaic Idealize.ShloMosaic.TcCoe Idealize.SL.Sem

/-- The keys' weights beside the values'. -/
def both (wk wv : FVec Ideal S512x2048 .f32) (k : Fin 512) (n : Fin 4096) : EReal :=
  if h : n.val < 2048 then wk (ix2 k ⟨n, h⟩) else wv (ix2 k (⟨n - 2048, by omega⟩ : Fin 2048))

/-- Latents times weights, at an index. -/
def prod (x : FVec Ideal S2x8192x512 .f32) (wk wv : FVec Ideal S512x2048 .f32) (i : Fin 16384) (n : Fin 4096) : EReal :=
  ∑ k : Fin 512, x (ix3 (⟨i / 8192, by omega⟩ : Fin 2) (⟨i % 8192, by omega⟩ : Fin 8192) k) * both wk wv k n

/-- A strip: its rows' dots with its columns. -/
theorem strip2 (x : Vec Ideal S512x512 .bf16) (w : Vec Ideal S512x1024 .bf16) (r : Fin 512) (j : Fin 1024) :
    k0_pay2 x w (ix2 r j) = ∑ k : Fin 512, x (ix2 r k) * w (ix2 k j) := by
  unfold k0_pay2 k0_pay1
  pointwise
theorem strip3 (x : Vec Ideal S512x512 .bf16) (w : Vec Ideal S512x1024 .bf16) : k0_pay3 x w = k0_pay2 x w := rfl
theorem strip4 (x : Vec Ideal S512x512 .bf16) (w : Vec Ideal S512x1024 .bf16) : k0_pay4 x w = k0_pay2 x w := rfl
theorem strip5 (x : Vec Ideal S512x512 .bf16) (w : Vec Ideal S512x1024 .bf16) : k0_pay5 x w = k0_pay2 x w := rfl

/-- A strip loaded from column `o` on is those columns of the block's product. -/
theorem piece (x0 : Vec Ideal S512x512 .bf16) (x1 : Vec Ideal S512x4096 .bf16) (o : ℕ)
    (inbw : ∀ a, (![0, o] : Fin 2 → ℕ) a + (![512, 1024] : Fin 2 → ℕ) a ≤ S512x4096.size a)
    (inb : ∀ a, (![0, o] : Fin 2 → ℕ) a + (![512, 1024] : Fin 2 → ℕ) a ≤ S512x4096.size a)
    (x : (Rect.unit (s := S512x4096) ![0, o] ![512, 1024] inb).shape.Idx) :
    k0_pay2 (View.ld x0 r0_0) (View.ld x1 (Rect.unit (s := S512x4096) ![0, o] ![512, 1024] inbw)) x
      = (fun y : S512x4096.Idx => ∑ k : Fin 512, x0 (ix2 (y 0) k) * x1 (ix2 k (y 1))) ((Rect.unit (s := S512x4096) ![0, o] ![512, 1024] inb).emb x) := by
  obtain ⟨r, j, rfl⟩ : ∃ (r : Fin 512) (j : Fin 1024), x = ix2 r j := ⟨x 0, x 1, by funext a; fin_cases a <;> rfl⟩
  rw [strip2]
  refine Finset.sum_congr rfl fun k _ => ?_
  refine congrArg₂ (· * ·) (congrArg x0 ?_) (congrArg x1 ?_)
  · funext a; apply Fin.ext; match a with
    | ⟨0, _⟩ => show 0 + 1 * r.val = 0 + 1 * r.val; rfl
    | ⟨1, _⟩ => show 0 + 1 * k.val = k.val; omega
  · funext a; apply Fin.ext; match a with
    | ⟨0, _⟩ => show 0 + 1 * k.val = k.val; omega
    | ⟨1, _⟩ => show o + 1 * j.val = o + 1 * j.val; rfl

/-- The block a point stores. -/
theorem out_apply (x0 : Vec Ideal S512x512 .bf16) (x1 : Vec Ideal S512x4096 .bf16) (r : Fin 512) (n : Fin 4096) :
    out0_2 x0 x1 (ix2 r n) = ∑ k : Fin 512, x0 (ix2 r k) * x1 (ix2 k n) := by
  have h : View.PiecesOf (Val := Elt Ideal) (e := .bf16) (fun y : S512x4096.Idx => ∑ k : Fin 512, x0 (ix2 (y 0) k) * x1 (ix2 k (y 1)))
      [⟨r0_4, k0_pay5 (View.ld x0 r0_0) (View.ld x1 r0_4)⟩, ⟨r0_3, k0_pay4 (View.ld x0 r0_0) (View.ld x1 r0_3)⟩,
        ⟨r0_2, k0_pay3 (View.ld x0 r0_0) (View.ld x1 r0_2)⟩, ⟨r0_1, k0_pay2 (View.ld x0 r0_0) (View.ld x1 r0_1)⟩] := by
    rw [strip3, strip4, strip5]
    exact ⟨piece x0 x1 3072 _ inb_S512x4096_S512x1024_0_3072, piece x0 x1 2048 _ inb_S512x4096_S512x1024_0_2048,
      piece x0 x1 1024 _ inb_S512x4096_S512x1024_0_1024, piece x0 x1 0 _ inb_S512x4096_S512x1024_0_0, trivial⟩
  exact View.canon_apply_of_pieces (Val := Elt Ideal) (e := .bf16) (fun y : S512x4096.Idx => ∑ k : Fin 512, x0 (ix2 (y 0) k) * x1 (ix2 k (y 1)))
    _ h.mem (ix2 r n) (cover0_2 (k0_pay5 (View.ld x0 r0_0) (View.ld x1 r0_4)) (k0_pay4 (View.ld x0 r0_0) (View.ld x1 r0_3))
      (k0_pay3 (View.ld x0 r0_0) (View.ld x1 r0_2)) (k0_pay2 (View.ld x0 r0_0) (View.ld x1 r0_1)) (ix2 r n))

/-- Point t works on the rows from 512·t on and on all the weights. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem lt_points (t : Fin cfg0.N) : t.val < 32 := t.isLt

theorem emb0 (t : Fin cfg0.N) (r : Fin 512) (d : Fin 512) : ((cfg0.win 0).blk t).view.emb (ix2 r d)
    = (ix2 (⟨512 * t.val + r, by have := lt_points t; omega⟩ : Fin 16384) d) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 512 + 1 * d.val = d.val; omega
theorem emb1 (t : Fin cfg0.N) (k : Fin 512) (n : Fin 4096) : ((cfg0.win 1).blk t).view.emb (ix2 k n) = (ix2 k n) := by
  obtain ⟨e0, e1⟩ := index1 t
  funext a; apply Fin.ext
  match a with
  | ⟨0, _⟩ => show win0_1.index t (0 : Fin 2) * 512 + 1 * k.val = k.val; omega
  | ⟨1, _⟩ => show win0_1.index t (1 : Fin 2) * 4096 + 1 * n.val = n.val; omega
theorem emb2 (t : Fin cfg0.N) (r : Fin 512) (n : Fin 4096) : ((cfg0.win 2).blk t).view.emb (ix2 r n)
    = (ix2 (⟨512 * t.val + r, by have := lt_points t; omega⟩ : Fin 16384) n) := by
  obtain ⟨e0, e1⟩ := index2 t
  funext a; apply Fin.ext
  match a with
  | ⟨0, _⟩ => show win0_2.index t (0 : Fin 2) * 512 + 1 * r.val = 512 * t.val + r.val; omega
  | ⟨1, _⟩ => show win0_2.index t (1 : Fin 2) * 4096 + 1 * n.val = n.val; omega

/-- Every entry of the result is in some point's block. -/
theorem covered (i : S16384x4096.Idx) : ∃ t : Fin cfg0.N, (cfg0.win 2).flush t = true ∧ i ∈ ((cfg0.win 2).blk t).view.set := by
  have hR : (i 0).val < 16384 := (i 0).isLt
  let t : Fin cfg0.N := ⟨(i 0).val / 512, by show _ < 32; omega⟩
  have h := ((cfg0.win 2).blk t).view.emb_mem_set (ix2 (⟨(i 0).val % 512, by omega⟩ : Fin 512) (⟨(i 1).val, (i 1).isLt⟩ : Fin 4096))
  rw [emb2] at h
  refine ⟨t, flush0_2 _, ?_⟩
  have e : i = ix2 (⟨512 * t.val + (i 0).val % 512, by have := lt_points t; omega⟩ : Fin 16384) (⟨(i 1).val, (i 1).isLt⟩ : Fin 4096) := by
    funext a; apply Fin.ext
    match a with
    | ⟨0, _⟩ => show (i 0).val = 512 * ((i 0).val / 512) + (i 0).val % 512; omega
    | ⟨1, _⟩ => rfl
  exact (congrArg (· ∈ ((cfg0.win 2).blk t).view.set) e).mpr h

variable (m : (ℓ : Loc nD τ sig) → Buf (Elt Ideal) ℓ) (c : Dev nD)

/-- The arguments as arrays of extended reals. -/
abbrev arr0 : FVec Ideal S2x8192x512 .f32 := m ((c : Thread nD τ).loc main_arg0)
abbrev arr1 : FVec Ideal S512x2048 .f32 := m ((c : Thread nD τ).loc main_arg1)
abbrev arr2 : FVec Ideal S512x2048 .f32 := m ((c : Thread nD τ).loc main_arg2)

/-- The latents and the weights as the host code lays them out. -/
theorem V_x (i : Fin 16384) (k : Fin 512) :
    V m c main_v1 (ix2 i k) = arr0 m c (ix3 (⟨i / 8192, by omega⟩ : Fin 2) (⟨i % 8192, by omega⟩ : Fin 8192) k) := by
  have e : V m c main_v1 = truncf .bf16 (shapeCast S16384x512 (arr0 m c) shapeCasts_S2x8192x512_S16384x512) bitsLt_bf16_f32 := by
    show StableHlo.after hostOps0 _ (Proc.devRef .tc main_v1) = _
    after_results
    rfl
  rw [e]
  pointwise
theorem V_w (k : Fin 512) (n : Fin 4096) : V m c main_v3 (ix2 k n) = both (arr1 m c) (arr2 m c) k n := by
  have e : V m c main_v3 = truncf .bf16 (concatenate S512x4096 1 [⟨S512x2048, arr1 m c⟩, ⟨S512x2048, arr2 m c⟩]
      concatenates_S512x2048_S512x2048_S512x4096_d1) bitsLt_bf16_f32 := by
    show StableHlo.after hostOps0 _ (Proc.devRef .tc main_v3) = _
    after_results
  rw [e]
  pointwise
  rfl

/-- What a point writes back is its block of the product. -/
theorem flushed_eq (t : Fin cfg0.N) : (dats m 0 c).flushed 2 t
    = ((cfg0.win 2).blk t).view.read (Elt Ideal) (fun i : S16384x4096.Idx => prod (arr0 m c) (arr1 m c) (arr2 m c) (i 0) (i 1)) := by
  rw [flushed2]
  funext j
  obtain ⟨r, n, rfl⟩ : ∃ (r : Fin 512) (n : Fin 4096), j = ix2 r n := ⟨j 0, j 1, by funext a; fin_cases a <;> rfl⟩
  refine (out_apply _ _ r n).trans ?_
  refine Eq.trans ?_ (congrArg (fun i : S16384x4096.Idx => prod (arr0 m c) (arr1 m c) (arr2 m c) (i 0) (i 1)) (emb2 t r n)).symm
  refine Finset.sum_congr rfl fun k _ => congrArg₂ (· * ·) ?_ ?_
  · show V m c main_v1 (((cfg0.win 0).blk t).view.emb (ix2 r k)) = _
    rw [emb0, V_x]
    rfl
  · show V m c main_v3 (((cfg0.win 1).blk t).view.emb (ix2 k n)) = _
    rw [emb1, V_w]
    rfl

/-- The result after the run. -/
theorem final : (dats m 0 c).arrAt 2 cfg0.N = fun i : S16384x4096.Idx => prod (arr0 m c) (arr1 m c) (arr2 m c) (i 0) (i 1) :=
  (dats m 0 c).arrAt_eq_of_cover 2 _ (fun t _ => flushed_eq m c t) covered

/-- The reference's result is the product. -/
theorem ref_eq (x : FVec Ideal S2x8192x512 .f32) (wk wv : FVec Ideal S512x2048 .f32) :
    truncf (F := Ideal) .bf16 (shapeCast _ (concatenate Cert.Reference3Ideal.S2x8192x4096 2
      [⟨Cert.Reference3Ideal.S2x8192x2048, Host.dotGeneral Cert.Reference3Ideal.dot_S2x8192x512_S512x2048_S2x8192x2048_2_0_01_1_n_n none x wk⟩,
       ⟨Cert.Reference3Ideal.S2x8192x2048, Host.dotGeneral Cert.Reference3Ideal.dot_S2x8192x512_S512x2048_S2x8192x2048_2_0_01_1_n_n none x wv⟩]
      Cert.Reference3Ideal.Gen.facts.concatenates_S2x8192x2048_S2x8192x2048_S2x8192x4096_d2)
      Cert.Reference3Ideal.Gen.facts.shapeCasts_S2x8192x4096_S16384x4096) Cert.Reference3Ideal.Gen.facts.bitsLt_bf16_f32
      = fun i : S16384x4096.Idx => prod x wk wv (i 0) (i 1) := by
  funext i
  obtain ⟨r, n, rfl⟩ : ∃ (r : Fin 16384) (n : Fin 4096), i = ix2 r n := ⟨i 0, i 1, by funext a; fin_cases a <;> rfl⟩
  pointwise
  unfold prod both
  show _ = ∑ k : Fin 512, x (ix3 (⟨r / 8192, by omega⟩ : Fin 2) (⟨r % 8192, by omega⟩ : Fin 8192) k)
    * (if h : n.val < 2048 then wk (ix2 k ⟨n, h⟩) else wv (ix2 k (⟨n - 2048, by omega⟩ : Fin 2048)))
  split <;> rfl

/-- Kernel and reference run from equal arguments: both end with the product. -/
theorem algebraic : Cert.algebraic_Kernel3Ideal_Reference3Ideal (hKernel3Ideal := Cert.Kernel3Ideal.Gen.facts)
    (hReference3Ideal := Cert.Reference3Ideal.Gen.facts) := by
  intro m g m' g' _ hm
  refine ⟨fun c => fun i : S16384x4096.Idx => prod (arr0 m c) (arr1 m c) (arr2 m c) (i 0) (i 1), ?_, ?_⟩
  · exact (θ_run _ _ _).mono (fun r h c => ⟨(h c).1.trans (final m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    refine (ref_eq _ _ _).trans ?_
    obtain ⟨e0, e1, e2⟩ := hm c
    rw [e0, e1, e2]

end Cert.Kernel3Ideal.Proj

end
-- ==== Proof.Proj.QueryBlock.lean ====
/- THE ROTARY QUERIES, A BLOCK: what a point of the query projection stores. Each head has 256 lanes. The first 128 are plain dots of
   the row with the head's weights. The last 128 are dots too, combined with two turned copies of themselves by three tables. -/
module

public import proofs.«01_k».proof.Defs
public import proofs.«01_k».proof.Proof.Gen.Kernel4Ideal.Value
public import Idealize.ShloMosaic.Lib.Pointwise
public import Idealize.ShloMosaic.Lib.Pipeline.ReadBack

@[expose] public section

set_option maxRecDepth 16384

noncomputable section

namespace Cert.Kernel4Ideal.Proj

open Cert.Kernel4Ideal Cert.Kernel4Ideal.Gen Cert.Kernel4Ideal.Value Idealize.ShloMosaic Idealize.ShloMosaic.TcCoe Idealize.SL.Sem

/-- A head's first 128 lanes: plain dots. -/
theorem plain_apply (x : Vec Ideal S512x512 .bf16) (w : Vec Ideal S512x256 .bf16) (r : Fin 512) (l : Fin 128) :
    k0_pay11 x w (ix2 r l) = ∑ k : Fin 512, x (ix2 r k) * w (ix2 k (⟨l, by omega⟩ : Fin 256)) := by
  unfold k0_pay11 k0_pay10
  pointwise

/-- A head's last 128 lanes: the dots and their copies turned by 32 and by 96, each times a table's entry. -/
theorem turned_apply (x : Vec Ideal S512x512 .bf16) (w : Vec Ideal S512x256 .bf16) (c su sd : Vec Ideal S512x128 .f32) (r : Fin 512) (l : Fin 128) :
    k0_pay12 x w c su sd (ix2 r l)
      = (∑ k : Fin 512, x (ix2 r k) * w (ix2 k (⟨128 + l, by omega⟩ : Fin 256))) * c (ix2 r l)
        + (∑ k : Fin 512, x (ix2 r k) * w (ix2 k (⟨128 + (l + 128 - 32) % 128, by omega⟩ : Fin 256))) * su (ix2 r l)
        + (∑ k : Fin 512, x (ix2 r k) * w (ix2 k (⟨128 + (l + 128 - 96) % 128, by omega⟩ : Fin 256))) * sd (ix2 r l) := by
  unfold k0_pay12 k0_pay10
  pointwise

/-- A dot of a row with a column. -/
def dots (x : Vec Ideal S512x512 .bf16) (w : Vec Ideal S512x4096 .bf16) (r : Fin 512) (n : Fin 4096) : EReal :=
  ∑ k : Fin 512, x (ix2 r k) * w (ix2 k n)

/-- The block, at an index: by the place within the head. -/
def block (x : Vec Ideal S512x512 .bf16) (w : Vec Ideal S512x4096 .bf16) (c su sd : Vec Ideal S512x128 .f32) (r : Fin 512) (n : Fin 4096) : EReal :=
  if n.val % 256 < 128 then dots x w r n
  else dots x w r n * c (ix2 r (⟨n.val % 128, by omega⟩ : Fin 128))
    + dots x w r ⟨n.val / 128 * 128 + (n.val % 128 + 128 - 32) % 128, by omega⟩ * su (ix2 r (⟨n.val % 128, by omega⟩ : Fin 128))
    + dots x w r ⟨n.val / 128 * 128 + (n.val % 128 + 128 - 96) % 128, by omega⟩ * sd (ix2 r (⟨n.val % 128, by omega⟩ : Fin 128))

/-- Weights loaded from column `o` on, read at a column. -/
theorem ld_w (w : Vec Ideal S512x4096 .bf16) (o : ℕ) (inb : ∀ a, (![0, o] : Fin 2 → ℕ) a + (![512, 256] : Fin 2 → ℕ) a ≤ S512x4096.size a)
    (k : Fin 512) (j : Fin 256) (n : Fin 4096) (hn : n.val = o + j.val) :
    View.ld w (Rect.unit (s := S512x4096) ![0, o] ![512, 256] inb) (ix2 k j) = w (ix2 k n) := by
  refine congrArg w ?_
  funext a; apply Fin.ext; match a with
  | ⟨0, _⟩ => show 0 + 1 * k.val = k.val; omega
  | ⟨1, _⟩ => show o + 1 * j.val = n.val; omega
theorem ld_x (x : Vec Ideal S512x512 .bf16) (r k : Fin 512) : k0_pay2 (View.ld x r0_0) (ix2 r k) = x (ix2 r k) := by
  unfold k0_pay2
  pointwise
theorem ld_t (c : Vec Ideal S512x128 .f32) (r : Fin 512) (l : Fin 128) : View.ld c r0_3 (ix2 r l) = c (ix2 r l) := by
  refine congrArg c ?_
  funext a; apply Fin.ext; match a with
  | ⟨0, _⟩ => show 0 + 1 * r.val = r.val; omega
  | ⟨1, _⟩ => show 0 + 1 * l.val = l.val; omega

/-- A head's two strips are those lanes of the block. -/
theorem piece_plain (x : Vec Ideal S512x512 .bf16) (w : Vec Ideal S512x4096 .bf16) (c su sd : Vec Ideal S512x128 .f32) (o : ℕ) (ho : o % 256 = 0)
    (inbw : ∀ a, (![0, o] : Fin 2 → ℕ) a + (![512, 256] : Fin 2 → ℕ) a ≤ S512x4096.size a)
    (inb : ∀ a, (![0, o] : Fin 2 → ℕ) a + (![512, 128] : Fin 2 → ℕ) a ≤ S512x4096.size a)
    (i : (Rect.unit (s := S512x4096) ![0, o] ![512, 128] inb).shape.Idx) :
    k0_pay11 (k0_pay2 (View.ld x r0_0)) (View.ld w (Rect.unit (s := S512x4096) ![0, o] ![512, 256] inbw)) i
      = (fun y : S512x4096.Idx => block x w c su sd (y 0) (y 1)) ((Rect.unit (s := S512x4096) ![0, o] ![512, 128] inb).emb i) := by
  obtain ⟨r, l, rfl⟩ : ∃ (r : Fin 512) (l : Fin 128), i = ix2 r l := ⟨i 0, i 1, by funext a; fin_cases a <;> rfl⟩
  have hb : o + 256 ≤ 4096 := inbw 1
  have e : (Rect.unit (s := S512x4096) ![0, o] ![512, 128] inb).emb (ix2 r l) = ix2 r (⟨o + l, by omega⟩ : Fin 4096) := by
    funext a; apply Fin.ext; match a with
    | ⟨0, _⟩ => show 0 + 1 * r.val = r.val; omega
    | ⟨1, _⟩ => show o + 1 * l.val = o + l.val; omega
  rw [plain_apply, e]
  show _ = block x w c su sd r ⟨o + l, by omega⟩
  rw [block, if_pos (by show (o + l.val) % 256 < 128; omega)]
  exact Finset.sum_congr rfl fun k _ => congrArg₂ (· * ·) (ld_x x r k) (ld_w w o inbw k _ _ rfl)
theorem piece_turned (x : Vec Ideal S512x512 .bf16) (w : Vec Ideal S512x4096 .bf16) (c su sd : Vec Ideal S512x128 .f32) (o p : ℕ) (ho : o % 256 = 0) (hp : p = o + 128)
    (inbw : ∀ a, (![0, o] : Fin 2 → ℕ) a + (![512, 256] : Fin 2 → ℕ) a ≤ S512x4096.size a)
    (inb : ∀ a, (![0, p] : Fin 2 → ℕ) a + (![512, 128] : Fin 2 → ℕ) a ≤ S512x4096.size a)
    (i : (Rect.unit (s := S512x4096) ![0, p] ![512, 128] inb).shape.Idx) :
    k0_pay12 (k0_pay2 (View.ld x r0_0)) (View.ld w (Rect.unit (s := S512x4096) ![0, o] ![512, 256] inbw)) (View.ld c r0_3) (View.ld su r0_3) (View.ld sd r0_3) i
      = (fun y : S512x4096.Idx => block x w c su sd (y 0) (y 1)) ((Rect.unit (s := S512x4096) ![0, p] ![512, 128] inb).emb i) := by
  obtain ⟨r, l, rfl⟩ : ∃ (r : Fin 512) (l : Fin 128), i = ix2 r l := ⟨i 0, i 1, by funext a; fin_cases a <;> rfl⟩
  have hb : o + 256 ≤ 4096 := inbw 1
  have e : (Rect.unit (s := S512x4096) ![0, p] ![512, 128] inb).emb (ix2 r l) = ix2 r (⟨p + l, by omega⟩ : Fin 4096) := by
    funext a; apply Fin.ext; match a with
    | ⟨0, _⟩ => show 0 + 1 * r.val = r.val; omega
    | ⟨1, _⟩ => show p + 1 * l.val = p + l.val; omega
  have hl : (⟨(p + l.val) % 128, by omega⟩ : Fin 128) = l := Fin.ext (by show (p + l.val) % 128 = l.val; omega)
  rw [turned_apply, e]
  show _ = block x w c su sd r ⟨p + l, by omega⟩
  rw [block, if_neg (by show ¬ (p + l.val) % 256 < 128; omega)]
  refine congrArg₂ (· + ·) (congrArg₂ (· + ·) (congrArg₂ (· * ·) ?_ ?_) (congrArg₂ (· * ·) ?_ ?_)) (congrArg₂ (· * ·) ?_ ?_)
  · exact Finset.sum_congr rfl fun k _ => congrArg₂ (· * ·) (ld_x x r k) (ld_w w o inbw k _ _ (by show p + l.val = o + (128 + l.val); omega))
  · rw [ld_t]; exact (congrArg (fun z => c (ix2 r z)) hl).symm
  · exact Finset.sum_congr rfl fun k _ => congrArg₂ (· * ·) (ld_x x r k) (ld_w w o inbw k _ _ (by
      show (p + l.val) / 128 * 128 + ((p + l.val) % 128 + 128 - 32) % 128 = o + (128 + (l.val + 128 - 32) % 128); omega))
  · rw [ld_t]; exact (congrArg (fun z => su (ix2 r z)) hl).symm
  · exact Finset.sum_congr rfl fun k _ => congrArg₂ (· * ·) (ld_x x r k) (ld_w w o inbw k _ _ (by
      show (p + l.val) / 128 * 128 + ((p + l.val) % 128 + 128 - 96) % 128 = o + (128 + (l.val + 128 - 96) % 128); omega))
  · rw [ld_t]; exact (congrArg (fun z => sd (ix2 r z)) hl).symm

/-- Every head's strips are computed alike. -/
theorem alike31 (x0 : Vec Ideal S512x512 .bf16) (x1 : Vec Ideal S512x4096 .bf16) (x2 x3 x4 : Vec Ideal S512x128 .f32) : k0_pay1 (k0_pay60 (k0_pay62 x0 x1 x2 x3 x4) (View.ld x1 r0_47)) (View.ld x2 r0_3) (View.ld x3 r0_3) (View.ld x4 r0_3)
    = k0_pay12 (k0_pay2 (View.ld x0 r0_0)) (View.ld x1 r0_47) (View.ld x2 r0_3) (View.ld x3 r0_3) (View.ld x4 r0_3) := rfl
theorem alike30 (x0 : Vec Ideal S512x512 .bf16) (x1 : Vec Ideal S512x4096 .bf16) (x2 x3 x4 : Vec Ideal S512x128 .f32) : k0_pay61 (k0_pay62 x0 x1 x2 x3 x4) (View.ld x1 r0_47)
    = k0_pay11 (k0_pay2 (View.ld x0 r0_0)) (View.ld x1 r0_47) := rfl
theorem alike29 (x0 : Vec Ideal S512x512 .bf16) (x1 : Vec Ideal S512x4096 .bf16) (x2 x3 x4 : Vec Ideal S512x128 .f32) : k0_pay59 (k0_pay62 x0 x1 x2 x3 x4) (View.ld x1 r0_44) (View.ld x2 r0_3) (View.ld x3 r0_3) (View.ld x4 r0_3)
    = k0_pay12 (k0_pay2 (View.ld x0 r0_0)) (View.ld x1 r0_44) (View.ld x2 r0_3) (View.ld x3 r0_3) (View.ld x4 r0_3) := rfl
theorem alike28 (x0 : Vec Ideal S512x512 .bf16) (x1 : Vec Ideal S512x4096 .bf16) (x2 x3 x4 : Vec Ideal S512x128 .f32) : k0_pay58 (k0_pay62 x0 x1 x2 x3 x4) (View.ld x1 r0_44)
    = k0_pay11 (k0_pay2 (View.ld x0 r0_0)) (View.ld x1 r0_44) := rfl
theorem alike27 (x0 : Vec Ideal S512x512 .bf16) (x1 : Vec Ideal S512x4096 .bf16) (x2 x3 x4 : Vec Ideal S512x128 .f32) : k0_pay56 (k0_pay54 (k0_pay62 x0 x1 x2 x3 x4) (View.ld x1 r0_41)) (k0_pay55 (k0_pay62 x0 x1 x2 x3 x4) (View.ld x1 r0_41) (View.ld x2 r0_3) (View.ld x3 r0_3)) 96#32 (View.ld x4 r0_3)
    = k0_pay12 (k0_pay2 (View.ld x0 r0_0)) (View.ld x1 r0_41) (View.ld x2 r0_3) (View.ld x3 r0_3) (View.ld x4 r0_3) := rfl
theorem alike26 (x0 : Vec Ideal S512x512 .bf16) (x1 : Vec Ideal S512x4096 .bf16) (x2 x3 x4 : Vec Ideal S512x128 .f32) : k0_pay53 (k0_pay62 x0 x1 x2 x3 x4) (View.ld x1 r0_41)
    = k0_pay11 (k0_pay2 (View.ld x0 r0_0)) (View.ld x1 r0_41) := rfl
theorem alike25 (x0 : Vec Ideal S512x512 .bf16) (x1 : Vec Ideal S512x4096 .bf16) (x2 x3 x4 : Vec Ideal S512x128 .f32) : k0_pay51 (k0_pay63 x0 x1 x2 x3 x4) (View.ld x2 r0_3) (View.ld x3 r0_3) (View.ld x4 r0_3)
    = k0_pay12 (k0_pay2 (View.ld x0 r0_0)) (View.ld x1 r0_38) (View.ld x2 r0_3) (View.ld x3 r0_3) (View.ld x4 r0_3) := rfl
theorem alike24 (x0 : Vec Ideal S512x512 .bf16) (x1 : Vec Ideal S512x4096 .bf16) (x2 x3 x4 : Vec Ideal S512x128 .f32) : k0_pay50 (k0_pay63 x0 x1 x2 x3 x4)
    = k0_pay11 (k0_pay2 (View.ld x0 r0_0)) (View.ld x1 r0_38) := rfl
theorem alike23 (x0 : Vec Ideal S512x512 .bf16) (x1 : Vec Ideal S512x4096 .bf16) (x2 x3 x4 : Vec Ideal S512x128 .f32) : k0_pay48 (k0_pay62 x0 x1 x2 x3 x4) (View.ld x1 r0_35) (View.ld x2 r0_3) (View.ld x3 r0_3) (View.ld x4 r0_3)
    = k0_pay12 (k0_pay2 (View.ld x0 r0_0)) (View.ld x1 r0_35) (View.ld x2 r0_3) (View.ld x3 r0_3) (View.ld x4 r0_3) := rfl
theorem alike22 (x0 : Vec Ideal S512x512 .bf16) (x1 : Vec Ideal S512x4096 .bf16) (x2 x3 x4 : Vec Ideal S512x128 .f32) : k0_pay47 (k0_pay62 x0 x1 x2 x3 x4) (View.ld x1 r0_35)
    = k0_pay11 (k0_pay2 (View.ld x0 r0_0)) (View.ld x1 r0_35) := rfl
theorem alike21 (x0 : Vec Ideal S512x512 .bf16) (x1 : Vec Ideal S512x4096 .bf16) (x2 x3 x4 : Vec Ideal S512x128 .f32) : k0_pay45 (k0_pay41 (k0_pay62 x0 x1 x2 x3 x4) (View.ld x1 r0_32)) (k0_pay42 (k0_pay62 x0 x1 x2 x3 x4) (View.ld x1 r0_32) (View.ld x2 r0_3)) (k0_pay43 (k0_pay62 x0 x1 x2 x3 x4) (View.ld x1 r0_32)) (k0_pay44 (View.ld x3 r0_3)) (View.ld x4 r0_3)
    = k0_pay12 (k0_pay2 (View.ld x0 r0_0)) (View.ld x1 r0_32) (View.ld x2 r0_3) (View.ld x3 r0_3) (View.ld x4 r0_3) := rfl
theorem alike20 (x0 : Vec Ideal S512x512 .bf16) (x1 : Vec Ideal S512x4096 .bf16) (x2 x3 x4 : Vec Ideal S512x128 .f32) : k0_pay40 (k0_pay62 x0 x1 x2 x3 x4) (View.ld x1 r0_32)
    = k0_pay11 (k0_pay2 (View.ld x0 r0_0)) (View.ld x1 r0_32) := rfl
theorem alike19 (x0 : Vec Ideal S512x512 .bf16) (x1 : Vec Ideal S512x4096 .bf16) (x2 x3 x4 : Vec Ideal S512x128 .f32) : k0_pay38 (k0_pay62 x0 x1 x2 x3 x4) (View.ld x1 r0_29) (View.ld x2 r0_3) (View.ld x3 r0_3) (View.ld x4 r0_3)
    = k0_pay12 (k0_pay2 (View.ld x0 r0_0)) (View.ld x1 r0_29) (View.ld x2 r0_3) (View.ld x3 r0_3) (View.ld x4 r0_3) := rfl
theorem alike18 (x0 : Vec Ideal S512x512 .bf16) (x1 : Vec Ideal S512x4096 .bf16) (x2 x3 x4 : Vec Ideal S512x128 .f32) : k0_pay37 (k0_pay62 x0 x1 x2 x3 x4) (View.ld x1 r0_29)
    = k0_pay11 (k0_pay2 (View.ld x0 r0_0)) (View.ld x1 r0_29) := rfl
theorem alike17 (x0 : Vec Ideal S512x512 .bf16) (x1 : Vec Ideal S512x4096 .bf16) (x2 x3 x4 : Vec Ideal S512x128 .f32) : k0_pay35 (k0_pay62 x0 x1 x2 x3 x4) (View.ld x1 r0_26) (View.ld x2 r0_3) (View.ld x3 r0_3) (View.ld x4 r0_3)
    = k0_pay12 (k0_pay2 (View.ld x0 r0_0)) (View.ld x1 r0_26) (View.ld x2 r0_3) (View.ld x3 r0_3) (View.ld x4 r0_3) := rfl
theorem alike16 (x0 : Vec Ideal S512x512 .bf16) (x1 : Vec Ideal S512x4096 .bf16) (x2 x3 x4 : Vec Ideal S512x128 .f32) : k0_pay34 (k0_pay62 x0 x1 x2 x3 x4) (View.ld x1 r0_26)
    = k0_pay11 (k0_pay2 (View.ld x0 r0_0)) (View.ld x1 r0_26) := rfl
theorem alike15 (x0 : Vec Ideal S512x512 .bf16) (x1 : Vec Ideal S512x4096 .bf16) (x2 x3 x4 : Vec Ideal S512x128 .f32) : k0_pay32 (k0_pay29 (k0_pay62 x0 x1 x2 x3 x4) (View.ld x1 r0_23)) (k0_pay30 (k0_pay62 x0 x1 x2 x3 x4) (View.ld x1 r0_23) (View.ld x2 r0_3)) (k0_pay31 (k0_pay62 x0 x1 x2 x3 x4) (View.ld x1 r0_23)) (View.ld x3 r0_3) (View.ld x4 r0_3)
    = k0_pay12 (k0_pay2 (View.ld x0 r0_0)) (View.ld x1 r0_23) (View.ld x2 r0_3) (View.ld x3 r0_3) (View.ld x4 r0_3) := rfl
theorem alike14 (x0 : Vec Ideal S512x512 .bf16) (x1 : Vec Ideal S512x4096 .bf16) (x2 x3 x4 : Vec Ideal S512x128 .f32) : k0_pay28 (k0_pay62 x0 x1 x2 x3 x4) (View.ld x1 r0_23)
    = k0_pay11 (k0_pay2 (View.ld x0 r0_0)) (View.ld x1 r0_23) := rfl
theorem alike13 (x0 : Vec Ideal S512x512 .bf16) (x1 : Vec Ideal S512x4096 .bf16) (x2 x3 x4 : Vec Ideal S512x128 .f32) : k0_pay26 (k0_pay62 x0 x1 x2 x3 x4) (View.ld x1 r0_20) (View.ld x2 r0_3) (View.ld x3 r0_3) (View.ld x4 r0_3)
    = k0_pay12 (k0_pay2 (View.ld x0 r0_0)) (View.ld x1 r0_20) (View.ld x2 r0_3) (View.ld x3 r0_3) (View.ld x4 r0_3) := rfl
theorem alike12 (x0 : Vec Ideal S512x512 .bf16) (x1 : Vec Ideal S512x4096 .bf16) (x2 x3 x4 : Vec Ideal S512x128 .f32) : k0_pay25 (k0_pay62 x0 x1 x2 x3 x4) (View.ld x1 r0_20)
    = k0_pay11 (k0_pay2 (View.ld x0 r0_0)) (View.ld x1 r0_20) := rfl
theorem alike11 (x0 : Vec Ideal S512x512 .bf16) (x1 : Vec Ideal S512x4096 .bf16) (x2 x3 x4 : Vec Ideal S512x128 .f32) : k0_pay23 (k0_pay62 x0 x1 x2 x3 x4) (View.ld x1 r0_17) (View.ld x2 r0_3) (View.ld x3 r0_3) (View.ld x4 r0_3)
    = k0_pay12 (k0_pay2 (View.ld x0 r0_0)) (View.ld x1 r0_17) (View.ld x2 r0_3) (View.ld x3 r0_3) (View.ld x4 r0_3) := rfl
theorem alike10 (x0 : Vec Ideal S512x512 .bf16) (x1 : Vec Ideal S512x4096 .bf16) (x2 x3 x4 : Vec Ideal S512x128 .f32) : k0_pay22 (k0_pay62 x0 x1 x2 x3 x4) (View.ld x1 r0_17)
    = k0_pay11 (k0_pay2 (View.ld x0 r0_0)) (View.ld x1 r0_17) := rfl
theorem alike9 (x0 : Vec Ideal S512x512 .bf16) (x1 : Vec Ideal S512x4096 .bf16) (x2 x3 x4 : Vec Ideal S512x128 .f32) : k0_pay20 (k0_pay18 (k0_pay62 x0 x1 x2 x3 x4) (View.ld x1 r0_14)) (k0_pay19 (k0_pay62 x0 x1 x2 x3 x4) (View.ld x1 r0_14) (View.ld x2 r0_3)) (View.ld x3 r0_3) (View.ld x4 r0_3)
    = k0_pay12 (k0_pay2 (View.ld x0 r0_0)) (View.ld x1 r0_14) (View.ld x2 r0_3) (View.ld x3 r0_3) (View.ld x4 r0_3) := rfl
theorem alike8 (x0 : Vec Ideal S512x512 .bf16) (x1 : Vec Ideal S512x4096 .bf16) (x2 x3 x4 : Vec Ideal S512x128 .f32) : k0_pay17 (k0_pay62 x0 x1 x2 x3 x4) (View.ld x1 r0_14)
    = k0_pay11 (k0_pay2 (View.ld x0 r0_0)) (View.ld x1 r0_14) := rfl
theorem alike7 (x0 : Vec Ideal S512x512 .bf16) (x1 : Vec Ideal S512x4096 .bf16) (x2 x3 x4 : Vec Ideal S512x128 .f32) : k0_pay15 (k0_pay62 x0 x1 x2 x3 x4) (View.ld x1 r0_11) (View.ld x2 r0_3) (View.ld x3 r0_3) (View.ld x4 r0_3)
    = k0_pay12 (k0_pay2 (View.ld x0 r0_0)) (View.ld x1 r0_11) (View.ld x2 r0_3) (View.ld x3 r0_3) (View.ld x4 r0_3) := rfl
theorem alike6 (x0 : Vec Ideal S512x512 .bf16) (x1 : Vec Ideal S512x4096 .bf16) (x2 x3 x4 : Vec Ideal S512x128 .f32) : k0_pay14 (k0_pay62 x0 x1 x2 x3 x4) (View.ld x1 r0_11)
    = k0_pay11 (k0_pay2 (View.ld x0 r0_0)) (View.ld x1 r0_11) := rfl
theorem alike5 (x0 : Vec Ideal S512x512 .bf16) (x1 : Vec Ideal S512x4096 .bf16) (x2 x3 x4 : Vec Ideal S512x128 .f32) : k0_pay12 (k0_pay62 x0 x1 x2 x3 x4) (View.ld x1 r0_8) (View.ld x2 r0_3) (View.ld x3 r0_3) (View.ld x4 r0_3)
    = k0_pay12 (k0_pay2 (View.ld x0 r0_0)) (View.ld x1 r0_8) (View.ld x2 r0_3) (View.ld x3 r0_3) (View.ld x4 r0_3) := rfl
theorem alike4 (x0 : Vec Ideal S512x512 .bf16) (x1 : Vec Ideal S512x4096 .bf16) (x2 x3 x4 : Vec Ideal S512x128 .f32) : k0_pay11 (k0_pay62 x0 x1 x2 x3 x4) (View.ld x1 r0_8)
    = k0_pay11 (k0_pay2 (View.ld x0 r0_0)) (View.ld x1 r0_8) := rfl
theorem alike3 (x0 : Vec Ideal S512x512 .bf16) (x1 : Vec Ideal S512x4096 .bf16) (x2 x3 x4 : Vec Ideal S512x128 .f32) : k0_pay9 (k0_pay8 (View.ld x0 r0_0) (View.ld x1 r0_5)) (View.ld x2 r0_3) (View.ld x3 r0_3) (View.ld x4 r0_3)
    = k0_pay12 (k0_pay2 (View.ld x0 r0_0)) (View.ld x1 r0_5) (View.ld x2 r0_3) (View.ld x3 r0_3) (View.ld x4 r0_3) := rfl
theorem alike2 (x0 : Vec Ideal S512x512 .bf16) (x1 : Vec Ideal S512x4096 .bf16) (x2 x3 x4 : Vec Ideal S512x128 .f32) : k0_pay7 (View.ld x0 r0_0) (View.ld x1 r0_5)
    = k0_pay11 (k0_pay2 (View.ld x0 r0_0)) (View.ld x1 r0_5) := rfl
theorem alike1 (x0 : Vec Ideal S512x512 .bf16) (x1 : Vec Ideal S512x4096 .bf16) (x2 x3 x4 : Vec Ideal S512x128 .f32) : k0_pay5 (View.ld x0 r0_0) (View.ld x1 r0_1) (View.ld x2 r0_3) (View.ld x3 r0_3) (View.ld x4 r0_3)
    = k0_pay12 (k0_pay2 (View.ld x0 r0_0)) (View.ld x1 r0_1) (View.ld x2 r0_3) (View.ld x3 r0_3) (View.ld x4 r0_3) := rfl
theorem alike0 (x0 : Vec Ideal S512x512 .bf16) (x1 : Vec Ideal S512x4096 .bf16) (x2 x3 x4 : Vec Ideal S512x128 .f32) : k0_pay4 (View.ld x0 r0_0) (View.ld x1 r0_1)
    = k0_pay11 (k0_pay2 (View.ld x0 r0_0)) (View.ld x1 r0_1) := rfl

/-- Every store of the block is lanes of it. -/
theorem pieces (x0 : Vec Ideal S512x512 .bf16) (x1 : Vec Ideal S512x4096 .bf16) (x2 x3 x4 : Vec Ideal S512x128 .f32) :
    View.PiecesOf (Val := Elt Ideal) (e := .bf16) (fun y : S512x4096.Idx => block x0 x1 x2 x3 x4 (y 0) (y 1))
      [⟨r0_49, k0_pay1 (k0_pay60 (k0_pay62 x0 x1 x2 x3 x4) (View.ld x1 r0_47)) (View.ld x2 r0_3) (View.ld x3 r0_3) (View.ld x4 r0_3)⟩,
        ⟨r0_48, k0_pay61 (k0_pay62 x0 x1 x2 x3 x4) (View.ld x1 r0_47)⟩,
        ⟨r0_46, k0_pay59 (k0_pay62 x0 x1 x2 x3 x4) (View.ld x1 r0_44) (View.ld x2 r0_3) (View.ld x3 r0_3) (View.ld x4 r0_3)⟩,
        ⟨r0_45, k0_pay58 (k0_pay62 x0 x1 x2 x3 x4) (View.ld x1 r0_44)⟩,
        ⟨r0_43, k0_pay56 (k0_pay54 (k0_pay62 x0 x1 x2 x3 x4) (View.ld x1 r0_41)) (k0_pay55 (k0_pay62 x0 x1 x2 x3 x4) (View.ld x1 r0_41) (View.ld x2 r0_3) (View.ld x3 r0_3)) 96#32 (View.ld x4 r0_3)⟩,
        ⟨r0_42, k0_pay53 (k0_pay62 x0 x1 x2 x3 x4) (View.ld x1 r0_41)⟩,
        ⟨r0_40, k0_pay51 (k0_pay63 x0 x1 x2 x3 x4) (View.ld x2 r0_3) (View.ld x3 r0_3) (View.ld x4 r0_3)⟩,
        ⟨r0_39, k0_pay50 (k0_pay63 x0 x1 x2 x3 x4)⟩,
        ⟨r0_37, k0_pay48 (k0_pay62 x0 x1 x2 x3 x4) (View.ld x1 r0_35) (View.ld x2 r0_3) (View.ld x3 r0_3) (View.ld x4 r0_3)⟩,
        ⟨r0_36, k0_pay47 (k0_pay62 x0 x1 x2 x3 x4) (View.ld x1 r0_35)⟩,
        ⟨r0_34, k0_pay45 (k0_pay41 (k0_pay62 x0 x1 x2 x3 x4) (View.ld x1 r0_32)) (k0_pay42 (k0_pay62 x0 x1 x2 x3 x4) (View.ld x1 r0_32) (View.ld x2 r0_3)) (k0_pay43 (k0_pay62 x0 x1 x2 x3 x4) (View.ld x1 r0_32)) (k0_pay44 (View.ld x3 r0_3)) (View.ld x4 r0_3)⟩,
        ⟨r0_33, k0_pay40 (k0_pay62 x0 x1 x2 x3 x4) (View.ld x1 r0_32)⟩,
        ⟨r0_31, k0_pay38 (k0_pay62 x0 x1 x2 x3 x4) (View.ld x1 r0_29) (View.ld x2 r0_3) (View.ld x3 r0_3) (View.ld x4 r0_3)⟩,
        ⟨r0_30, k0_pay37 (k0_pay62 x0 x1 x2 x3 x4) (View.ld x1 r0_29)⟩,
        ⟨r0_28, k0_pay35 (k0_pay62 x0 x1 x2 x3 x4) (View.ld x1 r0_26) (View.ld x2 r0_3) (View.ld x3 r0_3) (View.ld x4 r0_3)⟩,
        ⟨r0_27, k0_pay34 (k0_pay62 x0 x1 x2 x3 x4) (View.ld x1 r0_26)⟩,
        ⟨r0_25, k0_pay32 (k0_pay29 (k0_pay62 x0 x1 x2 x3 x4) (View.ld x1 r0_23)) (k0_pay30 (k0_pay62 x0 x1 x2 x3 x4) (View.ld x1 r0_23) (View.ld x2 r0_3)) (k0_pay31 (k0_pay62 x0 x1 x2 x3 x4) (View.ld x1 r0_23)) (View.ld x3 r0_3) (View.ld x4 r0_3)⟩,
        ⟨r0_24, k0_pay28 (k0_pay62 x0 x1 x2 x3 x4) (View.ld x1 r0_23)⟩,
        ⟨r0_22, k0_pay26 (k0_pay62 x0 x1 x2 x3 x4) (View.ld x1 r0_20) (View.ld x2 r0_3) (View.ld x3 r0_3) (View.ld x4 r0_3)⟩,
        ⟨r0_21, k0_pay25 (k0_pay62 x0 x1 x2 x3 x4) (View.ld x1 r0_20)⟩,
        ⟨r0_19, k0_pay23 (k0_pay62 x0 x1 x2 x3 x4) (View.ld x1 r0_17) (View.ld x2 r0_3) (View.ld x3 r0_3) (View.ld x4 r0_3)⟩,
        ⟨r0_18, k0_pay22 (k0_pay62 x0 x1 x2 x3 x4) (View.ld x1 r0_17)⟩,
        ⟨r0_16, k0_pay20 (k0_pay18 (k0_pay62 x0 x1 x2 x3 x4) (View.ld x1 r0_14)) (k0_pay19 (k0_pay62 x0 x1 x2 x3 x4) (View.ld x1 r0_14) (View.ld x2 r0_3)) (View.ld x3 r0_3) (View.ld x4 r0_3)⟩,
        ⟨r0_15, k0_pay17 (k0_pay62 x0 x1 x2 x3 x4) (View.ld x1 r0_14)⟩,
        ⟨r0_13, k0_pay15 (k0_pay62 x0 x1 x2 x3 x4) (View.ld x1 r0_11) (View.ld x2 r0_3) (View.ld x3 r0_3) (View.ld x4 r0_3)⟩,
        ⟨r0_12, k0_pay14 (k0_pay62 x0 x1 x2 x3 x4) (View.ld x1 r0_11)⟩,
        ⟨r0_10, k0_pay12 (k0_pay62 x0 x1 x2 x3 x4) (View.ld x1 r0_8) (View.ld x2 r0_3) (View.ld x3 r0_3) (View.ld x4 r0_3)⟩,
        ⟨r0_9, k0_pay11 (k0_pay62 x0 x1 x2 x3 x4) (View.ld x1 r0_8)⟩,
        ⟨r0_7, k0_pay9 (k0_pay8 (View.ld x0 r0_0) (View.ld x1 r0_5)) (View.ld x2 r0_3) (View.ld x3 r0_3) (View.ld x4 r0_3)⟩,
        ⟨r0_6, k0_pay7 (View.ld x0 r0_0) (View.ld x1 r0_5)⟩,
        ⟨r0_4, k0_pay5 (View.ld x0 r0_0) (View.ld x1 r0_1) (View.ld x2 r0_3) (View.ld x3 r0_3) (View.ld x4 r0_3)⟩,
        ⟨r0_2, k0_pay4 (View.ld x0 r0_0) (View.ld x1 r0_1)⟩] := by
  rw [alike31 x0 x1 x2 x3 x4, alike30 x0 x1 x2 x3 x4, alike29 x0 x1 x2 x3 x4, alike28 x0 x1 x2 x3 x4, alike27 x0 x1 x2 x3 x4, alike26 x0 x1 x2 x3 x4, alike25 x0 x1 x2 x3 x4, alike24 x0 x1 x2 x3 x4, alike23 x0 x1 x2 x3 x4, alike22 x0 x1 x2 x3 x4, alike21 x0 x1 x2 x3 x4, alike20 x0 x1 x2 x3 x4, alike19 x0 x1 x2 x3 x4, alike18 x0 x1 x2 x3 x4, alike17 x0 x1 x2 x3 x4, alike16 x0 x1 x2 x3 x4, alike15 x0 x1 x2 x3 x4, alike14 x0 x1 x2 x3 x4, alike13 x0 x1 x2 x3 x4, alike12 x0 x1 x2 x3 x4, alike11 x0 x1 x2 x3 x4, alike10 x0 x1 x2 x3 x4, alike9 x0 x1 x2 x3 x4, alike8 x0 x1 x2 x3 x4, alike7 x0 x1 x2 x3 x4, alike6 x0 x1 x2 x3 x4, alike5 x0 x1 x2 x3 x4, alike4 x0 x1 x2 x3 x4, alike3 x0 x1 x2 x3 x4, alike2 x0 x1 x2 x3 x4, alike1 x0 x1 x2 x3 x4, alike0 x0 x1 x2 x3 x4]
  exact ⟨piece_turned x0 x1 x2 x3 x4 3840 3968 rfl rfl inb_S512x4096_S512x256_0_3840 inb_S512x4096_S512x128_0_3968,
    piece_plain x0 x1 x2 x3 x4 3840 rfl inb_S512x4096_S512x256_0_3840 inb_S512x4096_S512x128_0_3840,
    piece_turned x0 x1 x2 x3 x4 3584 3712 rfl rfl inb_S512x4096_S512x256_0_3584 inb_S512x4096_S512x128_0_3712,
    piece_plain x0 x1 x2 x3 x4 3584 rfl inb_S512x4096_S512x256_0_3584 inb_S512x4096_S512x128_0_3584,
    piece_turned x0 x1 x2 x3 x4 3328 3456 rfl rfl inb_S512x4096_S512x256_0_3328 inb_S512x4096_S512x128_0_3456,
    piece_plain x0 x1 x2 x3 x4 3328 rfl inb_S512x4096_S512x256_0_3328 inb_S512x4096_S512x128_0_3328,
    piece_turned x0 x1 x2 x3 x4 3072 3200 rfl rfl inb_S512x4096_S512x256_0_3072 inb_S512x4096_S512x128_0_3200,
    piece_plain x0 x1 x2 x3 x4 3072 rfl inb_S512x4096_S512x256_0_3072 inb_S512x4096_S512x128_0_3072,
    piece_turned x0 x1 x2 x3 x4 2816 2944 rfl rfl inb_S512x4096_S512x256_0_2816 inb_S512x4096_S512x128_0_2944,
    piece_plain x0 x1 x2 x3 x4 2816 rfl inb_S512x4096_S512x256_0_2816 inb_S512x4096_S512x128_0_2816,
    piece_turned x0 x1 x2 x3 x4 2560 2688 rfl rfl inb_S512x4096_S512x256_0_2560 inb_S512x4096_S512x128_0_2688,
    piece_plain x0 x1 x2 x3 x4 2560 rfl inb_S512x4096_S512x256_0_2560 inb_S512x4096_S512x128_0_2560,
    piece_turned x0 x1 x2 x3 x4 2304 2432 rfl rfl inb_S512x4096_S512x256_0_2304 inb_S512x4096_S512x128_0_2432,
    piece_plain x0 x1 x2 x3 x4 2304 rfl inb_S512x4096_S512x256_0_2304 inb_S512x4096_S512x128_0_2304,
    piece_turned x0 x1 x2 x3 x4 2048 2176 rfl rfl inb_S512x4096_S512x256_0_2048 inb_S512x4096_S512x128_0_2176,
    piece_plain x0 x1 x2 x3 x4 2048 rfl inb_S512x4096_S512x256_0_2048 inb_S512x4096_S512x128_0_2048,
    piece_turned x0 x1 x2 x3 x4 1792 1920 rfl rfl inb_S512x4096_S512x256_0_1792 inb_S512x4096_S512x128_0_1920,
    piece_plain x0 x1 x2 x3 x4 1792 rfl inb_S512x4096_S512x256_0_1792 inb_S512x4096_S512x128_0_1792,
    piece_turned x0 x1 x2 x3 x4 1536 1664 rfl rfl inb_S512x4096_S512x256_0_1536 inb_S512x4096_S512x128_0_1664,
    piece_plain x0 x1 x2 x3 x4 1536 rfl inb_S512x4096_S512x256_0_1536 inb_S512x4096_S512x128_0_1536,
    piece_turned x0 x1 x2 x3 x4 1280 1408 rfl rfl inb_S512x4096_S512x256_0_1280 inb_S512x4096_S512x128_0_1408,
    piece_plain x0 x1 x2 x3 x4 1280 rfl inb_S512x4096_S512x256_0_1280 inb_S512x4096_S512x128_0_1280,
    piece_turned x0 x1 x2 x3 x4 1024 1152 rfl rfl inb_S512x4096_S512x256_0_1024 inb_S512x4096_S512x128_0_1152,
    piece_plain x0 x1 x2 x3 x4 1024 rfl inb_S512x4096_S512x256_0_1024 inb_S512x4096_S512x128_0_1024,
    piece_turned x0 x1 x2 x3 x4 768 896 rfl rfl inb_S512x4096_S512x256_0_768 inb_S512x4096_S512x128_0_896,
    piece_plain x0 x1 x2 x3 x4 768 rfl inb_S512x4096_S512x256_0_768 inb_S512x4096_S512x128_0_768,
    piece_turned x0 x1 x2 x3 x4 512 640 rfl rfl inb_S512x4096_S512x256_0_512 inb_S512x4096_S512x128_0_640,
    piece_plain x0 x1 x2 x3 x4 512 rfl inb_S512x4096_S512x256_0_512 inb_S512x4096_S512x128_0_512,
    piece_turned x0 x1 x2 x3 x4 256 384 rfl rfl inb_S512x4096_S512x256_0_256 inb_S512x4096_S512x128_0_384,
    piece_plain x0 x1 x2 x3 x4 256 rfl inb_S512x4096_S512x256_0_256 inb_S512x4096_S512x128_0_256,
    piece_turned x0 x1 x2 x3 x4 0 128 rfl rfl inb_S512x4096_S512x256_0_0 inb_S512x4096_S512x128_0_128,
    piece_plain x0 x1 x2 x3 x4 0 rfl inb_S512x4096_S512x256_0_0 inb_S512x4096_S512x128_0_0, trivial⟩

/-- The block a point stores. -/
theorem out_apply (x0 : Vec Ideal S512x512 .bf16) (x1 : Vec Ideal S512x4096 .bf16) (x2 x3 x4 : Vec Ideal S512x128 .f32) (r : Fin 512) (n : Fin 4096) :
    out0_5 x0 x1 x2 x3 x4 (ix2 r n) = block x0 x1 x2 x3 x4 r n :=
  View.canon_apply_of_pieces (Val := Elt Ideal) (e := .bf16) (fun y : S512x4096.Idx => block x0 x1 x2 x3 x4 (y 0) (y 1))
    _ (pieces x0 x1 x2 x3 x4).mem (ix2 r n) (cover0_5 (k0_pay1 (k0_pay60 (k0_pay62 x0 x1 x2 x3 x4) (View.ld x1 r0_47)) (View.ld x2 r0_3) (View.ld x3 r0_3) (View.ld x4 r0_3))
      (k0_pay61 (k0_pay62 x0 x1 x2 x3 x4) (View.ld x1 r0_47))
      (k0_pay59 (k0_pay62 x0 x1 x2 x3 x4) (View.ld x1 r0_44) (View.ld x2 r0_3) (View.ld x3 r0_3) (View.ld x4 r0_3))
      (k0_pay58 (k0_pay62 x0 x1 x2 x3 x4) (View.ld x1 r0_44))
      (k0_pay56 (k0_pay54 (k0_pay62 x0 x1 x2 x3 x4) (View.ld x1 r0_41)) (k0_pay55 (k0_pay62 x0 x1 x2 x3 x4) (View.ld x1 r0_41) (View.ld x2 r0_3) (View.ld x3 r0_3)) 96#32 (View.ld x4 r0_3))
      (k0_pay53 (k0_pay62 x0 x1 x2 x3 x4) (View.ld x1 r0_41))
      (k0_pay51 (k0_pay63 x0 x1 x2 x3 x4) (View.ld x2 r0_3) (View.ld x3 r0_3) (View.ld x4 r0_3))
      (k0_pay50 (k0_pay63 x0 x1 x2 x3 x4))
      (k0_pay48 (k0_pay62 x0 x1 x2 x3 x4) (View.ld x1 r0_35) (View.ld x2 r0_3) (View.ld x3 r0_3) (View.ld x4 r0_3))
      (k0_pay47 (k0_pay62 x0 x1 x2 x3 x4) (View.ld x1 r0_35))
      (k0_pay45 (k0_pay41 (k0_pay62 x0 x1 x2 x3 x4) (View.ld x1 r0_32)) (k0_pay42 (k0_pay62 x0 x1 x2 x3 x4) (View.ld x1 r0_32) (View.ld x2 r0_3)) (k0_pay43 (k0_pay62 x0 x1 x2 x3 x4) (View.ld x1 r0_32)) (k0_pay44 (View.ld x3 r0_3)) (View.ld x4 r0_3))
      (k0_pay40 (k0_pay62 x0 x1 x2 x3 x4) (View.ld x1 r0_32))
      (k0_pay38 (k0_pay62 x0 x1 x2 x3 x4) (View.ld x1 r0_29) (View.ld x2 r0_3) (View.ld x3 r0_3) (View.ld x4 r0_3))
      (k0_pay37 (k0_pay62 x0 x1 x2 x3 x4) (View.ld x1 r0_29))
      (k0_pay35 (k0_pay62 x0 x1 x2 x3 x4) (View.ld x1 r0_26) (View.ld x2 r0_3) (View.ld x3 r0_3) (View.ld x4 r0_3))
      (k0_pay34 (k0_pay62 x0 x1 x2 x3 x4) (View.ld x1 r0_26))
      (k0_pay32 (k0_pay29 (k0_pay62 x0 x1 x2 x3 x4) (View.ld x1 r0_23)) (k0_pay30 (k0_pay62 x0 x1 x2 x3 x4) (View.ld x1 r0_23) (View.ld x2 r0_3)) (k0_pay31 (k0_pay62 x0 x1 x2 x3 x4) (View.ld x1 r0_23)) (View.ld x3 r0_3) (View.ld x4 r0_3))
      (k0_pay28 (k0_pay62 x0 x1 x2 x3 x4) (View.ld x1 r0_23))
      (k0_pay26 (k0_pay62 x0 x1 x2 x3 x4) (View.ld x1 r0_20) (View.ld x2 r0_3) (View.ld x3 r0_3) (View.ld x4 r0_3))
      (k0_pay25 (k0_pay62 x0 x1 x2 x3 x4) (View.ld x1 r0_20))
      (k0_pay23 (k0_pay62 x0 x1 x2 x3 x4) (View.ld x1 r0_17) (View.ld x2 r0_3) (View.ld x3 r0_3) (View.ld x4 r0_3))
      (k0_pay22 (k0_pay62 x0 x1 x2 x3 x4) (View.ld x1 r0_17))
      (k0_pay20 (k0_pay18 (k0_pay62 x0 x1 x2 x3 x4) (View.ld x1 r0_14)) (k0_pay19 (k0_pay62 x0 x1 x2 x3 x4) (View.ld x1 r0_14) (View.ld x2 r0_3)) (View.ld x3 r0_3) (View.ld x4 r0_3))
      (k0_pay17 (k0_pay62 x0 x1 x2 x3 x4) (View.ld x1 r0_14))
      (k0_pay15 (k0_pay62 x0 x1 x2 x3 x4) (View.ld x1 r0_11) (View.ld x2 r0_3) (View.ld x3 r0_3) (View.ld x4 r0_3))
      (k0_pay14 (k0_pay62 x0 x1 x2 x3 x4) (View.ld x1 r0_11))
      (k0_pay12 (k0_pay62 x0 x1 x2 x3 x4) (View.ld x1 r0_8) (View.ld x2 r0_3) (View.ld x3 r0_3) (View.ld x4 r0_3))
      (k0_pay11 (k0_pay62 x0 x1 x2 x3 x4) (View.ld x1 r0_8))
      (k0_pay9 (k0_pay8 (View.ld x0 r0_0) (View.ld x1 r0_5)) (View.ld x2 r0_3) (View.ld x3 r0_3) (View.ld x4 r0_3))
      (k0_pay7 (View.ld x0 r0_0) (View.ld x1 r0_5))
      (k0_pay5 (View.ld x0 r0_0) (View.ld x1 r0_1) (View.ld x2 r0_3) (View.ld x3 r0_3) (View.ld x4 r0_3))
      (k0_pay4 (View.ld x0 r0_0) (View.ld x1 r0_1)) (ix2 r n))

end Cert.Kernel4Ideal.Proj

end
-- ==== Proof.Proj.Query.lean ====
/- THE ROTARY QUERIES: the kernel's blocks of 512 rows put together are the query latents times their weights, each head's last 64
   columns turned by the position's angles, and 64 zeros after each head. -/
module

public import proofs.«01_k».proof.Proof.Proj.QueryBlock
public import proofs.«01_k».proof.Proof.Gen.Reference4Ideal.Run

@[expose] public section

set_option maxRecDepth 16384

noncomputable section

namespace Cert.Kernel4Ideal.Proj

open Cert.Kernel4Ideal Cert.Kernel4Ideal.Gen Cert.Kernel4Ideal.Value Idealize.ShloMosaic Idealize.ShloMosaic.TcCoe Idealize.SL.Sem

/-- The angle of a position at a frequency, as both programs compute it. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))
def cosT : FVec Ideal S8192x32 .f32 := Host.cos angles
def sinT : FVec Ideal S8192x32 .f32 := Host.sin angles

/-- A query's entry before it is turned. -/
def query (x : FVec Ideal S2x8192x512 .f32) (w : FVec Ideal S512x3072 .f32) (i : Fin 16384) (n : Fin 3072) : EReal :=
  ∑ k : Fin 512, x (ix3 (⟨i / 8192, by omega⟩ : Fin 2) (⟨i % 8192, by omega⟩ : Fin 8192) k) * w (ix2 k n)

/-- A row's lanes from its entries and its position's cosines and sines: per head 128 plain lanes, 32 and 32 turned, 64 zeros. -/
def lanes (Q : Fin 3072 → EReal) (C S : Fin 32 → EReal) (n : Fin 4096) : EReal :=
  if h1 : n.val % 256 < 128 then Q ⟨n.val / 256 * 192 + n.val % 256, by omega⟩
  else if h2 : n.val % 256 < 160 then
    Q ⟨n.val / 256 * 192 + n.val % 256, by omega⟩ * C ⟨n.val % 256 - 128, by omega⟩
      - Q ⟨n.val / 256 * 192 + n.val % 256 + 32, by omega⟩ * S ⟨n.val % 256 - 128, by omega⟩
  else if h3 : n.val % 256 < 192 then
    Q ⟨n.val / 256 * 192 + n.val % 256 - 32, by omega⟩ * S ⟨n.val % 256 - 160, by omega⟩
      + Q ⟨n.val / 256 * 192 + n.val % 256, by omega⟩ * C ⟨n.val % 256 - 160, by omega⟩
  else 0

/-- The lanes put together as the reference does: three parts, the middle one of two halves. -/
theorem lanes_eq (Q : Fin 3072 → EReal) (C S : Fin 32 → EReal) (n : Fin 4096) :
    (if h : n.val % 256 < 128 then Q ⟨n.val / 256 * 192 + n.val % 256, by omega⟩
      else if h : n.val % 256 - 128 < 64 then
        if h' : n.val % 256 - 128 < 32 then
          Q ⟨n.val / 256 * 192 + (128 + (n.val % 256 - 128)), by omega⟩ * C ⟨n.val % 256 - 128, h'⟩
            - Q ⟨n.val / 256 * 192 + (128 + (32 + (n.val % 256 - 128))), by omega⟩ * S ⟨n.val % 256 - 128, h'⟩
        else
          Q ⟨n.val / 256 * 192 + (128 + (n.val % 256 - 128 - 32)), by omega⟩ * S ⟨n.val % 256 - 128 - 32, by omega⟩
            + Q ⟨n.val / 256 * 192 + (128 + (32 + (n.val % 256 - 128 - 32))), by omega⟩ * C ⟨n.val % 256 - 128 - 32, by omega⟩
      else 0) = lanes Q C S n := by
  unfold lanes
  by_cases h1 : n.val % 256 < 128
  · simp only [dif_pos h1]
  by_cases h2 : n.val % 256 < 160
  · have a1 : n.val % 256 - 128 < 64 := by omega
    have a2 : n.val % 256 - 128 < 32 := by omega
    have k1 : n.val / 256 * 192 + (128 + (n.val % 256 - 128)) = n.val / 256 * 192 + n.val % 256 := by omega
    have k2 : n.val / 256 * 192 + (128 + (32 + (n.val % 256 - 128))) = n.val / 256 * 192 + n.val % 256 + 32 := by omega
    simp only [dif_neg h1, dif_pos h2, dif_pos a1, dif_pos a2, k1, k2]
  by_cases h3 : n.val % 256 < 192
  · have a1 : n.val % 256 - 128 < 64 := by omega
    have a2 : ¬ n.val % 256 - 128 < 32 := by omega
    have k0 : n.val % 256 - 128 - 32 = n.val % 256 - 160 := by omega
    have k1 : n.val / 256 * 192 + (128 + (n.val % 256 - 160)) = n.val / 256 * 192 + n.val % 256 - 32 := by omega
    have k2 : n.val / 256 * 192 + (128 + (32 + (n.val % 256 - 160))) = n.val / 256 * 192 + n.val % 256 := by omega
    simp only [dif_neg h1, dif_neg h2, dif_pos h3, dif_pos a1, dif_neg a2, k0, k1, k2]
  · have a1 : ¬ n.val % 256 - 128 < 64 := by omega
    simp only [dif_neg h1, dif_neg h2, dif_neg h3, dif_neg a1]

/-- The queries, at an index. -/
def turned (C S : FVec Ideal S8192x32 .f32) (x : FVec Ideal S2x8192x512 .f32) (w : FVec Ideal S512x3072 .f32) (i : Fin 16384) (n : Fin 4096) : EReal :=
  lanes (query x w i) (fun j => C (ix2 (⟨i % 8192, by omega⟩ : Fin 8192) j)) (fun j => S (ix2 (⟨i % 8192, by omega⟩ : Fin 8192) j)) n

/-- Point t works on the rows from 512·t on, on all the weights, and on the tables' rows from 512·(t mod 16) on. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem index3 : ∀ t : Fin cfg0.N, win0_3.index t (0 : Fin 2) = t.val % 16 ∧ win0_3.index t (1 : Fin 2) = 0 :=
  (by decide +kernel : ∀ t : Fin grid0.N, win0_3.index t (0 : Fin 2) = t.val % 16 ∧ win0_3.index t (1 : Fin 2) = 0)
theorem index4 : ∀ t : Fin cfg0.N, win0_4.index t (0 : Fin 2) = t.val % 16 ∧ win0_4.index t (1 : Fin 2) = 0 :=
  (by decide +kernel : ∀ t : Fin grid0.N, win0_4.index t (0 : Fin 2) = t.val % 16 ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem lt_points (t : Fin cfg0.N) : t.val < 32 := t.isLt

theorem emb0 (t : Fin cfg0.N) (r : Fin 512) (d : Fin 512) : ((cfg0.win 0).blk t).view.emb (ix2 r d)
    = (ix2 (⟨512 * t.val + r, by have := lt_points t; omega⟩ : Fin 16384) d) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 512 + 1 * d.val = d.val; omega
theorem emb1 (t : Fin cfg0.N) (r : Fin 512) (d : Fin 4096) : ((cfg0.win 1).blk t).view.emb (ix2 r d)
    = (ix2 r d) := by
  obtain ⟨e0, e1⟩ := index1 t
  funext a; apply Fin.ext
  match a with
  | ⟨0, _⟩ => show win0_1.index t (0 : Fin 2) * 512 + 1 * r.val = r.val; omega
  | ⟨1, _⟩ => show win0_1.index t (1 : Fin 2) * 4096 + 1 * d.val = d.val; omega
theorem emb2 (t : Fin cfg0.N) (r : Fin 512) (d : Fin 128) : ((cfg0.win 2).blk t).view.emb (ix2 r d)
    = (ix2 (⟨512 * (t.val % 16) + r, by omega⟩ : Fin 8192) d) := by
  obtain ⟨e0, e1⟩ := index2 t
  funext a; apply Fin.ext
  match a with
  | ⟨0, _⟩ => show win0_2.index t (0 : Fin 2) * 512 + 1 * r.val = 512 * (t.val % 16) + r.val; omega
  | ⟨1, _⟩ => show win0_2.index t (1 : Fin 2) * 128 + 1 * d.val = d.val; omega
theorem emb3 (t : Fin cfg0.N) (r : Fin 512) (d : Fin 128) : ((cfg0.win 3).blk t).view.emb (ix2 r d)
    = (ix2 (⟨512 * (t.val % 16) + r, by omega⟩ : Fin 8192) d) := by
  obtain ⟨e0, e1⟩ := index3 t
  funext a; apply Fin.ext
  match a with
  | ⟨0, _⟩ => show win0_3.index t (0 : Fin 2) * 512 + 1 * r.val = 512 * (t.val % 16) + r.val; omega
  | ⟨1, _⟩ => show win0_3.index t (1 : Fin 2) * 128 + 1 * d.val = d.val; omega
theorem emb4 (t : Fin cfg0.N) (r : Fin 512) (d : Fin 128) : ((cfg0.win 4).blk t).view.emb (ix2 r d)
    = (ix2 (⟨512 * (t.val % 16) + r, by omega⟩ : Fin 8192) d) := by
  obtain ⟨e0, e1⟩ := index4 t
  funext a; apply Fin.ext
  match a with
  | ⟨0, _⟩ => show win0_4.index t (0 : Fin 2) * 512 + 1 * r.val = 512 * (t.val % 16) + r.val; omega
  | ⟨1, _⟩ => show win0_4.index t (1 : Fin 2) * 128 + 1 * d.val = d.val; omega
theorem emb5 (t : Fin cfg0.N) (r : Fin 512) (d : Fin 4096) : ((cfg0.win 5).blk t).view.emb (ix2 r d)
    = (ix2 (⟨512 * t.val + r, by have := lt_points t; omega⟩ : Fin 16384) d) := by
  obtain ⟨e0, e1⟩ := index5 t
  funext a; apply Fin.ext
  match a with
  | ⟨0, _⟩ => show win0_5.index t (0 : Fin 2) * 512 + 1 * r.val = 512 * t.val + r.val; omega
  | ⟨1, _⟩ => show win0_5.index t (1 : Fin 2) * 4096 + 1 * d.val = d.val; omega

/-- Every entry of the result is in some point's block. -/
theorem covered (i : S16384x4096.Idx) : ∃ t : Fin cfg0.N, (cfg0.win 5).flush t = true ∧ i ∈ ((cfg0.win 5).blk t).view.set := by
  have hR : (i 0).val < 16384 := (i 0).isLt
  let t : Fin cfg0.N := ⟨(i 0).val / 512, by show _ < 32; omega⟩
  have h := ((cfg0.win 5).blk t).view.emb_mem_set (ix2 (⟨(i 0).val % 512, by omega⟩ : Fin 512) (⟨(i 1).val, (i 1).isLt⟩ : Fin 4096))
  rw [emb5] at h
  refine ⟨t, flush0_5 _, ?_⟩
  have e : i = ix2 (⟨512 * t.val + (i 0).val % 512, by have := lt_points t; omega⟩ : Fin 16384) (⟨(i 1).val, (i 1).isLt⟩ : Fin 4096) := by
    funext a; apply Fin.ext
    match a with
    | ⟨0, _⟩ => show (i 0).val = 512 * ((i 0).val / 512) + (i 0).val % 512; omega
    | ⟨1, _⟩ => rfl
  exact (congrArg (· ∈ ((cfg0.win 5).blk t).view.set) e).mpr h

variable (m : (ℓ : Loc nD τ sig) → Buf (Elt Ideal) ℓ) (c : Dev nD)

/-- The arguments as arrays of extended reals. -/
abbrev arr0 : FVec Ideal S2x8192x512 .f32 := m ((c : Thread nD τ).loc main_arg0)
abbrev arr1 : FVec Ideal S512x3072 .f32 := m ((c : Thread nD τ).loc main_arg1)

/-- The latents and the padded weights as the host code lays them out. -/
theorem V_x (i : Fin 16384) (k : Fin 512) :
    V m c main_v1 (ix2 i k) = arr0 m c (ix3 (⟨i / 8192, by omega⟩ : Fin 2) (⟨i % 8192, by omega⟩ : Fin 8192) k) := by
  have e : V m c main_v1 = truncf .bf16 (shapeCast S16384x512 (arr0 m c) shapeCasts_S2x8192x512_S16384x512) bitsLt_bf16_f32 := by
    show StableHlo.after hostOps0 _ (Proc.devRef .tc main_v1) = _
    after_results
    rfl
  rw [e]
  pointwise
theorem V_w (k : Fin 512) (n : Fin 4096) : V m c main_v6 (ix2 k n)
    = (if h : n.val % 256 < 192 then arr1 m c (ix2 k (⟨n.val / 256 * 192 + n.val % 256, by omega⟩ : Fin 3072)) else 0 : EReal) := by
  have e : V m c main_v6 = truncf .bf16 (shapeCast S512x4096 (concatenate S512x16x256 2 [⟨S512x16x192, shapeCast S512x16x192 (arr1 m c) shapeCasts_S512x3072_S512x16x192⟩,
      ⟨S512x16x64, broadcastInDim S512x16x64 ![] bcast_S_S512x16x64 (constant S_ .f32 0x00000000#32)⟩] concatenates_S512x16x192_S512x16x64_S512x16x256_d2)
      shapeCasts_S512x16x256_S512x4096) bitsLt_bf16_f32 := by
    show StableHlo.after hostOps0 _ (Proc.devRef .tc main_v6) = _
    after_results
    rfl
  rw [e]
  pointwise

/-- 32 columns of zeros, as both programs make them. -/
abbrev zeros : FVec Ideal S8192x32 .f32 := broadcastInDim S8192x32 ![] bcast_S_S8192x32 (constant S_ .f32 0x00000000#32)

/-- The three tables, at an index. -/
theorem V_c (s : Fin 8192) (l : Fin 128) : V m c main_v22 (ix2 s l)
    = (if h : l.val < 32 then cosT (ix2 s (⟨l, h⟩ : Fin 32)) else if h : l.val < 64 then cosT (ix2 s (⟨l - 32, by omega⟩ : Fin 32)) else 0 : EReal) := by
  have e : V m c main_v22 = concatenate S8192x128 1 [⟨S8192x32, cosT⟩, ⟨S8192x32, cosT⟩, ⟨S8192x32, zeros⟩, ⟨S8192x32, zeros⟩]
      concatenates_S8192x32_S8192x32_S8192x32_S8192x32_S8192x128_d1 := by
    show StableHlo.after hostOps0 _ (Proc.devRef .tc main_v22) = _
    after_results
    rfl
  rw [e]
  generalize cosT = C
  pointwise
  by_cases h1 : l.val < 32
  · refine (dif_pos h1).trans ?_
    rw [dif_pos h1]
  refine (dif_neg h1).trans (Eq.trans ?_ (dif_neg h1).symm)
  by_cases h2 : l.val < 64
  · refine (dif_pos (show l.val - 32 < 32 by omega)).trans ?_
    rw [dif_pos h2]
  · refine (dif_neg (show ¬ l.val - 32 < 32 by omega)).trans (Eq.trans ?_ (dif_neg h2).symm)
    split <;> rfl
theorem V_su (s : Fin 8192) (l : Fin 128) : V m c main_v23 (ix2 s l)
    = (if h : l.val < 32 then 0 else if h : l.val < 64 then sinT (ix2 s (⟨l - 32, by omega⟩ : Fin 32)) else 0 : EReal) := by
  have e : V m c main_v23 = concatenate S8192x128 1 [⟨S8192x32, zeros⟩, ⟨S8192x32, sinT⟩, ⟨S8192x32, zeros⟩, ⟨S8192x32, zeros⟩]
      concatenates_S8192x32_S8192x32_S8192x32_S8192x32_S8192x128_d1 := by
    show StableHlo.after hostOps0 _ (Proc.devRef .tc main_v23) = _
    after_results
    rfl
  rw [e]
  generalize sinT = S
  pointwise
  by_cases h1 : l.val < 32
  · refine (dif_pos h1).trans ?_
    rw [dif_pos h1]
  refine (dif_neg h1).trans (Eq.trans ?_ (dif_neg h1).symm)
  by_cases h2 : l.val < 64
  · refine (dif_pos (show l.val - 32 < 32 by omega)).trans ?_
    rw [dif_pos h2]
  · refine (dif_neg (show ¬ l.val - 32 < 32 by omega)).trans (Eq.trans ?_ (dif_neg h2).symm)
    split <;> rfl
theorem V_sd (s : Fin 8192) (l : Fin 128) : V m c main_v25 (ix2 s l)
    = (if h : l.val < 32 then - sinT (ix2 s (⟨l, h⟩ : Fin 32)) else 0 : EReal) := by
  have e : V m c main_v25 = concatenate S8192x128 1 [⟨S8192x32, Host.negf sinT⟩, ⟨S8192x32, zeros⟩, ⟨S8192x32, zeros⟩, ⟨S8192x32, zeros⟩]
      concatenates_S8192x32_S8192x32_S8192x32_S8192x32_S8192x128_d1 := by
    show StableHlo.after hostOps0 _ (Proc.devRef .tc main_v25) = _
    after_results
    rfl
  rw [e]
  generalize sinT = S
  pointwise
  split_ifs <;> first | rfl | omega

/-- A dot with a padded column: a query's entry, or zero. -/
theorem dots_eq (t : Fin cfg0.N) (r : Fin 512) (n : Fin 4096) : dots (iblk m c 0 t) (iblk m c 1 t) r n
    = (if h : n.val % 256 < 192 then query (arr0 m c) (arr1 m c) ⟨512 * t.val + r, by have := lt_points t; omega⟩ ⟨n.val / 256 * 192 + n.val % 256, by omega⟩ else 0 : EReal) := by
  have e : ∀ k : Fin 512, iblk m c 0 t (ix2 r k) = arr0 m c (ix3 (⟨(512 * t.val + r) / 8192, by have := lt_points t; omega⟩ : Fin 2) (⟨(512 * t.val + r) % 8192, by omega⟩ : Fin 8192) k) := fun k => by
    show V m c main_v1 (((cfg0.win 0).blk t).view.emb (ix2 r k)) = _
    rw [emb0, V_x]
  have e' : ∀ k : Fin 512, iblk m c 1 t (ix2 k n) = (if h : n.val % 256 < 192 then arr1 m c (ix2 k (⟨n.val / 256 * 192 + n.val % 256, by omega⟩ : Fin 3072)) else 0 : EReal) := fun k => by
    show V m c main_v6 (((cfg0.win 1).blk t).view.emb (ix2 k n)) = _
    rw [emb1, V_w]
  unfold dots
  by_cases h : n.val % 256 < 192
  · rw [dif_pos h]
    refine Finset.sum_congr rfl fun k _ => congrArg₂ (· * ·) (e k) ?_
    rw [e', dif_pos h]
  · rw [dif_neg h]
    refine Finset.sum_eq_zero fun k _ => ?_
    rw [e', dif_neg h]
    exact mul_zero _

/-- A block's entry is the queries' entry. -/
theorem block_eq (t : Fin cfg0.N) (r : Fin 512) (n : Fin 4096) :
    block (iblk m c 0 t) (iblk m c 1 t) (iblk m c 2 t) (iblk m c 3 t) (iblk m c 4 t) r n
      = turned cosT sinT (arr0 m c) (arr1 m c) ⟨512 * t.val + r, by have := lt_points t; omega⟩ n := by
  have ht := lt_points t
  have row : (⟨(512 * t.val + r.val) % 8192, by omega⟩ : Fin 8192) = ⟨512 * (t.val % 16) + r.val, by omega⟩ :=
    Fin.ext (by show (512 * t.val + r.val) % 8192 = 512 * (t.val % 16) + r.val; omega)
  have ec : ∀ l : Fin 128, iblk m c 2 t (ix2 r l) = V m c main_v22 (ix2 (⟨512 * (t.val % 16) + r, by omega⟩ : Fin 8192) l) := fun l => by
    show V m c main_v22 (((cfg0.win 2).blk t).view.emb (ix2 r l)) = _
    rw [emb2]
  have eu : ∀ l : Fin 128, iblk m c 3 t (ix2 r l) = V m c main_v23 (ix2 (⟨512 * (t.val % 16) + r, by omega⟩ : Fin 8192) l) := fun l => by
    show V m c main_v23 (((cfg0.win 3).blk t).view.emb (ix2 r l)) = _
    rw [emb3]
  have ed : ∀ l : Fin 128, iblk m c 4 t (ix2 r l) = V m c main_v25 (ix2 (⟨512 * (t.val % 16) + r, by omega⟩ : Fin 8192) l) := fun l => by
    show V m c main_v25 (((cfg0.win 4).blk t).view.emb (ix2 r l)) = _
    rw [emb4]
  unfold block turned lanes
  rw [row, ec, eu, ed, V_c, V_su, V_sd, dots_eq, dots_eq, dots_eq]
  dsimp only
  by_cases h1 : n.val % 256 < 128
  · rw [if_pos h1, dif_pos h1, dif_pos (by omega)]
  rw [if_neg h1, dif_neg h1]
  by_cases h2 : n.val % 256 < 160
  · rw [dif_pos h2, dif_pos (show n.val % 256 < 192 by omega), dif_pos (show n.val % 128 < 32 by omega), dif_pos (show n.val % 128 < 32 by omega),
      dif_pos (show n.val % 128 < 32 by omega), dif_pos (show (n.val / 128 * 128 + (n.val % 128 + 128 - 96) % 128) % 256 < 192 by omega)]
    have k1 : (⟨n.val % 128, by omega⟩ : Fin 32) = ⟨n.val % 256 - 128, by omega⟩ := Fin.ext (by show n.val % 128 = n.val % 256 - 128; omega)
    have k2 : (⟨(n.val / 128 * 128 + (n.val % 128 + 128 - 96) % 128) / 256 * 192 + (n.val / 128 * 128 + (n.val % 128 + 128 - 96) % 128) % 256, by omega⟩ : Fin 3072)
        = ⟨n.val / 256 * 192 + n.val % 256 + 32, by omega⟩ := Fin.ext (by dsimp only; omega)
    rw [k1, k2, mul_zero, add_zero, mul_neg, sub_eq_add_neg]
  rw [dif_neg h2]
  by_cases h3 : n.val % 256 < 192
  · rw [dif_pos h3, dif_pos h3, dif_neg (show ¬ n.val % 128 < 32 by omega), dif_pos (show n.val % 128 < 64 by omega), dif_neg (show ¬ n.val % 128 < 32 by omega),
      dif_pos (show n.val % 128 < 64 by omega), dif_neg (show ¬ n.val % 128 < 32 by omega), dif_pos (show (n.val / 128 * 128 + (n.val % 128 + 128 - 32) % 128) % 256 < 192 by omega)]
    have k1 : (⟨n.val % 128 - 32, by omega⟩ : Fin 32) = ⟨n.val % 256 - 160, by omega⟩ := Fin.ext (by show n.val % 128 - 32 = n.val % 256 - 160; omega)
    have k2 : (⟨(n.val / 128 * 128 + (n.val % 128 + 128 - 32) % 128) / 256 * 192 + (n.val / 128 * 128 + (n.val % 128 + 128 - 32) % 128) % 256, by omega⟩ : Fin 3072)
        = ⟨n.val / 256 * 192 + n.val % 256 - 32, by omega⟩ := Fin.ext (by dsimp only; omega)
    rw [k1, k2, mul_zero, add_zero, add_comm]
  · rw [dif_neg h3, dif_neg h3, dif_neg (show ¬ n.val % 128 < 32 by omega), dif_neg (show ¬ n.val % 128 < 64 by omega), dif_neg (show ¬ n.val % 128 < 32 by omega),
      dif_neg (show ¬ n.val % 128 < 64 by omega), dif_neg (show ¬ n.val % 128 < 32 by omega), mul_zero, mul_zero, mul_zero, add_zero, add_zero]

/-- What a point writes back is its block of the queries. -/
theorem flushed_eq (t : Fin cfg0.N) : (dats m 0 c).flushed 5 t
    = ((cfg0.win 5).blk t).view.read (Elt Ideal) (fun i : S16384x4096.Idx => turned cosT sinT (arr0 m c) (arr1 m c) (i 0) (i 1)) := by
  rw [flushed5]
  funext j
  obtain ⟨r, n, rfl⟩ : ∃ (r : Fin 512) (n : Fin 4096), j = ix2 r n := ⟨j 0, j 1, by funext a; fin_cases a <;> rfl⟩
  refine (out_apply _ _ _ _ _ r n).trans ((block_eq m c t r n).trans ?_)
  exact (congrArg (fun i : S16384x4096.Idx => turned cosT sinT (arr0 m c) (arr1 m c) (i 0) (i 1)) (emb5 t r n)).symm

/-- The result after the run. -/
theorem final : (dats m 0 c).arrAt 5 cfg0.N = fun i : S16384x4096.Idx => turned cosT sinT (arr0 m c) (arr1 m c) (i 0) (i 1) :=
  (dats m 0 c).arrAt_eq_of_cover 5 _ (fun t _ => flushed_eq m c t) covered

/-- The reference's result, of its cosines and sines. -/
def refForm (C S : FVec Ideal S8192x32 .f32) (x : FVec Ideal S2x8192x512 .f32) (w : FVec Ideal S512x3072 .f32) : FVec Ideal S16384x4096 .bf16 :=
  truncf (F := Ideal) .bf16 (shapeCast _ ((concatenate Cert.Reference4Ideal.S2x8192x16x256 3 [⟨Cert.Reference4Ideal.S2x8192x16x128, ((extractStridedSlice Cert.Reference4Ideal.S2x8192x16x128 ![0, 0, 0, 0] (shapeCast _ (Host.dotGeneral Cert.Reference4Ideal.dot_S2x8192x512_S512x3072_S2x8192x3072_2_0_01_1_n_n none x w) Cert.Reference4Ideal.Gen.shapeCasts_S2x8192x3072_S2x8192x16x192) Cert.Reference4Ideal.Gen.slices_S2x8192x16x192_S2x8192x16x128_0_0_0_0) : (⟨Cert.Reference4Ideal.S2x8192x16x128, .f32⟩ : BufTy).Contents (Elt Ideal))⟩,
      ⟨Cert.Reference4Ideal.S2x8192x16x64, ((concatenate Cert.Reference4Ideal.S2x8192x16x64 3 [⟨Cert.Reference4Ideal.S2x8192x16x32, (subf
        (mulf (extractStridedSlice Cert.Reference4Ideal.S2x8192x16x32 ![0, 0, 0, 0] (extractStridedSlice Cert.Reference4Ideal.S2x8192x16x64 ![0, 0, 0, 128] (shapeCast _ (Host.dotGeneral Cert.Reference4Ideal.dot_S2x8192x512_S512x3072_S2x8192x3072_2_0_01_1_n_n none x w) Cert.Reference4Ideal.Gen.shapeCasts_S2x8192x3072_S2x8192x16x192) Cert.Reference4Ideal.Gen.slices_S2x8192x16x192_S2x8192x16x64_0_0_0_128) Cert.Reference4Ideal.Gen.slices_S2x8192x16x64_S2x8192x16x32_0_0_0_0) (broadcastInDim Cert.Reference4Ideal.S2x8192x16x32 ![0, 1, 2, 3] Cert.Reference4Ideal.Gen.bcast_S1x8192x1x32_S2x8192x16x32_0_1_2_3 (broadcastInDim Cert.Reference4Ideal.S1x8192x1x32 ![1, 2, 3] Cert.Reference4Ideal.Gen.bcast_S8192x1x32_S1x8192x1x32_1_2_3 (broadcastInDim Cert.Reference4Ideal.S8192x1x32 ![0, 2] Cert.Reference4Ideal.Gen.bcast_S8192x32_S8192x1x32_0_2 C))))
        (mulf (extractStridedSlice Cert.Reference4Ideal.S2x8192x16x32 ![0, 0, 0, 32] (extractStridedSlice Cert.Reference4Ideal.S2x8192x16x64 ![0, 0, 0, 128] (shapeCast _ (Host.dotGeneral Cert.Reference4Ideal.dot_S2x8192x512_S512x3072_S2x8192x3072_2_0_01_1_n_n none x w) Cert.Reference4Ideal.Gen.shapeCasts_S2x8192x3072_S2x8192x16x192) Cert.Reference4Ideal.Gen.slices_S2x8192x16x192_S2x8192x16x64_0_0_0_128) Cert.Reference4Ideal.Gen.slices_S2x8192x16x64_S2x8192x16x32_0_0_0_32) (broadcastInDim Cert.Reference4Ideal.S2x8192x16x32 ![0, 1, 2, 3] Cert.Reference4Ideal.Gen.bcast_S1x8192x1x32_S2x8192x16x32_0_1_2_3 (broadcastInDim Cert.Reference4Ideal.S1x8192x1x32 ![1, 2, 3] Cert.Reference4Ideal.Gen.bcast_S8192x1x32_S1x8192x1x32_1_2_3 (broadcastInDim Cert.Reference4Ideal.S8192x1x32 ![0, 2] Cert.Reference4Ideal.Gen.bcast_S8192x32_S8192x1x32_0_2 S)))))⟩,
      ⟨Cert.Reference4Ideal.S2x8192x16x32, (addf
        (mulf (extractStridedSlice Cert.Reference4Ideal.S2x8192x16x32 ![0, 0, 0, 0] (extractStridedSlice Cert.Reference4Ideal.S2x8192x16x64 ![0, 0, 0, 128] (shapeCast _ (Host.dotGeneral Cert.Reference4Ideal.dot_S2x8192x512_S512x3072_S2x8192x3072_2_0_01_1_n_n none x w) Cert.Reference4Ideal.Gen.shapeCasts_S2x8192x3072_S2x8192x16x192) Cert.Reference4Ideal.Gen.slices_S2x8192x16x192_S2x8192x16x64_0_0_0_128) Cert.Reference4Ideal.Gen.slices_S2x8192x16x64_S2x8192x16x32_0_0_0_0) (broadcastInDim Cert.Reference4Ideal.S2x8192x16x32 ![0, 1, 2, 3] Cert.Reference4Ideal.Gen.bcast_S1x8192x1x32_S2x8192x16x32_0_1_2_3 (broadcastInDim Cert.Reference4Ideal.S1x8192x1x32 ![1, 2, 3] Cert.Reference4Ideal.Gen.bcast_S8192x1x32_S1x8192x1x32_1_2_3 (broadcastInDim Cert.Reference4Ideal.S8192x1x32 ![0, 2] Cert.Reference4Ideal.Gen.bcast_S8192x32_S8192x1x32_0_2 S))))
        (mulf (extractStridedSlice Cert.Reference4Ideal.S2x8192x16x32 ![0, 0, 0, 32] (extractStridedSlice Cert.Reference4Ideal.S2x8192x16x64 ![0, 0, 0, 128] (shapeCast _ (Host.dotGeneral Cert.Reference4Ideal.dot_S2x8192x512_S512x3072_S2x8192x3072_2_0_01_1_n_n none x w) Cert.Reference4Ideal.Gen.shapeCasts_S2x8192x3072_S2x8192x16x192) Cert.Reference4Ideal.Gen.slices_S2x8192x16x192_S2x8192x16x64_0_0_0_128) Cert.Reference4Ideal.Gen.slices_S2x8192x16x64_S2x8192x16x32_0_0_0_32) (broadcastInDim Cert.Reference4Ideal.S2x8192x16x32 ![0, 1, 2, 3] Cert.Reference4Ideal.Gen.bcast_S1x8192x1x32_S2x8192x16x32_0_1_2_3 (broadcastInDim Cert.Reference4Ideal.S1x8192x1x32 ![1, 2, 3] Cert.Reference4Ideal.Gen.bcast_S8192x1x32_S1x8192x1x32_1_2_3 (broadcastInDim Cert.Reference4Ideal.S8192x1x32 ![0, 2] Cert.Reference4Ideal.Gen.bcast_S8192x32_S8192x1x32_0_2 C)))))⟩] Cert.Reference4Ideal.Gen.concatenates_S2x8192x16x32_S2x8192x16x32_S2x8192x16x64_d3) : (⟨Cert.Reference4Ideal.S2x8192x16x64, .f32⟩ : BufTy).Contents (Elt Ideal))⟩,
      ⟨Cert.Reference4Ideal.S2x8192x16x64, ((broadcastInDim Cert.Reference4Ideal.S2x8192x16x64 ![] Cert.Reference4Ideal.Gen.bcast_S_S2x8192x16x64 (constant (F := Ideal) Cert.Reference4Ideal.S_ .f32 0x00000000#32)) : (⟨Cert.Reference4Ideal.S2x8192x16x64, .f32⟩ : BufTy).Contents (Elt Ideal))⟩] Cert.Reference4Ideal.Gen.concatenates_S2x8192x16x128_S2x8192x16x64_S2x8192x16x64_S2x8192x16x256_d3 : (⟨Cert.Reference4Ideal.S2x8192x16x256, .f32⟩ : BufTy).Contents (Elt Ideal))) Cert.Reference4Ideal.Gen.shapeCasts_S2x8192x16x256_S16384x4096) Cert.Reference4Ideal.Gen.bitsLt_bf16_f32
theorem refForm_apply (C S : FVec Ideal S8192x32 .f32) (x : FVec Ideal S2x8192x512 .f32) (w : FVec Ideal S512x3072 .f32) (r : Fin 16384) (n : Fin 4096) :
    refForm C S x w (ix2 r n) = turned C S x w r n := by
  unfold refForm
  pointwise
  exact lanes_eq (query x w r) (fun j => C (ix2 (⟨r % 8192, by omega⟩ : Fin 8192) j)) (fun j => S (ix2 (⟨r % 8192, by omega⟩ : Fin 8192) j)) n

/-- The reference's result is the queries. -/
theorem ref_eq (m : (ℓ : Loc Cert.Reference4Ideal.nD Cert.Reference4Ideal.τ Cert.Reference4Ideal.sig) → Buf (Elt Ideal) ℓ) (c : Dev Cert.Reference4Ideal.nD) :
    Cert.Reference4Ideal.Value.res_main_v40 (F := Ideal) m c
      = fun i : S16384x4096.Idx => turned cosT sinT (m ((c.tc : Thread Cert.Reference4Ideal.nD Cert.Reference4Ideal.τ).loc Cert.Reference4Ideal.main_arg0))
          (m ((c.tc : Thread Cert.Reference4Ideal.nD Cert.Reference4Ideal.τ).loc Cert.Reference4Ideal.main_arg1)) (i 0) (i 1) := by
  have e : Cert.Reference4Ideal.Value.res_main_v40 (F := Ideal) m c = refForm cosT sinT (m ((c.tc : Thread Cert.Reference4Ideal.nD Cert.Reference4Ideal.τ).loc Cert.Reference4Ideal.main_arg0))
      (m ((c.tc : Thread Cert.Reference4Ideal.nD Cert.Reference4Ideal.τ).loc Cert.Reference4Ideal.main_arg1)) := rfl
  rw [e]
  funext i
  obtain ⟨r, n, rfl⟩ : ∃ (r : Fin 16384) (n : Fin 4096), i = ix2 r n := ⟨i 0, i 1, by funext a; fin_cases a <;> rfl⟩
  exact refForm_apply _ _ _ _ r n

/-- Kernel and reference run from equal arguments: both end with the queries. -/
theorem algebraic : Cert.algebraic_Kernel4Ideal_Reference4Ideal (hKernel4Ideal := Cert.Kernel4Ideal.Gen.facts)
    (hReference4Ideal := Cert.Reference4Ideal.Gen.facts) := by
  intro m g m' g' _ hm
  refine ⟨fun c => fun i : S16384x4096.Idx => turned cosT sinT (arr0 m c) (arr1 m c) (i 0) (i 1), ?_, ?_⟩
  · exact (θ_run _ _ _).mono (fun r h c => ⟨(h c).1.trans (final m c), (h c).2⟩) (Cert.Kernel4Ideal.Value.run_blocks (F := Ideal) m g)
  · refine (θ_run _ _ _).mono (fun r h c => ⟨(h c).1.trans ?_, (h c).2⟩) (Cert.Reference4Ideal.Value.run (F := Ideal) m' g')
    refine (ref_eq _ _).trans ?_
    obtain ⟨e0, e1⟩ := hm c
    rw [e0, e1]

end Cert.Kernel4Ideal.Proj

end
-- ==== Proof.Proj.LatentBlock.lean ====
/- THE ODD LAYERS' INPUT PROJECTION, A BLOCK: what a point stores. The row's product with the weights has three parts: 512 entries for
   the queries' latents and 512 for the keys' and values', each divided by its root mean square and scaled, and 128 lanes combined with
   two turned copies of themselves by three tables. -/
module

public import proofs.«01_k».proof.Defs
public import proofs.«01_k».proof.Proof.Gen.Kernel5Ideal.Value
public import Idealize.ShloMosaic.Lib.Pointwise
public import Idealize.ShloMosaic.Lib.Pipeline.ReadBack

@[expose] public section

set_option maxRecDepth 16384

noncomputable section

namespace Cert.Kernel5Ideal.Proj

open Cert.Kernel5Ideal Cert.Kernel5Ideal.Gen Cert.Kernel5Ideal.Value Idealize.ShloMosaic Idealize.ShloMosaic.TcCoe Idealize.SL.Sem

/-- A row divided by its root mean square and scaled: the mean is over 512 entries, a small constant is added under the root. -/
def rms (Q g : Fin 512 → EReal) (l : Fin 512) : EReal :=
  Q l * Ideal.rsqrt (Ideal.div (∑ j : Fin 512, Q j * Q j) (Ideal.ofBits FTy.f32 0x44000000#32) + Ideal.ofBits FTy.f32 0x358637BD#32) * g l

/-- A row's dot with a column. -/
def dots (x : Vec Ideal S512x2048 .f32) (w : Vec Ideal S2048x1152 .bf16) (r : Fin 512) (n : Fin 1152) : EReal :=
  ∑ k : Fin 2048, x (ix2 r k) * w (ix2 k n)

/-- The three payloads, at an index. -/
theorem first_apply (x : Vec Ideal S512x2048 .f32) (w : Vec Ideal S2048x1152 .bf16) (g : Vec Ideal S1x512 .f32) (r l : Fin 512) :
    k0_pay3 x w g (ix2 r l) = rms (fun j => dots x w r ⟨j, by omega⟩) (fun j => g (ix2 (0 : Fin 1) j)) l := by
  unfold k0_pay3 k0_pay2
  pointwise
  rfl
theorem second_apply (x : Vec Ideal S512x2048 .f32) (w : Vec Ideal S2048x1152 .bf16) (g : Vec Ideal S1x512 .f32) (r l : Fin 512) :
    k0_pay4 x w g (ix2 r l) = rms (fun j => dots x w r ⟨512 + j, by omega⟩) (fun j => g (ix2 (0 : Fin 1) j)) l := by
  unfold k0_pay4 k0_pay2
  pointwise
  rfl
theorem third_apply (x : Vec Ideal S512x2048 .f32) (w : Vec Ideal S2048x1152 .bf16) (c su sd : Vec Ideal S512x128 .f32) (r : Fin 512) (l : Fin 128) :
    k0_pay1 (k0_pay2 x w) c su sd (ix2 r l) = dots x w r ⟨1024 + l, by omega⟩ * c (ix2 r l)
      + dots x w r ⟨1024 + (l + 128 - 32) % 128, by omega⟩ * su (ix2 r l) + dots x w r ⟨1024 + (l + 128 - 96) % 128, by omega⟩ * sd (ix2 r l) := by
  unfold k0_pay1 k0_pay2
  pointwise
  rfl

/-- Every load is of a whole block. -/
theorem ld0 (x : Vec Ideal S512x2048 .f32) : View.ld x r0_0 = x := by
  funext i
  refine congrArg x ?_
  funext a; apply Fin.ext; match a with
  | ⟨0, _⟩ => show 0 + 1 * (i 0).val = (i 0).val; omega
  | ⟨1, _⟩ => show 0 + 1 * (i 1).val = (i 1).val; omega
theorem ld1 (x : Vec Ideal S2048x1152 .bf16) : View.ld x r0_1 = x := by
  funext i
  refine congrArg x ?_
  funext a; apply Fin.ext; match a with
  | ⟨0, _⟩ => show 0 + 1 * (i 0).val = (i 0).val; omega
  | ⟨1, _⟩ => show 0 + 1 * (i 1).val = (i 1).val; omega
theorem ld2 (x : Vec Ideal S1x512 .f32) : View.ld x r0_2 = x := by
  funext i
  refine congrArg x ?_
  funext a; apply Fin.ext; match a with
  | ⟨0, _⟩ => show 0 + 1 * (i 0).val = (i 0).val; omega
  | ⟨1, _⟩ => show 0 + 1 * (i 1).val = (i 1).val; omega
theorem ld4 (x : Vec Ideal S512x128 .f32) : View.ld x r0_4 = x := by
  funext i
  refine congrArg x ?_
  funext a; apply Fin.ext; match a with
  | ⟨0, _⟩ => show 0 + 1 * (i 0).val = (i 0).val; omega
  | ⟨1, _⟩ => show 0 + 1 * (i 1).val = (i 1).val; omega

/-- Every store is of a whole block. -/
theorem out7_eq (x0 : Vec Ideal S512x2048 .f32) (x1 : Vec Ideal S2048x1152 .bf16) (x2 x3 : Vec Ideal S1x512 .f32) (x4 x5 x6 : Vec Ideal S512x128 .f32) :
    out0_7 x0 x1 x2 x3 x4 x5 x6 = k0_pay3 x0 x1 x2 := by
  funext y
  have h : View.PiecesOf (Val := Elt Ideal) (e := .bf16) (k0_pay3 x0 x1 x2 : Vec Ideal S512x512 .bf16)
      [⟨r0_3, k0_pay3 (View.ld x0 r0_0) (View.ld x1 r0_1) (View.ld x2 r0_2)⟩] := by
    rw [ld0, ld1, ld2]
    refine ⟨fun i => congrArg (k0_pay3 x0 x1 x2 : Vec Ideal S512x512 .bf16) ?_, trivial⟩
    funext a; apply Fin.ext; match a with
    | ⟨0, _⟩ => show (i 0).val = 0 + 1 * (i 0).val; omega
    | ⟨1, _⟩ => show (i 1).val = 0 + 1 * (i 1).val; omega
  exact View.canon_apply_of_pieces (Val := Elt Ideal) (e := .bf16) (k0_pay3 x0 x1 x2 : Vec Ideal S512x512 .bf16) _ h.mem y (cover0_7 (k0_pay3 (View.ld x0 r0_0) (View.ld x1 r0_1) (View.ld x2 r0_2)) y)
theorem out8_eq (x0 : Vec Ideal S512x2048 .f32) (x1 : Vec Ideal S2048x1152 .bf16) (x2 x3 : Vec Ideal S1x512 .f32) (x4 x5 x6 : Vec Ideal S512x128 .f32) :
    out0_8 x0 x1 x2 x3 x4 x5 x6 = k0_pay4 x0 x1 x3 := by
  funext y
  have h : View.PiecesOf (Val := Elt Ideal) (e := .bf16) (k0_pay4 x0 x1 x3 : Vec Ideal S512x512 .bf16)
      [⟨r0_3, k0_pay4 (View.ld x0 r0_0) (View.ld x1 r0_1) (View.ld x3 r0_2)⟩] := by
    rw [ld0, ld1, ld2]
    refine ⟨fun i => congrArg (k0_pay4 x0 x1 x3 : Vec Ideal S512x512 .bf16) ?_, trivial⟩
    funext a; apply Fin.ext; match a with
    | ⟨0, _⟩ => show (i 0).val = 0 + 1 * (i 0).val; omega
    | ⟨1, _⟩ => show (i 1).val = 0 + 1 * (i 1).val; omega
  exact View.canon_apply_of_pieces (Val := Elt Ideal) (e := .bf16) (k0_pay4 x0 x1 x3 : Vec Ideal S512x512 .bf16) _ h.mem y (cover0_8 (k0_pay4 (View.ld x0 r0_0) (View.ld x1 r0_1) (View.ld x3 r0_2)) y)
theorem out9_eq (x0 : Vec Ideal S512x2048 .f32) (x1 : Vec Ideal S2048x1152 .bf16) (x2 x3 : Vec Ideal S1x512 .f32) (x4 x5 x6 : Vec Ideal S512x128 .f32) :
    out0_9 x0 x1 x2 x3 x4 x5 x6 = k0_pay1 (k0_pay2 x0 x1) x4 x5 x6 := by
  funext y
  have h : View.PiecesOf (Val := Elt Ideal) (e := .bf16) (k0_pay1 (k0_pay2 x0 x1) x4 x5 x6 : Vec Ideal S512x128 .bf16)
      [⟨r0_4, k0_pay1 (k0_pay2 (View.ld x0 r0_0) (View.ld x1 r0_1)) (View.ld x4 r0_4) (View.ld x5 r0_4) (View.ld x6 r0_4)⟩] := by
    rw [ld0, ld1, ld4, ld4, ld4]
    refine ⟨fun i => congrArg (k0_pay1 (k0_pay2 x0 x1) x4 x5 x6 : Vec Ideal S512x128 .bf16) ?_, trivial⟩
    funext a; apply Fin.ext; match a with
    | ⟨0, _⟩ => show (i 0).val = 0 + 1 * (i 0).val; omega
    | ⟨1, _⟩ => show (i 1).val = 0 + 1 * (i 1).val; omega
  exact View.canon_apply_of_pieces (Val := Elt Ideal) (e := .bf16) (k0_pay1 (k0_pay2 x0 x1) x4 x5 x6 : Vec Ideal S512x128 .bf16) _ h.mem y (cover0_9 (k0_pay1 (k0_pay2 (View.ld x0 r0_0) (View.ld x1 r0_1)) (View.ld x4 r0_4) (View.ld x5 r0_4) (View.ld x6 r0_4)) y)

end Cert.Kernel5Ideal.Proj

end
-- ==== Proof.Proj.Latent.lean ====
/- THE ODD LAYERS' INPUT PROJECTION: the kernel's blocks of 512 rows put together are the activations times the padded weights; the
   first two results are two groups of 512 columns, each divided by its root mean square and scaled; the third is the last 64 columns
   turned by the position's angles, with 64 zeros after them. -/
module

public import proofs.«01_k».proof.Proof.Proj.LatentBlock
public import proofs.«01_k».proof.Proof.Gen.Reference5Ideal.Run

@[expose] public section

set_option maxRecDepth 16384

noncomputable section

namespace Cert.Kernel5Ideal.Proj

open Cert.Kernel5Ideal Cert.Kernel5Ideal.Gen Cert.Kernel5Ideal.Value Idealize.ShloMosaic Idealize.ShloMosaic.TcCoe Idealize.SL.Sem

/-- The angle of a position at a frequency, as both programs compute it. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))
def cosT : FVec Ideal S8192x32 .f32 := Host.cos angles
def sinT : FVec Ideal S8192x32 .f32 := Host.sin angles

/-- An entry of the projection. -/
def entry (x : FVec Ideal S2x8192x2048 .f32) (w : FVec Ideal S2048x1088 .f32) (i : Fin 16384) (n : Fin 1088) : EReal :=
  ∑ k : Fin 2048, x (ix3 (⟨i / 8192, by omega⟩ : Fin 2) (⟨i % 8192, by omega⟩ : Fin 8192) k) * w (ix2 k n)

/-- The latents: a group of 512 entries, divided by its root mean square and scaled. -/
def first (x : FVec Ideal S2x8192x2048 .f32) (w : FVec Ideal S2048x1088 .f32) (g : FVec Ideal S512 .f32) (i : Fin 16384) (l : Fin 512) : EReal :=
  rms (fun j => entry x w i ⟨j, by omega⟩) (fun j => g (ix1 j)) l
def second (x : FVec Ideal S2x8192x2048 .f32) (w : FVec Ideal S2048x1088 .f32) (g : FVec Ideal S512 .f32) (i : Fin 16384) (l : Fin 512) : EReal :=
  rms (fun j => entry x w i ⟨512 + j, by omega⟩) (fun j => g (ix1 j)) l

/-- The turned lanes from 64 entries and a position's cosines and sines, and 64 zeros. -/
def lanes (Q : Fin 1088 → EReal) (C S : Fin 32 → EReal) (l : Fin 128) : EReal :=
  if h : l.val < 64 then
    if h' : l.val < 32 then Q ⟨1024 + l, by omega⟩ * C ⟨l, h'⟩ - Q ⟨1024 + (32 + l), by omega⟩ * S ⟨l, h'⟩
    else Q ⟨1024 + (l - 32), by omega⟩ * S ⟨l - 32, by omega⟩ + Q ⟨1024 + (32 + (l - 32)), by omega⟩ * C ⟨l - 32, by omega⟩
  else 0
def third (C S : FVec Ideal S8192x32 .f32) (x : FVec Ideal S2x8192x2048 .f32) (w : FVec Ideal S2048x1088 .f32) (i : Fin 16384) (l : Fin 128) : EReal :=
  lanes (entry x w i) (fun j => C (ix2 (⟨i % 8192, by omega⟩ : Fin 8192) j)) (fun j => S (ix2 (⟨i % 8192, by omega⟩ : Fin 8192) j)) l

/-- Point t works on the rows from 512·t on, on all the weights and scales, and on the tables' rows from 512·(t mod 16) on. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = t.val % 16 ∧ win0_4.index t (1 : Fin 2) = 0 :=
  (by decide +kernel : ∀ t : Fin grid0.N, win0_4.index t (0 : Fin 2) = t.val % 16 ∧ win0_4.index t (1 : Fin 2) = 0)
theorem index5 : ∀ t : Fin cfg0.N, win0_5.index t (0 : Fin 2) = t.val % 16 ∧ win0_5.index t (1 : Fin 2) = 0 :=
  (by decide +kernel : ∀ t : Fin grid0.N, win0_5.index t (0 : Fin 2) = t.val % 16 ∧ win0_5.index t (1 : Fin 2) = 0)
theorem index6 : ∀ t : Fin cfg0.N, win0_6.index t (0 : Fin 2) = t.val % 16 ∧ win0_6.index t (1 : Fin 2) = 0 :=
  (by decide +kernel : ∀ t : Fin grid0.N, win0_6.index t (0 : Fin 2) = t.val % 16 ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem lt_points (t : Fin cfg0.N) : t.val < 32 := t.isLt

theorem emb0 (t : Fin cfg0.N) (r : Fin 512) (d : Fin 2048) : ((cfg0.win 0).blk t).view.emb (ix2 r d) = (ix2 (⟨512 * t.val + r, by have := lt_points t; omega⟩ : Fin 16384) d) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 2048 + 1 * d.val = d.val; omega
theorem emb1 (t : Fin cfg0.N) (r : Fin 2048) (d : Fin 1152) : ((cfg0.win 1).blk t).view.emb (ix2 r d) = (ix2 r d) := by
  obtain ⟨e0, e1⟩ := index1 t
  funext a; apply Fin.ext
  match a with
  | ⟨0, _⟩ => show win0_1.index t (0 : Fin 2) * 2048 + 1 * r.val = r.val; omega
  | ⟨1, _⟩ => show win0_1.index t (1 : Fin 2) * 1152 + 1 * d.val = d.val; omega
theorem emb2 (t : Fin cfg0.N) (r : Fin 1) (d : Fin 512) : ((cfg0.win 2).blk t).view.emb (ix2 r d) = (ix2 r d) := by
  obtain ⟨e0, e1⟩ := index2 t
  funext a; apply Fin.ext
  match a with
  | ⟨0, _⟩ => show win0_2.index t (0 : Fin 2) * 1 + 1 * r.val = r.val; omega
  | ⟨1, _⟩ => show win0_2.index t (1 : Fin 2) * 512 + 1 * d.val = d.val; omega
theorem emb3 (t : Fin cfg0.N) (r : Fin 1) (d : Fin 512) : ((cfg0.win 3).blk t).view.emb (ix2 r d) = (ix2 r d) := by
  obtain ⟨e0, e1⟩ := index3 t
  funext a; apply Fin.ext
  match a with
  | ⟨0, _⟩ => show win0_3.index t (0 : Fin 2) * 1 + 1 * r.val = r.val; omega
  | ⟨1, _⟩ => show win0_3.index t (1 : Fin 2) * 512 + 1 * d.val = d.val; omega
theorem emb4 (t : Fin cfg0.N) (r : Fin 512) (d : Fin 128) : ((cfg0.win 4).blk t).view.emb (ix2 r d) = (ix2 (⟨512 * (t.val % 16) + r, by omega⟩ : Fin 8192) d) := by
  obtain ⟨e0, e1⟩ := index4 t
  funext a; apply Fin.ext
  match a with
  | ⟨0, _⟩ => show win0_4.index t (0 : Fin 2) * 512 + 1 * r.val = 512 * (t.val % 16) + r.val; omega
  | ⟨1, _⟩ => show win0_4.index t (1 : Fin 2) * 128 + 1 * d.val = d.val; omega
theorem emb5 (t : Fin cfg0.N) (r : Fin 512) (d : Fin 128) : ((cfg0.win 5).blk t).view.emb (ix2 r d) = (ix2 (⟨512 * (t.val % 16) + r, by omega⟩ : Fin 8192) d) := by
  obtain ⟨e0, e1⟩ := index5 t
  funext a; apply Fin.ext
  match a with
  | ⟨0, _⟩ => show win0_5.index t (0 : Fin 2) * 512 + 1 * r.val = 512 * (t.val % 16) + r.val; omega
  | ⟨1, _⟩ => show win0_5.index t (1 : Fin 2) * 128 + 1 * d.val = d.val; omega
theorem emb6 (t : Fin cfg0.N) (r : Fin 512) (d : Fin 128) : ((cfg0.win 6).blk t).view.emb (ix2 r d) = (ix2 (⟨512 * (t.val % 16) + r, by omega⟩ : Fin 8192) d) := by
  obtain ⟨e0, e1⟩ := index6 t
  funext a; apply Fin.ext
  match a with
  | ⟨0, _⟩ => show win0_6.index t (0 : Fin 2) * 512 + 1 * r.val = 512 * (t.val % 16) + r.val; omega
  | ⟨1, _⟩ => show win0_6.index t (1 : Fin 2) * 128 + 1 * d.val = d.val; omega
theorem emb7 (t : Fin cfg0.N) (r : Fin 512) (d : Fin 512) : ((cfg0.win 7).blk t).view.emb (ix2 r d) = (ix2 (⟨512 * t.val + r, by have := lt_points t; omega⟩ : Fin 16384) d) := by
  obtain ⟨e0, e1⟩ := index7 t
  funext a; apply Fin.ext
  match a with
  | ⟨0, _⟩ => show win0_7.index t (0 : Fin 2) * 512 + 1 * r.val = 512 * t.val + r.val; omega
  | ⟨1, _⟩ => show win0_7.index t (1 : Fin 2) * 512 + 1 * d.val = d.val; omega
theorem emb8 (t : Fin cfg0.N) (r : Fin 512) (d : Fin 512) : ((cfg0.win 8).blk t).view.emb (ix2 r d) = (ix2 (⟨512 * t.val + r, by have := lt_points t; omega⟩ : Fin 16384) d) := by
  obtain ⟨e0, e1⟩ := index8 t
  funext a; apply Fin.ext
  match a with
  | ⟨0, _⟩ => show win0_8.index t (0 : Fin 2) * 512 + 1 * r.val = 512 * t.val + r.val; omega
  | ⟨1, _⟩ => show win0_8.index t (1 : Fin 2) * 512 + 1 * d.val = d.val; omega
theorem emb9 (t : Fin cfg0.N) (r : Fin 512) (d : Fin 128) : ((cfg0.win 9).blk t).view.emb (ix2 r d) = (ix2 (⟨512 * t.val + r, by have := lt_points t; omega⟩ : Fin 16384) d) := by
  obtain ⟨e0, e1⟩ := index9 t
  funext a; apply Fin.ext
  match a with
  | ⟨0, _⟩ => show win0_9.index t (0 : Fin 2) * 512 + 1 * r.val = 512 * t.val + r.val; omega
  | ⟨1, _⟩ => show win0_9.index t (1 : Fin 2) * 128 + 1 * d.val = d.val; omega

/-- Every entry of a result is in some point's block. -/
theorem covered7 (i : S16384x512.Idx) : ∃ t : Fin cfg0.N, (cfg0.win 7).flush t = true ∧ i ∈ ((cfg0.win 7).blk t).view.set := by
  have hR : (i 0).val < 16384 := (i 0).isLt
  let t : Fin cfg0.N := ⟨(i 0).val / 512, by show _ < 32; omega⟩
  have h := ((cfg0.win 7).blk t).view.emb_mem_set (ix2 (⟨(i 0).val % 512, by omega⟩ : Fin 512) (⟨(i 1).val, (i 1).isLt⟩ : Fin 512))
  rw [emb7] at h
  refine ⟨t, flush0_7 _, ?_⟩
  have e : i = ix2 (⟨512 * t.val + (i 0).val % 512, by have := lt_points t; omega⟩ : Fin 16384) (⟨(i 1).val, (i 1).isLt⟩ : Fin 512) := by
    funext a; apply Fin.ext
    match a with
    | ⟨0, _⟩ => show (i 0).val = 512 * ((i 0).val / 512) + (i 0).val % 512; omega
    | ⟨1, _⟩ => rfl
  exact (congrArg (· ∈ ((cfg0.win 7).blk t).view.set) e).mpr h
theorem covered8 (i : S16384x512.Idx) : ∃ t : Fin cfg0.N, (cfg0.win 8).flush t = true ∧ i ∈ ((cfg0.win 8).blk t).view.set := by
  have hR : (i 0).val < 16384 := (i 0).isLt
  let t : Fin cfg0.N := ⟨(i 0).val / 512, by show _ < 32; omega⟩
  have h := ((cfg0.win 8).blk t).view.emb_mem_set (ix2 (⟨(i 0).val % 512, by omega⟩ : Fin 512) (⟨(i 1).val, (i 1).isLt⟩ : Fin 512))
  rw [emb8] at h
  refine ⟨t, flush0_8 _, ?_⟩
  have e : i = ix2 (⟨512 * t.val + (i 0).val % 512, by have := lt_points t; omega⟩ : Fin 16384) (⟨(i 1).val, (i 1).isLt⟩ : Fin 512) := by
    funext a; apply Fin.ext
    match a with
    | ⟨0, _⟩ => show (i 0).val = 512 * ((i 0).val / 512) + (i 0).val % 512; omega
    | ⟨1, _⟩ => rfl
  exact (congrArg (· ∈ ((cfg0.win 8).blk t).view.set) e).mpr h
theorem covered9 (i : S16384x128.Idx) : ∃ t : Fin cfg0.N, (cfg0.win 9).flush t = true ∧ i ∈ ((cfg0.win 9).blk t).view.set := by
  have hR : (i 0).val < 16384 := (i 0).isLt
  let t : Fin cfg0.N := ⟨(i 0).val / 512, by show _ < 32; omega⟩
  have h := ((cfg0.win 9).blk t).view.emb_mem_set (ix2 (⟨(i 0).val % 512, by omega⟩ : Fin 512) (⟨(i 1).val, (i 1).isLt⟩ : Fin 128))
  rw [emb9] at h
  refine ⟨t, flush0_9 _, ?_⟩
  have e : i = ix2 (⟨512 * t.val + (i 0).val % 512, by have := lt_points t; omega⟩ : Fin 16384) (⟨(i 1).val, (i 1).isLt⟩ : Fin 128) := by
    funext a; apply Fin.ext
    match a with
    | ⟨0, _⟩ => show (i 0).val = 512 * ((i 0).val / 512) + (i 0).val % 512; omega
    | ⟨1, _⟩ => rfl
  exact (congrArg (· ∈ ((cfg0.win 9).blk t).view.set) e).mpr h

variable (m : (ℓ : Loc nD τ sig) → Buf (Elt Ideal) ℓ) (c : Dev nD)

/-- The arguments as arrays of extended reals. -/
abbrev arr0 : FVec Ideal S2x8192x2048 .f32 := m ((c : Thread nD τ).loc main_arg0)
abbrev arr1 : FVec Ideal S2048x1088 .f32 := m ((c : Thread nD τ).loc main_arg1)
abbrev arr2 : FVec Ideal S512 .f32 := m ((c : Thread nD τ).loc main_arg2)
abbrev arr3 : FVec Ideal S512 .f32 := m ((c : Thread nD τ).loc main_arg3)

/-- The activations, the padded weights and the scales as the host code lays them out. -/
theorem V_x (i : Fin 16384) (k : Fin 2048) :
    V m c main_v3 (ix2 i k) = arr0 m c (ix3 (⟨i / 8192, by omega⟩ : Fin 2) (⟨i % 8192, by omega⟩ : Fin 8192) k) := by
  have e : V m c main_v3 = shapeCast S16384x2048 (arr0 m c) shapeCasts_S2x8192x2048_S16384x2048 := by
    show StableHlo.after hostOps0 _ (Proc.devRef .tc main_v3) = _
    after_results
    rfl
  rw [e]
  pointwise
theorem V_w (k : Fin 2048) (n : Fin 1152) : V m c main_v2 (ix2 k n)
    = (if h : n.val < 1088 then arr1 m c (ix2 k (⟨n.val, h⟩ : Fin 1088)) else 0 : EReal) := by
  have e : V m c main_v2 = truncf .bf16 (concatenate S2048x1152 1 [⟨S2048x1088, arr1 m c⟩,
      ⟨S2048x64, broadcastInDim S2048x64 ![] bcast_S_S2048x64 (constant S_ .f32 0x00000000#32)⟩] concatenates_S2048x1088_S2048x64_S2048x1152_d1) bitsLt_bf16_f32 := by
    show StableHlo.after hostOps0 _ (Proc.devRef .tc main_v2) = _
    after_results
  rw [e]
  pointwise
theorem V_g2 (l : Fin 512) : V m c main_v23 (ix2 (0 : Fin 1) l) = arr2 m c (ix1 l) := by
  have e : V m c main_v23 = shapeCast S1x512 (arr2 m c) shapeCasts_S512_S1x512 := by
    show StableHlo.after hostOps0 _ (Proc.devRef .tc main_v23) = _
    after_results
    rfl
  rw [e]
  pointwise
theorem V_g3 (l : Fin 512) : V m c main_v24 (ix2 (0 : Fin 1) l) = arr3 m c (ix1 l) := by
  have e : V m c main_v24 = shapeCast S1x512 (arr3 m c) shapeCasts_S512_S1x512 := by
    show StableHlo.after hostOps0 _ (Proc.devRef .tc main_v24) = _
    after_results
    rfl
  rw [e]
  pointwise

/-- 32 columns of zeros, as both programs make them. -/
abbrev zeros : FVec Ideal S8192x32 .f32 := broadcastInDim S8192x32 ![] bcast_S_S8192x32 (constant S_ .f32 0x00000000#32)

/-- The three tables, at an index. -/
theorem V_c (s : Fin 8192) (l : Fin 128) : V m c main_v19 (ix2 s l)
    = (if h : l.val < 32 then cosT (ix2 s (⟨l, h⟩ : Fin 32)) else if h : l.val < 64 then cosT (ix2 s (⟨l - 32, by omega⟩ : Fin 32)) else 0 : EReal) := by
  have e : V m c main_v19 = concatenate S8192x128 1 [⟨S8192x32, cosT⟩, ⟨S8192x32, cosT⟩, ⟨S8192x32, zeros⟩, ⟨S8192x32, zeros⟩]
      concatenates_S8192x32_S8192x32_S8192x32_S8192x32_S8192x128_d1 := by
    show StableHlo.after hostOps0 _ (Proc.devRef .tc main_v19) = _
    after_results
    rfl
  rw [e]
  generalize cosT = C
  pointwise
  by_cases h1 : l.val < 32
  · refine (dif_pos h1).trans ?_
    rw [dif_pos h1]
  refine (dif_neg h1).trans (Eq.trans ?_ (dif_neg h1).symm)
  by_cases h2 : l.val < 64
  · refine (dif_pos (show l.val - 32 < 32 by omega)).trans ?_
    rw [dif_pos h2]
  · refine (dif_neg (show ¬ l.val - 32 < 32 by omega)).trans (Eq.trans ?_ (dif_neg h2).symm)
    split <;> rfl
theorem V_su (s : Fin 8192) (l : Fin 128) : V m c main_v20 (ix2 s l)
    = (if h : l.val < 32 then 0 else if h : l.val < 64 then sinT (ix2 s (⟨l - 32, by omega⟩ : Fin 32)) else 0 : EReal) := by
  have e : V m c main_v20 = concatenate S8192x128 1 [⟨S8192x32, zeros⟩, ⟨S8192x32, sinT⟩, ⟨S8192x32, zeros⟩, ⟨S8192x32, zeros⟩]
      concatenates_S8192x32_S8192x32_S8192x32_S8192x32_S8192x128_d1 := by
    show StableHlo.after hostOps0 _ (Proc.devRef .tc main_v20) = _
    after_results
    rfl
  rw [e]
  generalize sinT = S
  pointwise
  by_cases h1 : l.val < 32
  · refine (dif_pos h1).trans ?_
    rw [dif_pos h1]
  refine (dif_neg h1).trans (Eq.trans ?_ (dif_neg h1).symm)
  by_cases h2 : l.val < 64
  · refine (dif_pos (show l.val - 32 < 32 by omega)).trans ?_
    rw [dif_pos h2]
  · refine (dif_neg (show ¬ l.val - 32 < 32 by omega)).trans (Eq.trans ?_ (dif_neg h2).symm)
    split <;> rfl
theorem V_sd (s : Fin 8192) (l : Fin 128) : V m c main_v22 (ix2 s l)
    = (if h : l.val < 32 then - sinT (ix2 s (⟨l, h⟩ : Fin 32)) else 0 : EReal) := by
  have e : V m c main_v22 = concatenate S8192x128 1 [⟨S8192x32, Host.negf sinT⟩, ⟨S8192x32, zeros⟩, ⟨S8192x32, zeros⟩, ⟨S8192x32, zeros⟩]
      concatenates_S8192x32_S8192x32_S8192x32_S8192x32_S8192x128_d1 := by
    show StableHlo.after hostOps0 _ (Proc.devRef .tc main_v22) = _
    after_results
    rfl
  rw [e]
  generalize sinT = S
  pointwise
  split_ifs <;> first | rfl | omega

/-- A dot with a padded column: an entry of the projection, or zero. -/
theorem dots_eq (t : Fin cfg0.N) (r : Fin 512) (n : Fin 1152) : dots (iblk m c 0 t) (iblk m c 1 t) r n
    = (if h : n.val < 1088 then entry (arr0 m c) (arr1 m c) ⟨512 * t.val + r, by have := lt_points t; omega⟩ ⟨n.val, h⟩ else 0 : EReal) := by
  have e : ∀ k : Fin 2048, iblk m c 0 t (ix2 r k) = arr0 m c (ix3 (⟨(512 * t.val + r) / 8192, by have := lt_points t; omega⟩ : Fin 2) (⟨(512 * t.val + r) % 8192, by omega⟩ : Fin 8192) k) := fun k => by
    show V m c main_v3 (((cfg0.win 0).blk t).view.emb (ix2 r k)) = _
    rw [emb0, V_x]
  have e' : ∀ k : Fin 2048, iblk m c 1 t (ix2 k n) = (if h : n.val < 1088 then arr1 m c (ix2 k (⟨n.val, h⟩ : Fin 1088)) else 0 : EReal) := fun k => by
    show V m c main_v2 (((cfg0.win 1).blk t).view.emb (ix2 k n)) = _
    rw [emb1, V_w]
  unfold dots
  by_cases h : n.val < 1088
  · rw [dif_pos h]
    refine Finset.sum_congr rfl fun k _ => congrArg₂ (· * ·) (e k) ?_
    rw [e', dif_pos h]
  · rw [dif_neg h]
    refine Finset.sum_eq_zero fun k _ => ?_
    rw [e', dif_neg h]
    exact mul_zero _

/-- A lane combined with its two turned neighbours by the tables' values is a turned lane. -/
theorem lanes_eq (D : Fin 1152 → EReal) (Q : Fin 1088 → EReal) (C S : Fin 32 → EReal) (l : Fin 128)
    (hD : ∀ n : Fin 1152, D n = (if h : n.val < 1088 then Q ⟨n.val, h⟩ else 0 : EReal)) :
    D ⟨1024 + l, by omega⟩ * (if h : l.val < 32 then C ⟨l, h⟩ else if h : l.val < 64 then C ⟨l - 32, by omega⟩ else 0 : EReal)
      + D ⟨1024 + (l + 128 - 32) % 128, by omega⟩ * (if h : l.val < 32 then 0 else if h : l.val < 64 then S ⟨l - 32, by omega⟩ else 0 : EReal)
      + D ⟨1024 + (l + 128 - 96) % 128, by omega⟩ * (if h : l.val < 32 then - S ⟨l, h⟩ else 0 : EReal) = lanes Q C S l := by
  unfold lanes
  by_cases h1 : l.val < 32
  · have h2 : l.val < 64 := by omega
    have k : 1024 + (l.val + 128 - 96) % 128 = 1024 + (32 + l.val) := by omega
    have a1 : 1024 + l.val < 1088 := by omega
    have a2 : 1024 + (32 + l.val) < 1088 := by omega
    simp only [dif_pos h1, dif_pos h2, hD, k, dif_pos a1, dif_pos a2, mul_zero, add_zero, mul_neg, sub_eq_add_neg]
  by_cases h2 : l.val < 64
  · have k : 1024 + (l.val + 128 - 32) % 128 = 1024 + (l.val - 32) := by omega
    have k' : 1024 + (32 + (l.val - 32)) = 1024 + l.val := by omega
    have a1 : 1024 + l.val < 1088 := by omega
    have a2 : 1024 + (l.val - 32) < 1088 := by omega
    simp only [dif_neg h1, dif_pos h2, hD, k, k', dif_pos a1, dif_pos a2, mul_zero, add_zero]
    exact add_comm _ _
  · simp only [dif_neg h1, dif_neg h2, mul_zero, add_zero]

/-- What a point stores, at an index, in terms of the arguments. -/
theorem block7 (t : Fin cfg0.N) (r l : Fin 512) : k0_pay3 (iblk m c 0 t) (iblk m c 1 t) (iblk m c 2 t) (ix2 r l)
    = first (arr0 m c) (arr1 m c) (arr2 m c) ⟨512 * t.val + r, by have := lt_points t; omega⟩ l := by
  refine (first_apply _ _ _ r l).trans ?_
  unfold first
  refine congrArg₂ (fun Q g => rms Q g l) ?_ ?_
  · funext j
    rw [dots_eq, dif_pos (show j.val < 1088 by omega)]
  · funext j
    show V m c main_v23 (((cfg0.win 2).blk t).view.emb (ix2 (0 : Fin 1) j)) = _
    rw [emb2, V_g2]
theorem block8 (t : Fin cfg0.N) (r l : Fin 512) : k0_pay4 (iblk m c 0 t) (iblk m c 1 t) (iblk m c 3 t) (ix2 r l)
    = second (arr0 m c) (arr1 m c) (arr3 m c) ⟨512 * t.val + r, by have := lt_points t; omega⟩ l := by
  refine (second_apply _ _ _ r l).trans ?_
  unfold second
  refine congrArg₂ (fun Q g => rms Q g l) ?_ ?_
  · funext j
    rw [dots_eq, dif_pos (show 512 + j.val < 1088 by omega)]
  · funext j
    show V m c main_v24 (((cfg0.win 3).blk t).view.emb (ix2 (0 : Fin 1) j)) = _
    rw [emb3, V_g3]
theorem block9 (t : Fin cfg0.N) (r : Fin 512) (l : Fin 128) :
    k0_pay1 (k0_pay2 (iblk m c 0 t) (iblk m c 1 t)) (iblk m c 4 t) (iblk m c 5 t) (iblk m c 6 t) (ix2 r l)
    = third cosT sinT (arr0 m c) (arr1 m c) ⟨512 * t.val + r, by have := lt_points t; omega⟩ l := by
  have ht := lt_points t
  have row : (⟨(512 * t.val + r.val) % 8192, by omega⟩ : Fin 8192) = ⟨512 * (t.val % 16) + r.val, by omega⟩ :=
    Fin.ext (by show (512 * t.val + r.val) % 8192 = 512 * (t.val % 16) + r.val; omega)
  have ec : iblk m c 4 t (ix2 r l) = V m c main_v19 (ix2 (⟨512 * (t.val % 16) + r, by omega⟩ : Fin 8192) l) := by
    show V m c main_v19 (((cfg0.win 4).blk t).view.emb (ix2 r l)) = _
    rw [emb4]
  have eu : iblk m c 5 t (ix2 r l) = V m c main_v20 (ix2 (⟨512 * (t.val % 16) + r, by omega⟩ : Fin 8192) l) := by
    show V m c main_v20 (((cfg0.win 5).blk t).view.emb (ix2 r l)) = _
    rw [emb5]
  have ed : iblk m c 6 t (ix2 r l) = V m c main_v22 (ix2 (⟨512 * (t.val % 16) + r, by omega⟩ : Fin 8192) l) := by
    show V m c main_v22 (((cfg0.win 6).blk t).view.emb (ix2 r l)) = _
    rw [emb6]
  refine (third_apply _ _ _ _ _ r l).trans ?_
  unfold third
  rw [row, ec, eu, ed, V_c, V_su, V_sd]
  exact lanes_eq (dots (iblk m c 0 t) (iblk m c 1 t) r) _ (fun j => cosT (ix2 (⟨512 * (t.val % 16) + r, by omega⟩ : Fin 8192) j))
    (fun j => sinT (ix2 (⟨512 * (t.val % 16) + r, by omega⟩ : Fin 8192) j)) l (fun n => dots_eq m c t r n)

/-- What a point writes back is its block of each result. -/
theorem flushed7_eq (t : Fin cfg0.N) : (dats m 0 c).flushed 7 t
    = ((cfg0.win 7).blk t).view.read (Elt Ideal) (fun i : S16384x512.Idx => first (arr0 m c) (arr1 m c) (arr2 m c) (i 0) (i 1)) := by
  rw [flushed7, out7_eq]
  funext j
  obtain ⟨r, n, rfl⟩ : ∃ (r : Fin 512) (n : Fin 512), j = ix2 r n := ⟨j 0, j 1, by funext a; fin_cases a <;> rfl⟩
  refine Eq.trans ?_ (congrArg (fun i : S16384x512.Idx => first (arr0 m c) (arr1 m c) (arr2 m c) (i 0) (i 1)) (emb7 t r n)).symm
  exact block7 m c t r n
theorem flushed8_eq (t : Fin cfg0.N) : (dats m 0 c).flushed 8 t
    = ((cfg0.win 8).blk t).view.read (Elt Ideal) (fun i : S16384x512.Idx => second (arr0 m c) (arr1 m c) (arr3 m c) (i 0) (i 1)) := by
  rw [flushed8, out8_eq]
  funext j
  obtain ⟨r, n, rfl⟩ : ∃ (r : Fin 512) (n : Fin 512), j = ix2 r n := ⟨j 0, j 1, by funext a; fin_cases a <;> rfl⟩
  refine Eq.trans ?_ (congrArg (fun i : S16384x512.Idx => second (arr0 m c) (arr1 m c) (arr3 m c) (i 0) (i 1)) (emb8 t r n)).symm
  exact block8 m c t r n
theorem flushed9_eq (t : Fin cfg0.N) : (dats m 0 c).flushed 9 t
    = ((cfg0.win 9).blk t).view.read (Elt Ideal) (fun i : S16384x128.Idx => third cosT sinT (arr0 m c) (arr1 m c) (i 0) (i 1)) := by
  rw [flushed9, out9_eq]
  funext j
  obtain ⟨r, n, rfl⟩ : ∃ (r : Fin 512) (n : Fin 128), j = ix2 r n := ⟨j 0, j 1, by funext a; fin_cases a <;> rfl⟩
  refine Eq.trans ?_ (congrArg (fun i : S16384x128.Idx => third cosT sinT (arr0 m c) (arr1 m c) (i 0) (i 1)) (emb9 t r n)).symm
  exact block9 m c t r n

/-- The results after the run. -/
theorem final7 : (dats m 0 c).arrAt 7 cfg0.N = fun i : S16384x512.Idx => first (arr0 m c) (arr1 m c) (arr2 m c) (i 0) (i 1) :=
  (dats m 0 c).arrAt_eq_of_cover 7 _ (fun t _ => flushed7_eq m c t) covered7
theorem final8 : (dats m 0 c).arrAt 8 cfg0.N = fun i : S16384x512.Idx => second (arr0 m c) (arr1 m c) (arr3 m c) (i 0) (i 1) :=
  (dats m 0 c).arrAt_eq_of_cover 8 _ (fun t _ => flushed8_eq m c t) covered8
theorem final9 : (dats m 0 c).arrAt 9 cfg0.N = fun i : S16384x128.Idx => third cosT sinT (arr0 m c) (arr1 m c) (i 0) (i 1) :=
  (dats m 0 c).arrAt_eq_of_cover 9 _ (fun t _ => flushed9_eq m c t) covered9

/-- The reference's results, of its cosines and sines. -/
def refFirst (x : FVec Ideal S2x8192x2048 .f32) (w : FVec Ideal S2048x1088 .f32) (g : FVec Ideal S512 .f32) : FVec Ideal S16384x512 .bf16 :=
  truncf (F := Ideal) .bf16 (shapeCast _ (mulf
        (mulf (extractStridedSlice Cert.Reference5Ideal.S2x8192x512 ![0, 0, 0] (Host.dotGeneral Cert.Reference5Ideal.dot_S2x8192x2048_S2048x1088_S2x8192x1088_2_0_01_1_n_n none x w) Cert.Reference5Ideal.Gen.slices_S2x8192x1088_S2x8192x512_0_0_0) (broadcastInDim Cert.Reference5Ideal.S2x8192x512 ![0, 1, 2] Cert.Reference5Ideal.Gen.bcast_S2x8192x1_S2x8192x512_0_1_2
      (Host.rsqrt (addf (Host.divf (broadcastInDim Cert.Reference5Ideal.S2x8192x1 ![0, 1] Cert.Reference5Ideal.Gen.bcast_S2x8192_S2x8192x1_0_1
        (Host.reduceAdd
        (mulf (extractStridedSlice Cert.Reference5Ideal.S2x8192x512 ![0, 0, 0] (Host.dotGeneral Cert.Reference5Ideal.dot_S2x8192x2048_S2048x1088_S2x8192x1088_2_0_01_1_n_n none x w) Cert.Reference5Ideal.Gen.slices_S2x8192x1088_S2x8192x512_0_0_0) (extractStridedSlice Cert.Reference5Ideal.S2x8192x512 ![0, 0, 0] (Host.dotGeneral Cert.Reference5Ideal.dot_S2x8192x2048_S2048x1088_S2x8192x1088_2_0_01_1_n_n none x w) Cert.Reference5Ideal.Gen.slices_S2x8192x1088_S2x8192x512_0_0_0)) (constant (F := Ideal) Cert.Reference5Ideal.S_ .f32 0x00000000#32) Cert.Reference5Ideal.Gen.reducesTo_S2x8192x512_S2x8192_d2 Cert.Reference5Ideal.Gen.h_S_)) (broadcastInDim Cert.Reference5Ideal.S2x8192x1 ![] Cert.Reference5Ideal.Gen.bcast_S_S2x8192x1 (constant (F := Ideal) Cert.Reference5Ideal.S_ .f32 0x44000000#32))) (broadcastInDim Cert.Reference5Ideal.S2x8192x1 ![] Cert.Reference5Ideal.Gen.bcast_S_S2x8192x1 (constant (F := Ideal) Cert.Reference5Ideal.S_ .f32 0x358637BD#32)))))) (broadcastInDim Cert.Reference5Ideal.S2x8192x512 ![0, 1, 2] Cert.Reference5Ideal.Gen.bcast_S1x1x512_S2x8192x512_0_1_2 (broadcastInDim Cert.Reference5Ideal.S1x1x512 ![2] Cert.Reference5Ideal.Gen.bcast_S512_S1x1x512_2 g))) Cert.Reference5Ideal.Gen.shapeCasts_S2x8192x512_S16384x512) Cert.Reference5Ideal.Gen.bitsLt_bf16_f32
def refSecond (x : FVec Ideal S2x8192x2048 .f32) (w : FVec Ideal S2048x1088 .f32) (g : FVec Ideal S512 .f32) : FVec Ideal S16384x512 .bf16 :=
  truncf (F := Ideal) .bf16 (shapeCast _ (mulf
        (mulf (extractStridedSlice Cert.Reference5Ideal.S2x8192x512 ![0, 0, 512] (Host.dotGeneral Cert.Reference5Ideal.dot_S2x8192x2048_S2048x1088_S2x8192x1088_2_0_01_1_n_n none x w) Cert.Reference5Ideal.Gen.slices_S2x8192x1088_S2x8192x512_0_0_512) (broadcastInDim Cert.Reference5Ideal.S2x8192x512 ![0, 1, 2] Cert.Reference5Ideal.Gen.bcast_S2x8192x1_S2x8192x512_0_1_2
      (Host.rsqrt (addf (Host.divf (broadcastInDim Cert.Reference5Ideal.S2x8192x1 ![0, 1] Cert.Reference5Ideal.Gen.bcast_S2x8192_S2x8192x1_0_1
        (Host.reduceAdd
        (mulf (extractStridedSlice Cert.Reference5Ideal.S2x8192x512 ![0, 0, 512] (Host.dotGeneral Cert.Reference5Ideal.dot_S2x8192x2048_S2048x1088_S2x8192x1088_2_0_01_1_n_n none x w) Cert.Reference5Ideal.Gen.slices_S2x8192x1088_S2x8192x512_0_0_512) (extractStridedSlice Cert.Reference5Ideal.S2x8192x512 ![0, 0, 512] (Host.dotGeneral Cert.Reference5Ideal.dot_S2x8192x2048_S2048x1088_S2x8192x1088_2_0_01_1_n_n none x w) Cert.Reference5Ideal.Gen.slices_S2x8192x1088_S2x8192x512_0_0_512)) (constant (F := Ideal) Cert.Reference5Ideal.S_ .f32 0x00000000#32) Cert.Reference5Ideal.Gen.reducesTo_S2x8192x512_S2x8192_d2 Cert.Reference5Ideal.Gen.h_S_)) (broadcastInDim Cert.Reference5Ideal.S2x8192x1 ![] Cert.Reference5Ideal.Gen.bcast_S_S2x8192x1 (constant (F := Ideal) Cert.Reference5Ideal.S_ .f32 0x44000000#32))) (broadcastInDim Cert.Reference5Ideal.S2x8192x1 ![] Cert.Reference5Ideal.Gen.bcast_S_S2x8192x1 (constant (F := Ideal) Cert.Reference5Ideal.S_ .f32 0x358637BD#32)))))) (broadcastInDim Cert.Reference5Ideal.S2x8192x512 ![0, 1, 2] Cert.Reference5Ideal.Gen.bcast_S1x1x512_S2x8192x512_0_1_2 (broadcastInDim Cert.Reference5Ideal.S1x1x512 ![2] Cert.Reference5Ideal.Gen.bcast_S512_S1x1x512_2 g))) Cert.Reference5Ideal.Gen.shapeCasts_S2x8192x512_S16384x512) Cert.Reference5Ideal.Gen.bitsLt_bf16_f32
def refThird (C S : FVec Ideal S8192x32 .f32) (x : FVec Ideal S2x8192x2048 .f32) (w : FVec Ideal S2048x1088 .f32) : FVec Ideal S16384x128 .bf16 :=
  truncf (F := Ideal) .bf16 (shapeCast _ (concatenate Cert.Reference5Ideal.S2x8192x128 2 [⟨Cert.Reference5Ideal.S2x8192x64, (concatenate Cert.Reference5Ideal.S2x8192x64 2 [⟨Cert.Reference5Ideal.S2x8192x32, (subf
        (mulf (extractStridedSlice Cert.Reference5Ideal.S2x8192x32 ![0, 0, 0] (extractStridedSlice Cert.Reference5Ideal.S2x8192x64 ![0, 0, 1024] (Host.dotGeneral Cert.Reference5Ideal.dot_S2x8192x2048_S2048x1088_S2x8192x1088_2_0_01_1_n_n none x w) Cert.Reference5Ideal.Gen.slices_S2x8192x1088_S2x8192x64_0_0_1024) Cert.Reference5Ideal.Gen.slices_S2x8192x64_S2x8192x32_0_0_0) (broadcastInDim Cert.Reference5Ideal.S2x8192x32 ![0, 1, 2] Cert.Reference5Ideal.Gen.bcast_S1x8192x32_S2x8192x32_0_1_2 (broadcastInDim Cert.Reference5Ideal.S1x8192x32 ![1, 2] Cert.Reference5Ideal.Gen.bcast_S8192x32_S1x8192x32_1_2 C)))
        (mulf (extractStridedSlice Cert.Reference5Ideal.S2x8192x32 ![0, 0, 32] (extractStridedSlice Cert.Reference5Ideal.S2x8192x64 ![0, 0, 1024] (Host.dotGeneral Cert.Reference5Ideal.dot_S2x8192x2048_S2048x1088_S2x8192x1088_2_0_01_1_n_n none x w) Cert.Reference5Ideal.Gen.slices_S2x8192x1088_S2x8192x64_0_0_1024) Cert.Reference5Ideal.Gen.slices_S2x8192x64_S2x8192x32_0_0_32) (broadcastInDim Cert.Reference5Ideal.S2x8192x32 ![0, 1, 2] Cert.Reference5Ideal.Gen.bcast_S1x8192x32_S2x8192x32_0_1_2 (broadcastInDim Cert.Reference5Ideal.S1x8192x32 ![1, 2] Cert.Reference5Ideal.Gen.bcast_S8192x32_S1x8192x32_1_2 S))))⟩,
      ⟨Cert.Reference5Ideal.S2x8192x32, (addf
        (mulf (extractStridedSlice Cert.Reference5Ideal.S2x8192x32 ![0, 0, 0] (extractStridedSlice Cert.Reference5Ideal.S2x8192x64 ![0, 0, 1024] (Host.dotGeneral Cert.Reference5Ideal.dot_S2x8192x2048_S2048x1088_S2x8192x1088_2_0_01_1_n_n none x w) Cert.Reference5Ideal.Gen.slices_S2x8192x1088_S2x8192x64_0_0_1024) Cert.Reference5Ideal.Gen.slices_S2x8192x64_S2x8192x32_0_0_0) (broadcastInDim Cert.Reference5Ideal.S2x8192x32 ![0, 1, 2] Cert.Reference5Ideal.Gen.bcast_S1x8192x32_S2x8192x32_0_1_2 (broadcastInDim Cert.Reference5Ideal.S1x8192x32 ![1, 2] Cert.Reference5Ideal.Gen.bcast_S8192x32_S1x8192x32_1_2 S)))
        (mulf (extractStridedSlice Cert.Reference5Ideal.S2x8192x32 ![0, 0, 32] (extractStridedSlice Cert.Reference5Ideal.S2x8192x64 ![0, 0, 1024] (Host.dotGeneral Cert.Reference5Ideal.dot_S2x8192x2048_S2048x1088_S2x8192x1088_2_0_01_1_n_n none x w) Cert.Reference5Ideal.Gen.slices_S2x8192x1088_S2x8192x64_0_0_1024) Cert.Reference5Ideal.Gen.slices_S2x8192x64_S2x8192x32_0_0_32) (broadcastInDim Cert.Reference5Ideal.S2x8192x32 ![0, 1, 2] Cert.Reference5Ideal.Gen.bcast_S1x8192x32_S2x8192x32_0_1_2 (broadcastInDim Cert.Reference5Ideal.S1x8192x32 ![1, 2] Cert.Reference5Ideal.Gen.bcast_S8192x32_S1x8192x32_1_2 C))))⟩] Cert.Reference5Ideal.Gen.concatenates_S2x8192x32_S2x8192x32_S2x8192x64_d2)⟩,
      ⟨Cert.Reference5Ideal.S2x8192x64, (broadcastInDim Cert.Reference5Ideal.S2x8192x64 ![] Cert.Reference5Ideal.Gen.bcast_S_S2x8192x64 (constant (F := Ideal) Cert.Reference5Ideal.S_ .f32 0x00000000#32))⟩] Cert.Reference5Ideal.Gen.concatenates_S2x8192x64_S2x8192x64_S2x8192x128_d2) Cert.Reference5Ideal.Gen.shapeCasts_S2x8192x128_S16384x128) Cert.Reference5Ideal.Gen.bitsLt_bf16_f32
theorem refFirst_apply (x : FVec Ideal S2x8192x2048 .f32) (w : FVec Ideal S2048x1088 .f32) (g : FVec Ideal S512 .f32) (r : Fin 16384) (l : Fin 512) :
    refFirst x w g (ix2 r l) = first x w g r l := by
  unfold refFirst
  pointwise
  rfl
theorem refSecond_apply (x : FVec Ideal S2x8192x2048 .f32) (w : FVec Ideal S2048x1088 .f32) (g : FVec Ideal S512 .f32) (r : Fin 16384) (l : Fin 512) :
    refSecond x w g (ix2 r l) = second x w g r l := by
  unfold refSecond
  pointwise
  rfl
theorem refThird_apply (C S : FVec Ideal S8192x32 .f32) (x : FVec Ideal S2x8192x2048 .f32) (w : FVec Ideal S2048x1088 .f32) (r : Fin 16384) (l : Fin 128) :
    refThird C S x w (ix2 r l) = third C S x w r l := by
  unfold refThird
  pointwise
  rfl

/-- The reference's results are the same arrays. -/
theorem ref7 (x : FVec Ideal S2x8192x2048 .f32) (w : FVec Ideal S2048x1088 .f32) (g : FVec Ideal S512 .f32) :
    refFirst x w g = fun i : S16384x512.Idx => first x w g (i 0) (i 1) := by
  funext i
  obtain ⟨r, n, rfl⟩ : ∃ (r : Fin 16384) (n : Fin 512), i = ix2 r n := ⟨i 0, i 1, by funext a; fin_cases a <;> rfl⟩
  exact refFirst_apply _ _ _ r n
theorem ref8 (x : FVec Ideal S2x8192x2048 .f32) (w : FVec Ideal S2048x1088 .f32) (g : FVec Ideal S512 .f32) :
    refSecond x w g = fun i : S16384x512.Idx => second x w g (i 0) (i 1) := by
  funext i
  obtain ⟨r, n, rfl⟩ : ∃ (r : Fin 16384) (n : Fin 512), i = ix2 r n := ⟨i 0, i 1, by funext a; fin_cases a <;> rfl⟩
  exact refSecond_apply _ _ _ r n
theorem ref9 (C S : FVec Ideal S8192x32 .f32) (x : FVec Ideal S2x8192x2048 .f32) (w : FVec Ideal S2048x1088 .f32) :
    refThird C S x w = fun i : S16384x128.Idx => third C S x w (i 0) (i 1) := by
  funext i
  obtain ⟨r, n, rfl⟩ : ∃ (r : Fin 16384) (n : Fin 128), i = ix2 r n := ⟨i 0, i 1, by funext a; fin_cases a <;> rfl⟩
  exact refThird_apply _ _ _ _ r n
theorem ref9_eq (m : (ℓ : Loc Cert.Reference5Ideal.nD Cert.Reference5Ideal.τ Cert.Reference5Ideal.sig) → Buf (Elt Ideal) ℓ) (c : Dev Cert.Reference5Ideal.nD) :
    Cert.Reference5Ideal.Value.res_main_v68 (F := Ideal) m c
      = refThird cosT sinT (m ((c.tc : Thread Cert.Reference5Ideal.nD Cert.Reference5Ideal.τ).loc Cert.Reference5Ideal.main_arg0))
          (m ((c.tc : Thread Cert.Reference5Ideal.nD Cert.Reference5Ideal.τ).loc Cert.Reference5Ideal.main_arg1)) := rfl

/-- Kernel and reference run from equal arguments: both end with the same three arrays. -/
theorem algebraic : Cert.algebraic_Kernel5Ideal_Reference5Ideal (hKernel5Ideal := Cert.Kernel5Ideal.Gen.facts)
    (hReference5Ideal := Cert.Reference5Ideal.Gen.facts) := by
  intro m g m' g' _ hm
  refine ⟨fun c => fun i : S16384x512.Idx => first (arr0 m c) (arr1 m c) (arr2 m c) (i 0) (i 1),
    fun c => fun i : S16384x512.Idx => second (arr0 m c) (arr1 m c) (arr3 m c) (i 0) (i 1),
    fun c => fun i : S16384x128.Idx => third cosT sinT (arr0 m c) (arr1 m c) (i 0) (i 1), ?_, ?_⟩
  · exact (θ_run _ _ _).mono (fun r h c => ⟨(h c).1.trans (final7 m c), (h c).2.1.trans (final8 m c), (h c).2.2.1.trans (final9 m c), (h c).2.2.2⟩)
      (Cert.Kernel5Ideal.Value.run_blocks (F := Ideal) m g)
  · refine (θ_run _ _ _).mono (fun r h c => ⟨(h c).1.trans ?_, (h c).2.1.trans ?_, (h c).2.2.1.trans ?_, (h c).2.2.2⟩)
      (Cert.Reference5Ideal.Value.run (F := Ideal) m' g')
    · obtain ⟨e0, e1, e2, e3⟩ := hm c
      rw [e0, e1, e2]
      exact ref7 _ _ _
    · obtain ⟨e0, e1, e2, e3⟩ := hm c
      rw [e0, e1, e3]
      exact ref8 _ _ _
    · refine ((ref9_eq _ _).trans (ref9 _ _ _ _)).trans ?_
      obtain ⟨e0, e1, e2, e3⟩ := hm c
      rw [e0, e1]

end Cert.Kernel5Ideal.Proj

end
-- ==== Proof.Proj.LayerNorm.lean ====
/- THE LAYER NORM OF A ROW, as both programs compute it: the mean is taken from the row, what is left is divided by its root mean
   square, scaled and shifted. -/
module

public import Idealize.ShloMosaic.Lib.Pointwise

@[expose] public section

noncomputable section

namespace Cert.Proj

open Idealize.ShloMosaic

/-- A row's mean, over its 2048 entries. -/
def mean (Z : Fin 2048 → EReal) : EReal := Ideal.div (∑ j : Fin 2048, Z j) (Ideal.ofBits FTy.f32 0x45000000#32)

/-- A row normed: a small constant is added under the root. -/
def norm (Z g b : Fin 2048 → EReal) (l : Fin 2048) : EReal :=
  (Z l - mean Z) * Ideal.rsqrt (Ideal.div (∑ j : Fin 2048, (Z j - mean Z) * (Z j - mean Z)) (Ideal.ofBits FTy.f32 0x45000000#32)
    + Ideal.ofBits FTy.f32 0x3727C5AC#32) * g l + b l

end Cert.Proj

end
-- ==== Proof.Proj.OutBlock.lean ====
/- THE OUTPUT PROJECTION, A BLOCK: what a point stores in its first result. To a row of the residual, times a constant, the row's product
   with the weights is added, and the sum is normed. A block is stored in two pieces of 256 rows. -/
module

public import proofs.«01_k».proof.Defs
public import proofs.«01_k».proof.Proof.Proj.LayerNorm
public import proofs.«01_k».proof.Proof.Gen.Kernel6Ideal.Value
public import Idealize.ShloMosaic.Lib.Pointwise
public import Idealize.ShloMosaic.Lib.Pipeline.ReadBack

@[expose] public section

set_option maxRecDepth 16384

noncomputable section

namespace Cert.Kernel6Ideal.Proj

open Cert.Kernel6Ideal Cert.Kernel6Ideal.Gen Cert.Kernel6Ideal.Value Cert.Proj Idealize.ShloMosaic Idealize.ShloMosaic.TcCoe Idealize.SL.Sem

/-- The payload of a piece, at an index. -/
theorem pay_apply (o : Vec Ideal S256x2048 .bf16) (w : Vec Ideal S2048x2048 .bf16) (x : Vec Ideal S256x2048 .f32) (g b : Vec Ideal S1x2048 .f32)
    (r : Fin 256) (l : Fin 2048) :
    k0_pay2 o w x g b (ix2 r l)
      = norm (fun j => Ideal.ofBits FTy.f32 0x3FD744FD#32 * x (ix2 r j) + ∑ k : Fin 2048, o (ix2 r k) * w (ix2 k j))
          (fun j => g (ix2 (0 : Fin 1) j)) (fun j => b (ix2 (0 : Fin 1) j)) l := by
  unfold k0_pay2
  pointwise
  rfl

/-- The block, at an index. -/
def block (o : Vec Ideal S512x2048 .bf16) (w : Vec Ideal S2048x2048 .bf16) (x : Vec Ideal S512x2048 .f32) (g b : Vec Ideal S1x2048 .f32)
    (r : Fin 512) (l : Fin 2048) : EReal :=
  norm (fun j => Ideal.ofBits FTy.f32 0x3FD744FD#32 * x (ix2 r j) + ∑ k : Fin 2048, o (ix2 r k) * w (ix2 k j))
    (fun j => g (ix2 (0 : Fin 1) j)) (fun j => b (ix2 (0 : Fin 1) j)) l

/-- The weights and the scales are loaded whole. -/
theorem ld_w (w : Vec Ideal S2048x2048 .bf16) : View.ld w r0_1 = w := by
  funext i
  refine congrArg w ?_
  funext a; apply Fin.ext; match a with
  | ⟨0, _⟩ => show 0 + 1 * (i 0).val = (i 0).val; omega
  | ⟨1, _⟩ => show 0 + 1 * (i 1).val = (i 1).val; omega
theorem ld_g (g : Vec Ideal S1x2048 .f32) : View.ld g r0_2 = g := by
  funext i
  refine congrArg g ?_
  funext a; apply Fin.ext; match a with
  | ⟨0, _⟩ => show 0 + 1 * (i 0).val = (i 0).val; omega
  | ⟨1, _⟩ => show 0 + 1 * (i 1).val = (i 1).val; omega

/-- Where a piece whose rows begin at `p` lies in the block. -/
theorem emb_rows (p : ℕ) (inb : ∀ a, (![p, 0] : Fin 2 → ℕ) a + (![256, 2048] : Fin 2 → ℕ) a ≤ S512x2048.size a) (r : Fin 256) (l : Fin 2048)
    (q : Fin 512) (hq : q.val = p + r.val) :
    (Rect.unit (s := S512x2048) ![p, 0] ![256, 2048] inb).emb (ix2 r l) = ix2 q l := by
  funext a; apply Fin.ext; match a with
  | ⟨0, _⟩ => show p + 1 * r.val = q.val; omega
  | ⟨1, _⟩ => show 0 + 1 * l.val = l.val; omega

/-- A piece is those rows of the block. -/
theorem piece (o : Vec Ideal S512x2048 .bf16) (w : Vec Ideal S2048x2048 .bf16) (x : Vec Ideal S512x2048 .f32) (g b : Vec Ideal S1x2048 .f32) (p : ℕ)
    (inb : ∀ a, (![p, 0] : Fin 2 → ℕ) a + (![256, 2048] : Fin 2 → ℕ) a ≤ S512x2048.size a)
    (i : (Rect.unit (s := S512x2048) ![p, 0] ![256, 2048] inb).shape.Idx) :
    k0_pay2 (View.ld o (Rect.unit (s := S512x2048) ![p, 0] ![256, 2048] inb)) (View.ld w r0_1)
        (View.ld x (Rect.unit (s := S512x2048) ![p, 0] ![256, 2048] inb)) (View.ld g r0_2) (View.ld b r0_2) i
      = (fun y : S512x2048.Idx => block o w x g b (y 0) (y 1)) ((Rect.unit (s := S512x2048) ![p, 0] ![256, 2048] inb).emb i) := by
  obtain ⟨r, l, rfl⟩ : ∃ (r : Fin 256) (l : Fin 2048), i = ix2 r l := ⟨i 0, i 1, by funext a; fin_cases a <;> rfl⟩
  have hp : p + 256 ≤ 512 := inb 0
  have h : ∀ k : Fin 2048, (Rect.unit (s := S512x2048) ![p, 0] ![256, 2048] inb).emb (ix2 r k) = ix2 (⟨p + r, by omega⟩ : Fin 512) k :=
    fun k => emb_rows p inb r k _ rfl
  rw [pay_apply, ld_w, ld_g, ld_g, h]
  refine congrArg (fun Z => norm Z _ _ l) ?_
  funext j
  exact congrArg₂ (· + ·) (congrArg (_ * ·) (congrArg x (h j))) (Finset.sum_congr rfl fun k _ => congrArg (· * w (ix2 k j)) (congrArg o (h k)))

/-- Both pieces are computed alike. -/
theorem alike (x0 : Vec Ideal S512x2048 .bf16) (x1 : Vec Ideal S2048x2048 .bf16) (x2 : Vec Ideal S512x2048 .f32) (x3 x4 : Vec Ideal S1x2048 .f32)
    (x5 : Vec Ideal S2048x128 .bf16) (x6 : Vec Ideal S1x128 .f32) :
    k0_pay26 (k0_pay47 x0 x1 x2 x3 x4 x5 x6) (k0_pay48 x0 x1 x2 x3 x4 x5 x6) (k0_pay49 x0 x1 x2 x3 x4 x5 x6) (k0_pay50 x0 x1 x2 x3 x4 x5 x6)
      = k0_pay2 (View.ld x0 r0_6) (View.ld x1 r0_1) (View.ld x2 r0_6) (View.ld x3 r0_2) (View.ld x4 r0_2) := rfl

/-- What a point stores, at an index. -/
theorem out7_apply (x0 : Vec Ideal S512x2048 .bf16) (x1 : Vec Ideal S2048x2048 .bf16) (x2 : Vec Ideal S512x2048 .f32) (x3 x4 : Vec Ideal S1x2048 .f32)
    (x5 : Vec Ideal S2048x128 .bf16) (x6 : Vec Ideal S1x128 .f32) (y : S512x2048.Idx) :
    out0_7 x0 x1 x2 x3 x4 x5 x6 y = block x0 x1 x2 x3 x4 (y 0) (y 1) := by
  unfold out0_7
  rw [alike]
  have h : View.PiecesOf (Val := Elt Ideal) (e := .f32) (fun y : S512x2048.Idx => block x0 x1 x2 x3 x4 (y 0) (y 1))
      [⟨r0_6, k0_pay2 (View.ld x0 r0_6) (View.ld x1 r0_1) (View.ld x2 r0_6) (View.ld x3 r0_2) (View.ld x4 r0_2)⟩,
       ⟨r0_0, k0_pay2 (View.ld x0 r0_0) (View.ld x1 r0_1) (View.ld x2 r0_0) (View.ld x3 r0_2) (View.ld x4 r0_2)⟩] :=
    ⟨fun i => piece x0 x1 x2 x3 x4 256 _ i, fun i => piece x0 x1 x2 x3 x4 0 _ i, trivial⟩
  exact View.canon_apply_of_pieces (Val := Elt Ideal) (e := .f32) (fun y : S512x2048.Idx => block x0 x1 x2 x3 x4 (y 0) (y 1)) _ h.mem y
    (cover0_7 _ _ y)

end Cert.Kernel6Ideal.Proj

end
-- ==== Proof.Proj.Out.lean ====
/- THE OUTPUT PROJECTION: the kernel's blocks of 512 rows put together are the residual, times a constant, plus the attention's rows times
   the weights, normed row by row. -/
module

public import proofs.«01_k».proof.Proof.Proj.OutBlock
public import proofs.«01_k».proof.Proof.Gen.Reference6Ideal.Run

@[expose] public section

set_option maxRecDepth 16384

noncomputable section

namespace Cert.Kernel6Ideal.Proj

open Cert.Kernel6Ideal Cert.Kernel6Ideal.Gen Cert.Kernel6Ideal.Value Cert.Proj Idealize.ShloMosaic Idealize.ShloMosaic.TcCoe Idealize.SL.Sem

/-- An entry before the norm: the residual's times a constant, and a row's dot with a column of the weights. -/
def entry (o x : FVec Ideal S2x8192x2048 .f32) (w : FVec Ideal S2048x2048 .f32) (i : Fin 16384) (j : Fin 2048) : EReal :=
  Ideal.ofBits FTy.f32 0x3FD744FD#32 * x (ix3 (⟨i / 8192, by omega⟩ : Fin 2) (⟨i % 8192, by omega⟩ : Fin 8192) j)
    + ∑ k : Fin 2048, o (ix3 (⟨i / 8192, by omega⟩ : Fin 2) (⟨i % 8192, by omega⟩ : Fin 8192) k) * w (ix2 k j)

/-- An entry of the result. -/
def result (o x : FVec Ideal S2x8192x2048 .f32) (w : FVec Ideal S2048x2048 .f32) (g b : FVec Ideal S2048 .f32) (i : Fin 16384) (l : Fin 2048) : EReal :=
  norm (entry o x w i) (fun j => g (ix1 j)) (fun j => b (ix1 j)) l

/-- Point t works on the rows from 512·t on, on all the weights, scales and shifts. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem lt_points (t : Fin cfg0.N) : t.val < 32 := t.isLt

/-- Where an entry of a point's block lies in the array. -/
theorem emb0 (t : Fin cfg0.N) (r : Fin 512) (d : Fin 2048) : ((cfg0.win 0).blk t).view.emb (ix2 r d) = (ix2 (⟨512 * t.val + r, by have := lt_points t; omega⟩ : Fin 16384) d) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 2048 + 1 * d.val = d.val; omega
theorem emb1 (t : Fin cfg0.N) (r : Fin 2048) (d : Fin 2048) : ((cfg0.win 1).blk t).view.emb (ix2 r d) = (ix2 r d) := by
  obtain ⟨e0, e1⟩ := index1 t
  funext a; apply Fin.ext
  match a with
  | ⟨0, _⟩ => show win0_1.index t (0 : Fin 2) * 2048 + 1 * r.val = r.val; omega
  | ⟨1, _⟩ => show win0_1.index t (1 : Fin 2) * 2048 + 1 * d.val = d.val; omega
theorem emb2 (t : Fin cfg0.N) (r : Fin 512) (d : Fin 2048) : ((cfg0.win 2).blk t).view.emb (ix2 r d) = (ix2 (⟨512 * t.val + r, by have := lt_points t; omega⟩ : Fin 16384) d) := by
  obtain ⟨e0, e1⟩ := index2 t
  funext a; apply Fin.ext
  match a with
  | ⟨0, _⟩ => show win0_2.index t (0 : Fin 2) * 512 + 1 * r.val = 512 * t.val + r.val; omega
  | ⟨1, _⟩ => show win0_2.index t (1 : Fin 2) * 2048 + 1 * d.val = d.val; omega
theorem emb3 (t : Fin cfg0.N) (r : Fin 1) (d : Fin 2048) : ((cfg0.win 3).blk t).view.emb (ix2 r d) = (ix2 r d) := by
  obtain ⟨e0, e1⟩ := index3 t
  funext a; apply Fin.ext
  match a with
  | ⟨0, _⟩ => show win0_3.index t (0 : Fin 2) * 1 + 1 * r.val = r.val; omega
  | ⟨1, _⟩ => show win0_3.index t (1 : Fin 2) * 2048 + 1 * d.val = d.val; omega
theorem emb4 (t : Fin cfg0.N) (r : Fin 1) (d : Fin 2048) : ((cfg0.win 4).blk t).view.emb (ix2 r d) = (ix2 r d) := by
  obtain ⟨e0, e1⟩ := index4 t
  funext a; apply Fin.ext
  match a with
  | ⟨0, _⟩ => show win0_4.index t (0 : Fin 2) * 1 + 1 * r.val = r.val; omega
  | ⟨1, _⟩ => show win0_4.index t (1 : Fin 2) * 2048 + 1 * d.val = d.val; omega
theorem emb7 (t : Fin cfg0.N) (r : Fin 512) (d : Fin 2048) : ((cfg0.win 7).blk t).view.emb (ix2 r d) = (ix2 (⟨512 * t.val + r, by have := lt_points t; omega⟩ : Fin 16384) d) := by
  obtain ⟨e0, e1⟩ := index7 t
  funext a; apply Fin.ext
  match a with
  | ⟨0, _⟩ => show win0_7.index t (0 : Fin 2) * 512 + 1 * r.val = 512 * t.val + r.val; omega
  | ⟨1, _⟩ => show win0_7.index t (1 : Fin 2) * 2048 + 1 * d.val = d.val; omega

/-- Every entry of the result is in some point's block. -/
theorem covered (i : S16384x2048.Idx) : ∃ t : Fin cfg0.N, (cfg0.win 7).flush t = true ∧ i ∈ ((cfg0.win 7).blk t).view.set := by
  have hR : (i 0).val < 16384 := (i 0).isLt
  let t : Fin cfg0.N := ⟨(i 0).val / 512, by show _ < 32; omega⟩
  have h := ((cfg0.win 7).blk t).view.emb_mem_set (ix2 (⟨(i 0).val % 512, by omega⟩ : Fin 512) (⟨(i 1).val, (i 1).isLt⟩ : Fin 2048))
  rw [emb7] at h
  refine ⟨t, flush0_7 _, ?_⟩
  have e : i = ix2 (⟨512 * t.val + (i 0).val % 512, by have := lt_points t; omega⟩ : Fin 16384) (⟨(i 1).val, (i 1).isLt⟩ : Fin 2048) := by
    funext a; apply Fin.ext
    match a with
    | ⟨0, _⟩ => show (i 0).val = 512 * ((i 0).val / 512) + (i 0).val % 512; omega
    | ⟨1, _⟩ => rfl
  exact (congrArg (· ∈ ((cfg0.win 7).blk t).view.set) e).mpr h

variable (m : (ℓ : Loc nD τ sig) → Buf (Elt Ideal) ℓ) (c : Dev nD)

/-- The arguments as arrays of extended reals. -/
abbrev arr0 : FVec Ideal S2x8192x2048 .f32 := m ((c : Thread nD τ).loc main_arg0)
abbrev arr1 : FVec Ideal S2x8192x2048 .f32 := m ((c : Thread nD τ).loc main_arg1)
abbrev arr2 : FVec Ideal S2048x2048 .f32 := m ((c : Thread nD τ).loc main_arg2)
abbrev arr3 : FVec Ideal S2048 .f32 := m ((c : Thread nD τ).loc main_arg3)
abbrev arr4 : FVec Ideal S2048 .f32 := m ((c : Thread nD τ).loc main_arg4)

/-- The rows, the weights, the scales and the shifts as the host code lays them out. -/
theorem V_o (i : Fin 16384) (k : Fin 2048) : V m c main_v1 (ix2 i k) = arr0 m c (ix3 (⟨i / 8192, by omega⟩ : Fin 2) (⟨i % 8192, by omega⟩ : Fin 8192) k) := by
  have e : V m c main_v1 = truncf .bf16 (shapeCast S16384x2048 (arr0 m c) shapeCasts_S2x8192x2048_S16384x2048) bitsLt_bf16_f32 := by
    show StableHlo.after hostOps0 _ (Proc.devRef .tc main_v1) = _
    after_results
    rfl
  rw [e]
  pointwise
theorem V_x (i : Fin 16384) (k : Fin 2048) : V m c main_v9 (ix2 i k) = arr1 m c (ix3 (⟨i / 8192, by omega⟩ : Fin 2) (⟨i % 8192, by omega⟩ : Fin 8192) k) := by
  have e : V m c main_v9 = shapeCast S16384x2048 (arr1 m c) shapeCasts_S2x8192x2048_S16384x2048 := by
    show StableHlo.after hostOps0 _ (Proc.devRef .tc main_v9) = _
    after_results
    rfl
  rw [e]
  pointwise
theorem V_w (k n : Fin 2048) : V m c main_v8 (ix2 k n) = arr2 m c (ix2 k n) := by
  have e : V m c main_v8 = truncf .bf16 (arr2 m c) bitsLt_bf16_f32 := by
    show StableHlo.after hostOps0 _ (Proc.devRef .tc main_v8) = _
    after_results
  rw [e]
  pointwise
theorem V_g (l : Fin 2048) : V m c main_v10 (ix2 (0 : Fin 1) l) = arr3 m c (ix1 l) := by
  have e : V m c main_v10 = shapeCast S1x2048 (arr3 m c) shapeCasts_S2048_S1x2048 := by
    show StableHlo.after hostOps0 _ (Proc.devRef .tc main_v10) = _
    after_results
    rfl
  rw [e]
  pointwise
theorem V_b (l : Fin 2048) : V m c main_v11 (ix2 (0 : Fin 1) l) = arr4 m c (ix1 l) := by
  have e : V m c main_v11 = shapeCast S1x2048 (arr4 m c) shapeCasts_S2048_S1x2048 := by
    show StableHlo.after hostOps0 _ (Proc.devRef .tc main_v11) = _
    after_results
    rfl
  rw [e]
  pointwise

/-- What a point stores, at an index, in terms of the arguments. -/
theorem block_eq (t : Fin cfg0.N) (r : Fin 512) (l : Fin 2048) : block (iblk m c 0 t) (iblk m c 1 t) (iblk m c 2 t) (iblk m c 3 t) (iblk m c 4 t) r l
    = result (arr0 m c) (arr1 m c) (arr2 m c) (arr3 m c) (arr4 m c) ⟨512 * t.val + r, by have := lt_points t; omega⟩ l := by
  have eo : ∀ k : Fin 2048, iblk m c 0 t (ix2 r k) = arr0 m c (ix3 (⟨(512 * t.val + r) / 8192, by have := lt_points t; omega⟩ : Fin 2) (⟨(512 * t.val + r) % 8192, by omega⟩ : Fin 8192) k) := fun k => by
    show V m c main_v1 (((cfg0.win 0).blk t).view.emb (ix2 r k)) = _
    rw [emb0, V_o]
  have ex : ∀ k : Fin 2048, iblk m c 2 t (ix2 r k) = arr1 m c (ix3 (⟨(512 * t.val + r) / 8192, by have := lt_points t; omega⟩ : Fin 2) (⟨(512 * t.val + r) % 8192, by omega⟩ : Fin 8192) k) := fun k => by
    show V m c main_v9 (((cfg0.win 2).blk t).view.emb (ix2 r k)) = _
    rw [emb2, V_x]
  have ew : ∀ k j : Fin 2048, iblk m c 1 t (ix2 k j) = arr2 m c (ix2 k j) := fun k j => by
    show V m c main_v8 (((cfg0.win 1).blk t).view.emb (ix2 k j)) = _
    rw [emb1, V_w]
  have eg : (fun j : Fin 2048 => iblk m c 3 t (ix2 (0 : Fin 1) j)) = fun j => arr3 m c (ix1 j) := by
    funext j
    show V m c main_v10 (((cfg0.win 3).blk t).view.emb (ix2 (0 : Fin 1) j)) = _
    rw [emb3, V_g]
  have eb : (fun j : Fin 2048 => iblk m c 4 t (ix2 (0 : Fin 1) j)) = fun j => arr4 m c (ix1 j) := by
    funext j
    show V m c main_v11 (((cfg0.win 4).blk t).view.emb (ix2 (0 : Fin 1) j)) = _
    rw [emb4, V_b]
  unfold block result
  refine Eq.trans ?_ (congrArg₂ (fun G B => norm (entry (arr0 m c) (arr1 m c) (arr2 m c) ⟨512 * t.val + r, by have := lt_points t; omega⟩) G B l) eg eb)
  refine congrArg (fun Z => norm Z _ _ l) ?_
  funext j
  exact congrArg₂ (· + ·) (congrArg (_ * ·) (ex j)) (Finset.sum_congr rfl fun k _ => congrArg₂ (· * ·) (eo k) (ew k j))

/-- What a point writes back is its block of the result. -/
theorem flushed_eq (t : Fin cfg0.N) : (dats m 0 c).flushed 7 t
    = ((cfg0.win 7).blk t).view.read (Elt Ideal) (fun i : S16384x2048.Idx => result (arr0 m c) (arr1 m c) (arr2 m c) (arr3 m c) (arr4 m c) (i 0) (i 1)) := by
  rw [flushed7]
  funext j
  obtain ⟨r, n, rfl⟩ : ∃ (r : Fin 512) (n : Fin 2048), j = ix2 r n := ⟨j 0, j 1, by funext a; fin_cases a <;> rfl⟩
  refine Eq.trans ?_ (congrArg (fun i : S16384x2048.Idx => result (arr0 m c) (arr1 m c) (arr2 m c) (arr3 m c) (arr4 m c) (i 0) (i 1)) (emb7 t r n)).symm
  exact (out7_apply _ _ _ _ _ _ _ (ix2 r n)).trans (block_eq m c t r n)

/-- The result after the run. -/
theorem final : (dats m 0 c).arrAt 7 cfg0.N = fun i : S16384x2048.Idx => result (arr0 m c) (arr1 m c) (arr2 m c) (arr3 m c) (arr4 m c) (i 0) (i 1) :=
  (dats m 0 c).arrAt_eq_of_cover 7 _ (fun t _ => flushed_eq m c t) covered

/-- The reference before its norm, the same less each row's mean, and the reference's result. -/
def refSum (o x : FVec Ideal S2x8192x2048 .f32) (w : FVec Ideal S2048x2048 .f32) : FVec Ideal S2x8192x2048 .f32 :=
  addf (mulf (broadcastInDim Cert.Reference6Ideal.S2x8192x2048 ![] Cert.Reference6Ideal.Gen.bcast_S_S2x8192x2048 (constant (F := Ideal) Cert.Reference6Ideal.S_ .f32 0x3FD744FD#32)) x) (Host.dotGeneral Cert.Reference6Ideal.dot_S2x8192x2048_S2048x2048_S2x8192x2048_2_0_01_1_n_n none o w)
def refCentred (Z : FVec Ideal S2x8192x2048 .f32) : FVec Ideal S2x8192x2048 .f32 :=
  subf Z (broadcastInDim Cert.Reference6Ideal.S2x8192x2048 ![0, 1, 2] Cert.Reference6Ideal.Gen.bcast_S2x8192x1_S2x8192x2048_0_1_2 (Host.divf (broadcastInDim Cert.Reference6Ideal.S2x8192x1 ![0, 1] Cert.Reference6Ideal.Gen.bcast_S2x8192_S2x8192x1_0_1 (Host.reduceAdd Z (constant (F := Ideal) Cert.Reference6Ideal.S_ .f32 0x00000000#32) Cert.Reference6Ideal.Gen.reducesTo_S2x8192x2048_S2x8192_d2 Cert.Reference6Ideal.Gen.h_S_)) (broadcastInDim Cert.Reference6Ideal.S2x8192x1 ![] Cert.Reference6Ideal.Gen.bcast_S_S2x8192x1 (constant (F := Ideal) Cert.Reference6Ideal.S_ .f32 0x45000000#32))))
def refResult (Z : FVec Ideal S2x8192x2048 .f32) (g b : FVec Ideal S2048 .f32) : FVec Ideal S16384x2048 .f32 :=
  shapeCast _ (addf (mulf (mulf (refCentred Z) (broadcastInDim Cert.Reference6Ideal.S2x8192x2048 ![0, 1, 2] Cert.Reference6Ideal.Gen.bcast_S2x8192x1_S2x8192x2048_0_1_2 (Host.rsqrt (addf (Host.divf (broadcastInDim Cert.Reference6Ideal.S2x8192x1 ![0, 1] Cert.Reference6Ideal.Gen.bcast_S2x8192_S2x8192x1_0_1 (Host.reduceAdd (mulf (refCentred Z) (refCentred Z)) (constant (F := Ideal) Cert.Reference6Ideal.S_ .f32 0x00000000#32) Cert.Reference6Ideal.Gen.reducesTo_S2x8192x2048_S2x8192_d2 Cert.Reference6Ideal.Gen.h_S_)) (broadcastInDim Cert.Reference6Ideal.S2x8192x1 ![] Cert.Reference6Ideal.Gen.bcast_S_S2x8192x1 (constant (F := Ideal) Cert.Reference6Ideal.S_ .f32 0x45000000#32))) (broadcastInDim Cert.Reference6Ideal.S2x8192x1 ![] Cert.Reference6Ideal.Gen.bcast_S_S2x8192x1 (constant (F := Ideal) Cert.Reference6Ideal.S_ .f32 0x3727C5AC#32)))))) (broadcastInDim Cert.Reference6Ideal.S2x8192x2048 ![0, 1, 2] Cert.Reference6Ideal.Gen.bcast_S1x1x2048_S2x8192x2048_0_1_2 (broadcastInDim Cert.Reference6Ideal.S1x1x2048 ![2] Cert.Reference6Ideal.Gen.bcast_S2048_S1x1x2048_2 g))) (broadcastInDim Cert.Reference6Ideal.S2x8192x2048 ![0, 1, 2] Cert.Reference6Ideal.Gen.bcast_S1x1x2048_S2x8192x2048_0_1_2 (broadcastInDim Cert.Reference6Ideal.S1x1x2048 ![2] Cert.Reference6Ideal.Gen.bcast_S2048_S1x1x2048_2 b))) Cert.Reference6Ideal.Gen.shapeCasts_S2x8192x2048_S16384x2048

/-- The reference's parts, at an index. -/
theorem refSum_apply (o x : FVec Ideal S2x8192x2048 .f32) (w : FVec Ideal S2048x2048 .f32) (i : Fin 16384) (j : Fin 2048) :
    refSum o x w (ix3 (⟨i / 8192, by omega⟩ : Fin 2) (⟨i % 8192, by omega⟩ : Fin 8192) j) = entry o x w i j := by
  unfold refSum
  pointwise
  rfl
theorem refCentred_apply (Z : FVec Ideal S2x8192x2048 .f32) (p : Fin 2) (s : Fin 8192) (j : Fin 2048) :
    refCentred Z (ix3 p s j) = Z (ix3 p s j) - mean (fun j => Z (ix3 p s j)) := by
  unfold refCentred
  pointwise
  rfl
theorem refResult_apply (Z : FVec Ideal S2x8192x2048 .f32) (g b : FVec Ideal S2048 .f32) (i : Fin 16384) (l : Fin 2048) :
    refResult Z g b (ix2 i l) = norm (fun j => Z (ix3 (⟨i / 8192, by omega⟩ : Fin 2) (⟨i % 8192, by omega⟩ : Fin 8192) j)) (fun j => g (ix1 j)) (fun j => b (ix1 j)) l := by
  unfold refResult
  pointwise
  simp only [refCentred_apply]
  rfl

/-- The reference's result is the same array. -/
theorem ref_eq (o x : FVec Ideal S2x8192x2048 .f32) (w : FVec Ideal S2048x2048 .f32) (g b : FVec Ideal S2048 .f32) :
    refResult (refSum o x w) g b = fun i : S16384x2048.Idx => result o x w g b (i 0) (i 1) := by
  funext i
  obtain ⟨r, n, rfl⟩ : ∃ (r : Fin 16384) (n : Fin 2048), i = ix2 r n := ⟨i 0, i 1, by funext a; fin_cases a <;> rfl⟩
  refine (refResult_apply _ _ _ r n).trans ?_
  exact congrArg (fun Z => norm Z _ _ n) (funext fun j => refSum_apply _ _ _ r j)

/-- Kernel and reference run from equal arguments: both end with the same array. -/
theorem algebraic : Cert.algebraic_Kernel6Ideal_Reference6Ideal (hKernel6Ideal := Cert.Kernel6Ideal.Gen.facts)
    (hReference6Ideal := Cert.Reference6Ideal.Gen.facts) := by
  intro m g m' g' _ hm
  refine ⟨fun c => fun i : S16384x2048.Idx => result (arr0 m c) (arr1 m c) (arr2 m c) (arr3 m c) (arr4 m c) (i 0) (i 1), ?_, ?_⟩
  · exact (θ_run _ _ _).mono (fun r h c => ⟨(h c).1.trans (final m c), (h c).2.2.2⟩)
      (Cert.Kernel6Ideal.Value.run_blocks (F := Ideal) m g)
  · refine (θ_run _ _ _).mono (fun r h c => ⟨(h c).1.trans ?_, (h c).2⟩) (Cert.Reference6Ideal.Value.run (F := Ideal) m' g')
    obtain ⟨e0, e1, e2, e3, e4, e5, e6, e7, e8⟩ := hm c
    rw [e0, e1, e2, e3, e4]
    exact ref_eq _ _ _ _ _

end Cert.Kernel6Ideal.Proj

end
-- ==== Proof.Proj.OutTwoBlock.lean ====
/- THE OUTPUT PROJECTION OF TWO ATTENTIONS, A BLOCK: what a point stores in its first result. To a row of the residual, times a constant, two rows'
   products with their halves of the weights are added, and the sum is normed. A block is stored in two pieces of 256 rows. -/
module

public import proofs.«01_k».proof.Defs
public import proofs.«01_k».proof.Proof.Proj.LayerNorm
public import proofs.«01_k».proof.Proof.Gen.Kernel7Ideal.Value
public import Idealize.ShloMosaic.Lib.Pointwise
public import Idealize.ShloMosaic.Lib.Pipeline.ReadBack

@[expose] public section

set_option maxRecDepth 16384

noncomputable section

namespace Cert.Kernel7Ideal.Proj

open Cert.Kernel7Ideal Cert.Kernel7Ideal.Gen Cert.Kernel7Ideal.Value Cert.Proj Idealize.ShloMosaic Idealize.ShloMosaic.TcCoe Idealize.SL.Sem

/-- The payload of a piece. -/
def pay (a a' : Vec Ideal S256x1024 .bf16) (w w' : Vec Ideal S1024x2048 .bf16) (x : Vec Ideal S256x2048 .f32) (g b : Vec Ideal S1x2048 .f32) : FVec Ideal S256x2048 .f32 :=
  k0_pay5 (k0_pay2 b) (k0_pay3 a w a' w' x) (k0_pay4 g)

/-- The payload of a piece, at an index. -/
theorem pay_apply (a a' : Vec Ideal S256x1024 .bf16) (w w' : Vec Ideal S1024x2048 .bf16) (x : Vec Ideal S256x2048 .f32) (g b : Vec Ideal S1x2048 .f32)
    (r : Fin 256) (l : Fin 2048) :
    pay a a' w w' x g b (ix2 r l) = norm (fun j => Ideal.ofBits FTy.f32 0x3FD744FD#32 * x (ix2 r j)
        + (∑ k : Fin 1024, a (ix2 r k) * w (ix2 k j) + ∑ k : Fin 1024, a' (ix2 r k) * w' (ix2 k j)))
      (fun j => g (ix2 (0 : Fin 1) j)) (fun j => b (ix2 (0 : Fin 1) j)) l := by
  unfold pay k0_pay5 k0_pay2 k0_pay3 k0_pay4
  pointwise
  rfl

/-- The block, at an index. -/
def block (a a' : Vec Ideal S512x1024 .bf16) (w w' : Vec Ideal S1024x2048 .bf16) (x : Vec Ideal S512x2048 .f32) (g b : Vec Ideal S1x2048 .f32)
    (r : Fin 512) (l : Fin 2048) : EReal :=
  norm (fun j => Ideal.ofBits FTy.f32 0x3FD744FD#32 * x (ix2 r j)
        + (∑ k : Fin 1024, a (ix2 r k) * w (ix2 k j) + ∑ k : Fin 1024, a' (ix2 r k) * w' (ix2 k j)))
    (fun j => g (ix2 (0 : Fin 1) j)) (fun j => b (ix2 (0 : Fin 1) j)) l

/-- The weights and the scales are loaded whole. -/
theorem ld_w (w : Vec Ideal S1024x2048 .bf16) : View.ld w r0_1 = w := by
  funext i
  refine congrArg w ?_
  funext a; apply Fin.ext; match a with
  | ⟨0, _⟩ => show 0 + 1 * (i 0).val = (i 0).val; omega
  | ⟨1, _⟩ => show 0 + 1 * (i 1).val = (i 1).val; omega
theorem ld_g (g : Vec Ideal S1x2048 .f32) : View.ld g r0_3 = g := by
  funext i
  refine congrArg g ?_
  funext a; apply Fin.ext; match a with
  | ⟨0, _⟩ => show 0 + 1 * (i 0).val = (i 0).val; omega
  | ⟨1, _⟩ => show 0 + 1 * (i 1).val = (i 1).val; omega

/-- Where a piece whose rows begin at `p` lies in the block, and where in the rows of the two attentions. -/
theorem emb_rows (p : ℕ) (inb : ∀ a, (![p, 0] : Fin 2 → ℕ) a + (![256, 2048] : Fin 2 → ℕ) a ≤ S512x2048.size a) (r : Fin 256) (l : Fin 2048)
    (q : Fin 512) (hq : q.val = p + r.val) :
    (Rect.unit (s := S512x2048) ![p, 0] ![256, 2048] inb).emb (ix2 r l) = ix2 q l := by
  funext a; apply Fin.ext; match a with
  | ⟨0, _⟩ => show p + 1 * r.val = q.val; omega
  | ⟨1, _⟩ => show 0 + 1 * l.val = l.val; omega
theorem emb_half (p : ℕ) (inb : ∀ a, (![p, 0] : Fin 2 → ℕ) a + (![256, 1024] : Fin 2 → ℕ) a ≤ S512x1024.size a) (r : Fin 256) (l : Fin 1024)
    (q : Fin 512) (hq : q.val = p + r.val) :
    (Rect.unit (s := S512x1024) ![p, 0] ![256, 1024] inb).emb (ix2 r l) = ix2 q l := by
  funext a; apply Fin.ext; match a with
  | ⟨0, _⟩ => show p + 1 * r.val = q.val; omega
  | ⟨1, _⟩ => show 0 + 1 * l.val = l.val; omega

/-- A piece is those rows of the block. -/
theorem piece (a a' : Vec Ideal S512x1024 .bf16) (w w' : Vec Ideal S1024x2048 .bf16) (x : Vec Ideal S512x2048 .f32) (g b : Vec Ideal S1x2048 .f32) (p : ℕ)
    (inb : ∀ a, (![p, 0] : Fin 2 → ℕ) a + (![256, 2048] : Fin 2 → ℕ) a ≤ S512x2048.size a)
    (inb' : ∀ a, (![p, 0] : Fin 2 → ℕ) a + (![256, 1024] : Fin 2 → ℕ) a ≤ S512x1024.size a)
    (i : (Rect.unit (s := S512x2048) ![p, 0] ![256, 2048] inb).shape.Idx) :
    pay (View.ld a (Rect.unit (s := S512x1024) ![p, 0] ![256, 1024] inb')) (View.ld a' (Rect.unit (s := S512x1024) ![p, 0] ![256, 1024] inb'))
        (View.ld w r0_1) (View.ld w' r0_1) (View.ld x (Rect.unit (s := S512x2048) ![p, 0] ![256, 2048] inb)) (View.ld g r0_3) (View.ld b r0_3) i
      = (fun y : S512x2048.Idx => block a a' w w' x g b (y 0) (y 1)) ((Rect.unit (s := S512x2048) ![p, 0] ![256, 2048] inb).emb i) := by
  obtain ⟨r, l, rfl⟩ : ∃ (r : Fin 256) (l : Fin 2048), i = ix2 r l := ⟨i 0, i 1, by funext a; fin_cases a <;> rfl⟩
  have hp : p + 256 ≤ 512 := inb 0
  have h : ∀ k : Fin 2048, (Rect.unit (s := S512x2048) ![p, 0] ![256, 2048] inb).emb (ix2 r k) = ix2 (⟨p + r, by omega⟩ : Fin 512) k :=
    fun k => emb_rows p inb r k _ rfl
  have h' : ∀ k : Fin 1024, (Rect.unit (s := S512x1024) ![p, 0] ![256, 1024] inb').emb (ix2 r k) = ix2 (⟨p + r, by omega⟩ : Fin 512) k :=
    fun k => emb_half p inb' r k _ rfl
  rw [pay_apply, ld_w, ld_w, ld_g, ld_g, h]
  refine congrArg (fun Z => norm Z _ _ l) ?_
  funext j
  exact congrArg₂ (· + ·) (congrArg (_ * ·) (congrArg x (h j))) (congrArg₂ (· + ·)
    (Finset.sum_congr rfl fun k _ => congrArg (· * w (ix2 k j)) (congrArg a (h' k)))
    (Finset.sum_congr rfl fun k _ => congrArg (· * w' (ix2 k j)) (congrArg a' (h' k))))

/-- Both pieces are computed alike. -/
theorem alike (x0 x1 : Vec Ideal S512x1024 .bf16) (x2 x3 : Vec Ideal S1024x2048 .bf16) (x4 : Vec Ideal S512x2048 .f32) (x5 x6 : Vec Ideal S1x2048 .f32)
    (x7 : Vec Ideal S2048x128 .bf16) (x8 : Vec Ideal S1x128 .f32) :
    k0_pay30 (k0_pay56 x0 x1 x2 x3 x4 x5 x6 x7 x8) (k0_pay57 x0 x1 x2 x3 x4 x5 x6 x7 x8) (k0_pay58 x0 x1 x2 x3 x4 x5 x6 x7 x8) (View.ld x5 r0_3) (View.ld x6 r0_3)
      = pay (View.ld x0 r0_7) (View.ld x1 r0_7) (View.ld x2 r0_1) (View.ld x3 r0_1) (View.ld x4 r0_8) (View.ld x5 r0_3) (View.ld x6 r0_3) := rfl
theorem alike' (x0 x1 : Vec Ideal S512x1024 .bf16) (x2 x3 : Vec Ideal S1024x2048 .bf16) (x4 : Vec Ideal S512x2048 .f32) (x5 x6 : Vec Ideal S1x2048 .f32)
    (x7 : Vec Ideal S2048x128 .bf16) (x8 : Vec Ideal S1x128 .f32) :
    k0_pay5 (k0_pay48 x0 x1 x2 x3 x4 x5 x6 x7 x8) (k0_pay49 x0 x1 x2 x3 x4 x5 x6 x7 x8) (k0_pay50 x0 x1 x2 x3 x4 x5 x6 x7 x8)
      = pay (View.ld x0 r0_0) (View.ld x1 r0_0) (View.ld x2 r0_1) (View.ld x3 r0_1) (View.ld x4 r0_2) (View.ld x5 r0_3) (View.ld x6 r0_3) := rfl

/-- What a point stores, at an index. -/
theorem out9_apply (x0 x1 : Vec Ideal S512x1024 .bf16) (x2 x3 : Vec Ideal S1024x2048 .bf16) (x4 : Vec Ideal S512x2048 .f32) (x5 x6 : Vec Ideal S1x2048 .f32)
    (x7 : Vec Ideal S2048x128 .bf16) (x8 : Vec Ideal S1x128 .f32) (y : S512x2048.Idx) :
    out0_9 x0 x1 x2 x3 x4 x5 x6 x7 x8 y = block x0 x1 x2 x3 x4 x5 x6 (y 0) (y 1) := by
  unfold out0_9
  rw [alike, alike']
  have h : View.PiecesOf (Val := Elt Ideal) (e := .f32) (fun y : S512x2048.Idx => block x0 x1 x2 x3 x4 x5 x6 (y 0) (y 1))
      [⟨r0_8, pay (View.ld x0 r0_7) (View.ld x1 r0_7) (View.ld x2 r0_1) (View.ld x3 r0_1) (View.ld x4 r0_8) (View.ld x5 r0_3) (View.ld x6 r0_3)⟩,
       ⟨r0_2, pay (View.ld x0 r0_0) (View.ld x1 r0_0) (View.ld x2 r0_1) (View.ld x3 r0_1) (View.ld x4 r0_2) (View.ld x5 r0_3) (View.ld x6 r0_3)⟩] :=
    ⟨fun i => piece x0 x1 x2 x3 x4 x5 x6 256 _ _ i, fun i => piece x0 x1 x2 x3 x4 x5 x6 0 _ _ i, trivial⟩
  exact View.canon_apply_of_pieces (Val := Elt Ideal) (e := .f32) (fun y : S512x2048.Idx => block x0 x1 x2 x3 x4 x5 x6 (y 0) (y 1)) _ h.mem y
    (cover0_9 _ _ y)

end Cert.Kernel7Ideal.Proj

end
-- ==== Proof.Proj.OutTwo.lean ====
/- THE OUTPUT PROJECTION OF TWO ATTENTIONS: the kernel's blocks of 512 rows put together are the residual, times a constant, plus the
   two attentions' rows side by side times the weights, normed row by row. The kernel adds the products with the two halves of the
   weights; the reference takes one product of 2048 terms. -/
module

public import proofs.«01_k».proof.Proof.Proj.OutTwoBlock
public import proofs.«01_k».proof.Proof.Gen.Reference7Ideal.Run

@[expose] public section

set_option maxRecDepth 16384

noncomputable section

namespace Cert.Kernel7Ideal.Proj

open Cert.Kernel7Ideal Cert.Kernel7Ideal.Gen Cert.Kernel7Ideal.Value Cert.Proj Idealize.ShloMosaic Idealize.ShloMosaic.TcCoe Idealize.SL.Sem

/-- An entry before the norm: the residual's times a constant, and a row's dot with a column of the weights. -/
def entry (a a' : FVec Ideal S2x8192x1024 .f32) (x : FVec Ideal S2x8192x2048 .f32) (w : FVec Ideal S2048x2048 .f32) (i : Fin 16384) (j : Fin 2048) : EReal :=
  Ideal.ofBits FTy.f32 0x3FD744FD#32 * x (ix3 (⟨i / 8192, by omega⟩ : Fin 2) (⟨i % 8192, by omega⟩ : Fin 8192) j)
    + (∑ k : Fin 1024, a (ix3 (⟨i / 8192, by omega⟩ : Fin 2) (⟨i % 8192, by omega⟩ : Fin 8192) k) * w (ix2 (⟨k, by omega⟩ : Fin 2048) j)
      + ∑ k : Fin 1024, a' (ix3 (⟨i / 8192, by omega⟩ : Fin 2) (⟨i % 8192, by omega⟩ : Fin 8192) k) * w (ix2 (⟨1024 + k, by omega⟩ : Fin 2048) j))

/-- An entry of the result. -/
def result (a a' : FVec Ideal S2x8192x1024 .f32) (x : FVec Ideal S2x8192x2048 .f32) (w : FVec Ideal S2048x2048 .f32) (g b : FVec Ideal S2048 .f32) (i : Fin 16384) (l : Fin 2048) : EReal :=
  norm (entry a a' x w i) (fun j => g (ix1 j)) (fun j => b (ix1 j)) l

/-- Point t works on the rows from 512·t on, on all the weights, scales and shifts. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem lt_points (t : Fin cfg0.N) : t.val < 32 := t.isLt

/-- Where an entry of a point's block lies in the array. -/
theorem emb0 (t : Fin cfg0.N) (r : Fin 512) (d : Fin 1024) : ((cfg0.win 0).blk t).view.emb (ix2 r d) = (ix2 (⟨512 * t.val + r, by have := lt_points t; omega⟩ : Fin 16384) d) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * d.val = d.val; omega
theorem emb1 (t : Fin cfg0.N) (r : Fin 512) (d : Fin 1024) : ((cfg0.win 1).blk t).view.emb (ix2 r d) = (ix2 (⟨512 * t.val + r, by have := lt_points t; omega⟩ : Fin 16384) d) := by
  obtain ⟨e0, e1⟩ := index1 t
  funext a; apply Fin.ext
  match a with
  | ⟨0, _⟩ => show win0_1.index t (0 : Fin 2) * 512 + 1 * r.val = 512 * t.val + r.val; omega
  | ⟨1, _⟩ => show win0_1.index t (1 : Fin 2) * 1024 + 1 * d.val = d.val; omega
theorem emb2 (t : Fin cfg0.N) (r : Fin 1024) (d : Fin 2048) : ((cfg0.win 2).blk t).view.emb (ix2 r d) = (ix2 r d) := by
  obtain ⟨e0, e1⟩ := index2 t
  funext a; apply Fin.ext
  match a with
  | ⟨0, _⟩ => show win0_2.index t (0 : Fin 2) * 1024 + 1 * r.val = r.val; omega
  | ⟨1, _⟩ => show win0_2.index t (1 : Fin 2) * 2048 + 1 * d.val = d.val; omega
theorem emb3 (t : Fin cfg0.N) (r : Fin 1024) (d : Fin 2048) : ((cfg0.win 3).blk t).view.emb (ix2 r d) = (ix2 r d) := by
  obtain ⟨e0, e1⟩ := index3 t
  funext a; apply Fin.ext
  match a with
  | ⟨0, _⟩ => show win0_3.index t (0 : Fin 2) * 1024 + 1 * r.val = r.val; omega
  | ⟨1, _⟩ => show win0_3.index t (1 : Fin 2) * 2048 + 1 * d.val = d.val; omega
theorem emb4 (t : Fin cfg0.N) (r : Fin 512) (d : Fin 2048) : ((cfg0.win 4).blk t).view.emb (ix2 r d) = (ix2 (⟨512 * t.val + r, by have := lt_points t; omega⟩ : Fin 16384) d) := by
  obtain ⟨e0, e1⟩ := index4 t
  funext a; apply Fin.ext
  match a with
  | ⟨0, _⟩ => show win0_4.index t (0 : Fin 2) * 512 + 1 * r.val = 512 * t.val + r.val; omega
  | ⟨1, _⟩ => show win0_4.index t (1 : Fin 2) * 2048 + 1 * d.val = d.val; omega
theorem emb5 (t : Fin cfg0.N) (r : Fin 1) (d : Fin 2048) : ((cfg0.win 5).blk t).view.emb (ix2 r d) = (ix2 r d) := by
  obtain ⟨e0, e1⟩ := index5 t
  funext a; apply Fin.ext
  match a with
  | ⟨0, _⟩ => show win0_5.index t (0 : Fin 2) * 1 + 1 * r.val = r.val; omega
  | ⟨1, _⟩ => show win0_5.index t (1 : Fin 2) * 2048 + 1 * d.val = d.val; omega
theorem emb6 (t : Fin cfg0.N) (r : Fin 1) (d : Fin 2048) : ((cfg0.win 6).blk t).view.emb (ix2 r d) = (ix2 r d) := by
  obtain ⟨e0, e1⟩ := index6 t
  funext a; apply Fin.ext
  match a with
  | ⟨0, _⟩ => show win0_6.index t (0 : Fin 2) * 1 + 1 * r.val = r.val; omega
  | ⟨1, _⟩ => show win0_6.index t (1 : Fin 2) * 2048 + 1 * d.val = d.val; omega
theorem emb9 (t : Fin cfg0.N) (r : Fin 512) (d : Fin 2048) : ((cfg0.win 9).blk t).view.emb (ix2 r d) = (ix2 (⟨512 * t.val + r, by have := lt_points t; omega⟩ : Fin 16384) d) := by
  obtain ⟨e0, e1⟩ := index9 t
  funext a; apply Fin.ext
  match a with
  | ⟨0, _⟩ => show win0_9.index t (0 : Fin 2) * 512 + 1 * r.val = 512 * t.val + r.val; omega
  | ⟨1, _⟩ => show win0_9.index t (1 : Fin 2) * 2048 + 1 * d.val = d.val; omega

/-- Every entry of the result is in some point's block. -/
theorem covered (i : S16384x2048.Idx) : ∃ t : Fin cfg0.N, (cfg0.win 9).flush t = true ∧ i ∈ ((cfg0.win 9).blk t).view.set := by
  have hR : (i 0).val < 16384 := (i 0).isLt
  let t : Fin cfg0.N := ⟨(i 0).val / 512, by show _ < 32; omega⟩
  have h := ((cfg0.win 9).blk t).view.emb_mem_set (ix2 (⟨(i 0).val % 512, by omega⟩ : Fin 512) (⟨(i 1).val, (i 1).isLt⟩ : Fin 2048))
  rw [emb9] at h
  refine ⟨t, flush0_9 _, ?_⟩
  have e : i = ix2 (⟨512 * t.val + (i 0).val % 512, by have := lt_points t; omega⟩ : Fin 16384) (⟨(i 1).val, (i 1).isLt⟩ : Fin 2048) := by
    funext a; apply Fin.ext
    match a with
    | ⟨0, _⟩ => show (i 0).val = 512 * ((i 0).val / 512) + (i 0).val % 512; omega
    | ⟨1, _⟩ => rfl
  exact (congrArg (· ∈ ((cfg0.win 9).blk t).view.set) e).mpr h

variable (m : (ℓ : Loc nD τ sig) → Buf (Elt Ideal) ℓ) (c : Dev nD)

/-- The arguments as arrays of extended reals. -/
abbrev arr0 : FVec Ideal S2x8192x1024 .f32 := m ((c : Thread nD τ).loc main_arg0)
abbrev arr1 : FVec Ideal S2x8192x1024 .f32 := m ((c : Thread nD τ).loc main_arg1)
abbrev arr2 : FVec Ideal S2x8192x2048 .f32 := m ((c : Thread nD τ).loc main_arg2)
abbrev arr3 : FVec Ideal S2048x2048 .f32 := m ((c : Thread nD τ).loc main_arg3)
abbrev arr4 : FVec Ideal S2048 .f32 := m ((c : Thread nD τ).loc main_arg4)
abbrev arr5 : FVec Ideal S2048 .f32 := m ((c : Thread nD τ).loc main_arg5)

/-- The rows, the weights, the scales and the shifts as the host code lays them out. -/
theorem V_a (i : Fin 16384) (k : Fin 1024) : V m c main_v1 (ix2 i k) = arr0 m c (ix3 (⟨i / 8192, by omega⟩ : Fin 2) (⟨i % 8192, by omega⟩ : Fin 8192) k) := by
  have e : V m c main_v1 = truncf .bf16 (shapeCast S16384x1024 (arr0 m c) shapeCasts_S2x8192x1024_S16384x1024) bitsLt_bf16_f32 := by
    show StableHlo.after hostOps0 _ (Proc.devRef .tc main_v1) = _
    after_results
    rfl
  rw [e]
  pointwise
theorem V_a' (i : Fin 16384) (k : Fin 1024) : V m c main_v3 (ix2 i k) = arr1 m c (ix3 (⟨i / 8192, by omega⟩ : Fin 2) (⟨i % 8192, by omega⟩ : Fin 8192) k) := by
  have e : V m c main_v3 = truncf .bf16 (shapeCast S16384x1024 (arr1 m c) shapeCasts_S2x8192x1024_S16384x1024) bitsLt_bf16_f32 := by
    show StableHlo.after hostOps0 _ (Proc.devRef .tc main_v3) = _
    after_results
    rfl
  rw [e]
  pointwise
theorem V_x (i : Fin 16384) (k : Fin 2048) : V m c main_v13 (ix2 i k) = arr2 m c (ix3 (⟨i / 8192, by omega⟩ : Fin 2) (⟨i % 8192, by omega⟩ : Fin 8192) k) := by
  have e : V m c main_v13 = shapeCast S16384x2048 (arr2 m c) shapeCasts_S2x8192x2048_S16384x2048 := by
    show StableHlo.after hostOps0 _ (Proc.devRef .tc main_v13) = _
    after_results
    rfl
  rw [e]
  pointwise
theorem V_w (k : Fin 1024) (n : Fin 2048) : V m c main_v11 (ix2 k n) = arr3 m c (ix2 (⟨k, by omega⟩ : Fin 2048) n) := by
  have e : V m c main_v11 = extractStridedSlice S1024x2048 ![0, 0] (truncf .bf16 (arr3 m c) bitsLt_bf16_f32 : FVec Ideal S2048x2048 .bf16) slices_S2048x2048_S1024x2048_0_0 := by
    show StableHlo.after hostOps0 _ (Proc.devRef .tc main_v11) = _
    after_results
  rw [e]
  pointwise
theorem V_w' (k : Fin 1024) (n : Fin 2048) : V m c main_v12 (ix2 k n) = arr3 m c (ix2 (⟨1024 + k, by omega⟩ : Fin 2048) n) := by
  have e : V m c main_v12 = extractStridedSlice S1024x2048 ![1024, 0] (truncf .bf16 (arr3 m c) bitsLt_bf16_f32 : FVec Ideal S2048x2048 .bf16) slices_S2048x2048_S1024x2048_1024_0 := by
    show StableHlo.after hostOps0 _ (Proc.devRef .tc main_v12) = _
    after_results
  rw [e]
  pointwise
theorem V_g (l : Fin 2048) : V m c main_v14 (ix2 (0 : Fin 1) l) = arr4 m c (ix1 l) := by
  have e : V m c main_v14 = shapeCast S1x2048 (arr4 m c) shapeCasts_S2048_S1x2048 := by
    show StableHlo.after hostOps0 _ (Proc.devRef .tc main_v14) = _
    after_results
    rfl
  rw [e]
  pointwise
theorem V_b (l : Fin 2048) : V m c main_v15 (ix2 (0 : Fin 1) l) = arr5 m c (ix1 l) := by
  have e : V m c main_v15 = shapeCast S1x2048 (arr5 m c) shapeCasts_S2048_S1x2048 := by
    show StableHlo.after hostOps0 _ (Proc.devRef .tc main_v15) = _
    after_results
    rfl
  rw [e]
  pointwise

/-- What a point stores, at an index, in terms of the arguments. -/
theorem block_eq (t : Fin cfg0.N) (r : Fin 512) (l : Fin 2048) : block (iblk m c 0 t) (iblk m c 1 t) (iblk m c 2 t) (iblk m c 3 t) (iblk m c 4 t) (iblk m c 5 t) (iblk m c 6 t) r l
    = result (arr0 m c) (arr1 m c) (arr2 m c) (arr3 m c) (arr4 m c) (arr5 m c) ⟨512 * t.val + r, by have := lt_points t; omega⟩ l := by
  have ea : ∀ k : Fin 1024, iblk m c 0 t (ix2 r k) = arr0 m c (ix3 (⟨(512 * t.val + r) / 8192, by have := lt_points t; omega⟩ : Fin 2) (⟨(512 * t.val + r) % 8192, by omega⟩ : Fin 8192) k) := fun k => by
    show V m c main_v1 (((cfg0.win 0).blk t).view.emb (ix2 r k)) = _
    rw [emb0, V_a]
  have ea' : ∀ k : Fin 1024, iblk m c 1 t (ix2 r k) = arr1 m c (ix3 (⟨(512 * t.val + r) / 8192, by have := lt_points t; omega⟩ : Fin 2) (⟨(512 * t.val + r) % 8192, by omega⟩ : Fin 8192) k) := fun k => by
    show V m c main_v3 (((cfg0.win 1).blk t).view.emb (ix2 r k)) = _
    rw [emb1, V_a']
  have ex : ∀ k : Fin 2048, iblk m c 4 t (ix2 r k) = arr2 m c (ix3 (⟨(512 * t.val + r) / 8192, by have := lt_points t; omega⟩ : Fin 2) (⟨(512 * t.val + r) % 8192, by omega⟩ : Fin 8192) k) := fun k => by
    show V m c main_v13 (((cfg0.win 4).blk t).view.emb (ix2 r k)) = _
    rw [emb4, V_x]
  have ew : ∀ (k : Fin 1024) (j : Fin 2048), iblk m c 2 t (ix2 k j) = arr3 m c (ix2 (⟨k, by omega⟩ : Fin 2048) j) := fun k j => by
    show V m c main_v11 (((cfg0.win 2).blk t).view.emb (ix2 k j)) = _
    rw [emb2, V_w]
  have ew' : ∀ (k : Fin 1024) (j : Fin 2048), iblk m c 3 t (ix2 k j) = arr3 m c (ix2 (⟨1024 + k, by omega⟩ : Fin 2048) j) := fun k j => by
    show V m c main_v12 (((cfg0.win 3).blk t).view.emb (ix2 k j)) = _
    rw [emb3, V_w']
  have eg : (fun j : Fin 2048 => iblk m c 5 t (ix2 (0 : Fin 1) j)) = fun j => arr4 m c (ix1 j) := by
    funext j
    show V m c main_v14 (((cfg0.win 5).blk t).view.emb (ix2 (0 : Fin 1) j)) = _
    rw [emb5, V_g]
  have eb : (fun j : Fin 2048 => iblk m c 6 t (ix2 (0 : Fin 1) j)) = fun j => arr5 m c (ix1 j) := by
    funext j
    show V m c main_v15 (((cfg0.win 6).blk t).view.emb (ix2 (0 : Fin 1) j)) = _
    rw [emb6, V_b]
  unfold block result
  refine Eq.trans ?_ (congrArg₂ (fun G B => norm (entry (arr0 m c) (arr1 m c) (arr2 m c) (arr3 m c) ⟨512 * t.val + r, by have := lt_points t; omega⟩) G B l) eg eb)
  refine congrArg (fun Z => norm Z _ _ l) ?_
  funext j
  exact congrArg₂ (· + ·) (congrArg (_ * ·) (ex j)) (congrArg₂ (· + ·)
    (Finset.sum_congr rfl fun k _ => congrArg₂ (· * ·) (ea k) (ew k j)) (Finset.sum_congr rfl fun k _ => congrArg₂ (· * ·) (ea' k) (ew' k j)))

/-- What a point writes back is its block of the result. -/
theorem flushed_eq (t : Fin cfg0.N) : (dats m 0 c).flushed 9 t
    = ((cfg0.win 9).blk t).view.read (Elt Ideal) (fun i : S16384x2048.Idx => result (arr0 m c) (arr1 m c) (arr2 m c) (arr3 m c) (arr4 m c) (arr5 m c) (i 0) (i 1)) := by
  rw [flushed9]
  funext j
  obtain ⟨r, n, rfl⟩ : ∃ (r : Fin 512) (n : Fin 2048), j = ix2 r n := ⟨j 0, j 1, by funext a; fin_cases a <;> rfl⟩
  refine Eq.trans ?_ (congrArg (fun i : S16384x2048.Idx => result (arr0 m c) (arr1 m c) (arr2 m c) (arr3 m c) (arr4 m c) (arr5 m c) (i 0) (i 1)) (emb9 t r n)).symm
  exact (out9_apply _ _ _ _ _ _ _ _ _ (ix2 r n)).trans (block_eq m c t r n)

/-- The result after the run. -/
theorem final : (dats m 0 c).arrAt 9 cfg0.N = fun i : S16384x2048.Idx => result (arr0 m c) (arr1 m c) (arr2 m c) (arr3 m c) (arr4 m c) (arr5 m c) (i 0) (i 1) :=
  (dats m 0 c).arrAt_eq_of_cover 9 _ (fun t _ => flushed_eq m c t) covered

/-- The reference before its norm, the same less each row's mean, and the reference's result. -/
def refSum (a a' : FVec Ideal S2x8192x1024 .f32) (x : FVec Ideal S2x8192x2048 .f32) (w : FVec Ideal S2048x2048 .f32) : FVec Ideal S2x8192x2048 .f32 :=
  addf (mulf (broadcastInDim Cert.Reference7Ideal.S2x8192x2048 ![] Cert.Reference7Ideal.Gen.bcast_S_S2x8192x2048 (constant (F := Ideal) Cert.Reference7Ideal.S_ .f32 0x3FD744FD#32)) x) (Host.dotGeneral Cert.Reference7Ideal.dot_S2x8192x2048_S2048x2048_S2x8192x2048_2_0_01_1_n_n none (concatenate Cert.Reference7Ideal.S2x8192x2048 2 [⟨Cert.Reference7Ideal.S2x8192x1024, a⟩, ⟨Cert.Reference7Ideal.S2x8192x1024, a'⟩] Cert.Reference7Ideal.Gen.concatenates_S2x8192x1024_S2x8192x1024_S2x8192x2048_d2) w)
def refCentred (Z : FVec Ideal S2x8192x2048 .f32) : FVec Ideal S2x8192x2048 .f32 :=
  subf Z (broadcastInDim Cert.Reference7Ideal.S2x8192x2048 ![0, 1, 2] Cert.Reference7Ideal.Gen.bcast_S2x8192x1_S2x8192x2048_0_1_2 (Host.divf (broadcastInDim Cert.Reference7Ideal.S2x8192x1 ![0, 1] Cert.Reference7Ideal.Gen.bcast_S2x8192_S2x8192x1_0_1 (Host.reduceAdd Z (constant (F := Ideal) Cert.Reference7Ideal.S_ .f32 0x00000000#32) Cert.Reference7Ideal.Gen.reducesTo_S2x8192x2048_S2x8192_d2 Cert.Reference7Ideal.Gen.h_S_)) (broadcastInDim Cert.Reference7Ideal.S2x8192x1 ![] Cert.Reference7Ideal.Gen.bcast_S_S2x8192x1 (constant (F := Ideal) Cert.Reference7Ideal.S_ .f32 0x45000000#32))))
def refResult (Z : FVec Ideal S2x8192x2048 .f32) (g b : FVec Ideal S2048 .f32) : FVec Ideal S16384x2048 .f32 :=
  shapeCast _ (addf (mulf (mulf (refCentred Z) (broadcastInDim Cert.Reference7Ideal.S2x8192x2048 ![0, 1, 2] Cert.Reference7Ideal.Gen.bcast_S2x8192x1_S2x8192x2048_0_1_2 (Host.rsqrt (addf (Host.divf (broadcastInDim Cert.Reference7Ideal.S2x8192x1 ![0, 1] Cert.Reference7Ideal.Gen.bcast_S2x8192_S2x8192x1_0_1 (Host.reduceAdd (mulf (refCentred Z) (refCentred Z)) (constant (F := Ideal) Cert.Reference7Ideal.S_ .f32 0x00000000#32) Cert.Reference7Ideal.Gen.reducesTo_S2x8192x2048_S2x8192_d2 Cert.Reference7Ideal.Gen.h_S_)) (broadcastInDim Cert.Reference7Ideal.S2x8192x1 ![] Cert.Reference7Ideal.Gen.bcast_S_S2x8192x1 (constant (F := Ideal) Cert.Reference7Ideal.S_ .f32 0x45000000#32))) (broadcastInDim Cert.Reference7Ideal.S2x8192x1 ![] Cert.Reference7Ideal.Gen.bcast_S_S2x8192x1 (constant (F := Ideal) Cert.Reference7Ideal.S_ .f32 0x3727C5AC#32)))))) (broadcastInDim Cert.Reference7Ideal.S2x8192x2048 ![0, 1, 2] Cert.Reference7Ideal.Gen.bcast_S1x1x2048_S2x8192x2048_0_1_2 (broadcastInDim Cert.Reference7Ideal.S1x1x2048 ![2] Cert.Reference7Ideal.Gen.bcast_S2048_S1x1x2048_2 g))) (broadcastInDim Cert.Reference7Ideal.S2x8192x2048 ![0, 1, 2] Cert.Reference7Ideal.Gen.bcast_S1x1x2048_S2x8192x2048_0_1_2 (broadcastInDim Cert.Reference7Ideal.S1x1x2048 ![2] Cert.Reference7Ideal.Gen.bcast_S2048_S1x1x2048_2 b))) Cert.Reference7Ideal.Gen.shapeCasts_S2x8192x2048_S16384x2048

/-- The reference's parts, at an index. -/
theorem refSum_apply (a a' : FVec Ideal S2x8192x1024 .f32) (x : FVec Ideal S2x8192x2048 .f32) (w : FVec Ideal S2048x2048 .f32) (i : Fin 16384) (j : Fin 2048) :
    refSum a a' x w (ix3 (⟨i / 8192, by omega⟩ : Fin 2) (⟨i % 8192, by omega⟩ : Fin 8192) j) = entry a a' x w i j := by
  unfold refSum
  pointwise
  rfl
theorem refCentred_apply (Z : FVec Ideal S2x8192x2048 .f32) (p : Fin 2) (s : Fin 8192) (j : Fin 2048) :
    refCentred Z (ix3 p s j) = Z (ix3 p s j) - mean (fun j => Z (ix3 p s j)) := by
  unfold refCentred
  pointwise
  rfl
theorem refResult_apply (Z : FVec Ideal S2x8192x2048 .f32) (g b : FVec Ideal S2048 .f32) (i : Fin 16384) (l : Fin 2048) :
    refResult Z g b (ix2 i l) = norm (fun j => Z (ix3 (⟨i / 8192, by omega⟩ : Fin 2) (⟨i % 8192, by omega⟩ : Fin 8192) j)) (fun j => g (ix1 j)) (fun j => b (ix1 j)) l := by
  unfold refResult
  pointwise
  simp only [refCentred_apply]
  rfl

/-- The reference's result is the same array. -/
theorem ref_eq (a a' : FVec Ideal S2x8192x1024 .f32) (x : FVec Ideal S2x8192x2048 .f32) (w : FVec Ideal S2048x2048 .f32) (g b : FVec Ideal S2048 .f32) :
    refResult (refSum a a' x w) g b = fun i : S16384x2048.Idx => result a a' x w g b (i 0) (i 1) := by
  funext i
  obtain ⟨r, n, rfl⟩ : ∃ (r : Fin 16384) (n : Fin 2048), i = ix2 r n := ⟨i 0, i 1, by funext a; fin_cases a <;> rfl⟩
  refine (refResult_apply _ _ _ r n).trans ?_
  exact congrArg (fun Z => norm Z _ _ n) (funext fun j => refSum_apply _ _ _ _ r j)

/-- Kernel and reference run from equal arguments: both end with the same array. -/
theorem algebraic : Cert.algebraic_Kernel7Ideal_Reference7Ideal (hKernel7Ideal := Cert.Kernel7Ideal.Gen.facts)
    (hReference7Ideal := Cert.Reference7Ideal.Gen.facts) := by
  intro m g m' g' _ hm
  refine ⟨fun c => fun i : S16384x2048.Idx => result (arr0 m c) (arr1 m c) (arr2 m c) (arr3 m c) (arr4 m c) (arr5 m c) (i 0) (i 1), ?_, ?_⟩
  · exact (θ_run _ _ _).mono (fun r h c => ⟨(h c).1.trans (final m c), (h c).2.2.2⟩)
      (Cert.Kernel7Ideal.Value.run_blocks (F := Ideal) m g)
  · refine (θ_run _ _ _).mono (fun r h c => ⟨(h c).1.trans ?_, (h c).2⟩) (Cert.Reference7Ideal.Value.run (F := Ideal) m' g')
    obtain ⟨e0, e1, e2, e3, e4, e5, e6, e7, e8, e9⟩ := hm c
    unfold Cert.Reference7Ideal.Value.res_main_v29
    rw [e0, e1, e2, e3, e4, e5]
    exact ref_eq _ _ _ _ _ _

end Cert.Kernel7Ideal.Proj

end
-- ==== Proof.Proj.PoolBlock.lean ====
/- THE POOLING MIXER, A BLOCK: what a point stores. A column's rows, after the sixteen rows before them, are summed over a trailing window
   by adding copies turned by 1, 2, 4 and 8 rows; the window is 2, 4, 8 or 16 rows by the column's group of 256. The sum over the number
   of rows in the window, less the row itself, is multiplied with the group's weights and scaled. -/
module

public import proofs.«01_k».proof.Defs
public import proofs.«01_k».proof.Proof.Gen.Kernel8Ideal.Value
public import Idealize.ShloMosaic.Lib.Pointwise
public import Idealize.ShloMosaic.Lib.Pipeline.ReadBack

@[expose] public section

set_option maxRecDepth 16384

noncomputable section

namespace Cert.Kernel8Ideal.Proj

open Cert.Kernel8Ideal Cert.Kernel8Ideal.Gen Cert.Kernel8Ideal.Value Idealize.ShloMosaic Idealize.ShloMosaic.TcCoe Idealize.SL.Sem

/-- A column of rows, at any number. -/
def col (v : FVec Ideal S528x256 .f32) (l : Fin 256) (q : ℕ) : EReal := v (ix2 (⟨q % 528, by omega⟩ : Fin 528) l)

theorem col_eq (v : FVec Ideal S528x256 .f32) (l : Fin 256) (q : ℕ) (h : q < 528) : col v l q = v (ix2 (⟨q, h⟩ : Fin 528) l) :=
  congrArg (fun z : Fin 528 => v (ix2 z l)) (Fin.ext (Nat.mod_eq_of_lt h))

/-- Rows added to the rows some places before. -/
def twice (n : BitVec 32) (v : FVec Ideal S528x256 .f32) : FVec Ideal S528x256 .f32 :=
  addf v (dynamicRotate 0 n none v rotates_S528x256_d0)

theorem twice1 (v : FVec Ideal S528x256 .f32) (l : Fin 256) (q : ℕ) (h : q < 528) (hn : 1 ≤ q) : col (twice 1#32 v) l q = col v l q + col v l (q - 1) := by
  rw [col_eq _ _ _ h]
  unfold twice
  pointwise
  rw [col_eq _ _ _ h]
  exact congrArg (_ + ·) (congrArg (fun z : Fin 528 => v (ix2 z l)) (Fin.ext (by show (q + 528 - 1) % 528 = (q - 1) % 528; omega)))
theorem twice2 (v : FVec Ideal S528x256 .f32) (l : Fin 256) (q : ℕ) (h : q < 528) (hn : 2 ≤ q) : col (twice 2#32 v) l q = col v l q + col v l (q - 2) := by
  rw [col_eq _ _ _ h]
  unfold twice
  pointwise
  rw [col_eq _ _ _ h]
  exact congrArg (_ + ·) (congrArg (fun z : Fin 528 => v (ix2 z l)) (Fin.ext (by show (q + 528 - 2) % 528 = (q - 2) % 528; omega)))
theorem twice4 (v : FVec Ideal S528x256 .f32) (l : Fin 256) (q : ℕ) (h : q < 528) (hn : 4 ≤ q) : col (twice 4#32 v) l q = col v l q + col v l (q - 4) := by
  rw [col_eq _ _ _ h]
  unfold twice
  pointwise
  rw [col_eq _ _ _ h]
  exact congrArg (_ + ·) (congrArg (fun z : Fin 528 => v (ix2 z l)) (Fin.ext (by show (q + 528 - 4) % 528 = (q - 4) % 528; omega)))
theorem twice8 (v : FVec Ideal S528x256 .f32) (l : Fin 256) (q : ℕ) (h : q < 528) (hn : 8 ≤ q) : col (twice 8#32 v) l q = col v l q + col v l (q - 8) := by
  rw [col_eq _ _ _ h]
  unfold twice
  pointwise
  rw [col_eq _ _ _ h]
  exact congrArg (_ + ·) (congrArg (fun z : Fin 528 => v (ix2 z l)) (Fin.ext (by show (q + 528 - 8) % 528 = (q - 8) % 528; omega)))

/-- Two sums over windows side by side are the sum over the double window. -/
theorem join (f : ℕ → EReal) (q k : ℕ) :
    (∑ j ∈ Finset.range k, f (q - j)) + (∑ j ∈ Finset.range k, f (q - k - j)) = ∑ j ∈ Finset.range (k + k), f (q - j) := by
  rw [Finset.sum_range_add]
  exact congrArg (_ + ·) (Finset.sum_congr rfl fun j _ => congrArg f (Nat.sub_sub q k j))

theorem win2 (v : FVec Ideal S528x256 .f32) (l : Fin 256) (q : ℕ) (h : q < 528) (hn : 1 ≤ q) :
    col (twice 1#32 v) l q = ∑ j ∈ Finset.range 2, col v l (q - j) := by
  rw [twice1 v l q h hn, Finset.sum_range_succ, Finset.sum_range_one]
  rfl
theorem win4 (v : FVec Ideal S528x256 .f32) (l : Fin 256) (q : ℕ) (h : q < 528) (hn : 3 ≤ q) :
    col (twice 2#32 (twice 1#32 v)) l q = ∑ j ∈ Finset.range 4, col v l (q - j) := by
  rw [twice2 _ l q h (by omega), win2 v l q h (by omega), win2 v l (q - 2) (by omega) (by omega)]
  exact join _ q 2
theorem win8 (v : FVec Ideal S528x256 .f32) (l : Fin 256) (q : ℕ) (h : q < 528) (hn : 7 ≤ q) :
    col (twice 4#32 (twice 2#32 (twice 1#32 v))) l q = ∑ j ∈ Finset.range 8, col v l (q - j) := by
  rw [twice4 _ l q h (by omega), win4 v l q h (by omega), win4 v l (q - 4) (by omega) (by omega)]
  exact join _ q 4
theorem win16 (v : FVec Ideal S528x256 .f32) (l : Fin 256) (q : ℕ) (h : q < 528) (hn : 15 ≤ q) :
    col (twice 8#32 (twice 4#32 (twice 2#32 (twice 1#32 v)))) l q = ∑ j ∈ Finset.range 16, col v l (q - j) := by
  rw [twice8 _ l q h (by omega), win8 v l q h (by omega), win8 v l (q - 8) (by omega) (by omega)]
  exact join _ q 8

/-- The number of rows in a window, for a row at place `p`. -/
def count (p w : BitVec 32) : EReal := FloatOps.sitofp (F := Ideal) FTy.f32 (IntOp.minsi (IntOp.addi p 1#32) w)

/-- A window's mean less the row. -/
def centred (z : FVec Ideal S528x256 .f32) (u : FVec Ideal S512x256 .f32) (p : IVec S512x1 32) (w : BitVec 32) : FVec Ideal S512x256 .bf16 :=
  truncf .bf16 (subf (divf (extractStridedSlice S512x256 ![16, 0] z slices_S528x256_o16_0_S512x256)
    (broadcastTo S512x256 (sitofp .f32 (minsi (addi p (broadcast S512x1 1#32)) (broadcast S512x1 w))) broadcasts_S512x1_S512x256)) u) bitsLt_bf16_f32

theorem centred_apply (z : FVec Ideal S528x256 .f32) (u : FVec Ideal S512x256 .f32) (p : IVec S512x1 32) (w : BitVec 32) (r : Fin 512) (l : Fin 256) :
    centred z u p w (ix2 r l) = Ideal.div (col z l (16 + r)) (count (p (ix2 r (0 : Fin 1))) w) - u (ix2 r l) := by
  rw [col_eq _ _ _ (by omega)]
  unfold centred
  pointwise
  rfl

/-- A group's product with its weights, scaled. -/
theorem mixed_apply (d : FVec Ideal S512x256 .bf16) (w : Vec Ideal S1x256x256 .bf16) (g : Vec Ideal S1x256 .f32) (r : Fin 512) (l : Fin 256) :
    k0_pay1 d w g (ix2 r l) = (∑ k : Fin 256, d (ix2 r k) * w (ix3 (0 : Fin 1) k l)) * g (ix2 (0 : Fin 1) l) := by
  unfold k0_pay1
  pointwise

/-- The rows of a block after the sixteen before them, at any number. -/
def seen (i : grid0.Coords) (x : Vec Ideal S512x1024 .bf16) (h : Vec Ideal S16x1024 .bf16) (l : Fin 1024) (q : ℕ) : EReal :=
  k0_pay3 (F := Ideal) i x h (ix2 (⟨q % 528, by omega⟩ : Fin 528) l)

/-- A window's mean less the row, at an index; the window has `w` rows. -/
def part (i : grid0.Coords) (x : Vec Ideal S512x1024 .bf16) (h : Vec Ideal S16x1024 .bf16) (w : ℕ) (r : Fin 512) (l : Fin 1024) : EReal :=
  Ideal.div (∑ j ∈ Finset.range w, seen i x h l (16 + r - j)) (count (k0_pay4 i (ix2 r (0 : Fin 1))) (BitVec.ofNat 32 w)) - x (ix2 r l)

/-- The block, at an index. -/
def block (i : grid0.Coords) (x : Vec Ideal S512x1024 .bf16) (h : Vec Ideal S16x1024 .bf16) (w : Vec Ideal S4x256x256 .bf16) (g : Vec Ideal S1x1024 .f32)
    (r : Fin 512) (n : Fin 1024) : EReal :=
  (∑ k : Fin 256, part i x h (2 * 2 ^ (n.val / 256)) r ⟨n.val / 256 * 256 + k, by omega⟩
      * w (ix3 (⟨n.val / 256, by omega⟩ : Fin 4) k (⟨n.val % 256, by omega⟩ : Fin 256))) * g (ix2 (0 : Fin 1) n)

/-- Each group's windows, at an index. -/
def part0 (i : grid0.Coords) (x : Vec Ideal S512x1024 .bf16) (h : Vec Ideal S16x1024 .bf16) : FVec Ideal S512x256 .bf16 :=
  centred (twice 1#32 (extractStridedSlice S528x256 ![0, 0] (k0_pay3 (F := Ideal) i x h) slices_S528x1024_o0_0_S528x256))
      (extractStridedSlice S512x256 ![0, 0] (k0_pay2 (F := Ideal) x) slices_S512x1024_o0_0_S512x256) (k0_pay4 i) 2#32
theorem part0_apply (i : grid0.Coords) (x : Vec Ideal S512x1024 .bf16) (h : Vec Ideal S16x1024 .bf16) (r : Fin 512) (k : Fin 256) :
    part0 i x h (ix2 r k) = part i x h 2 r ⟨0 + k, by omega⟩ := by
  unfold part0 part
  rw [centred_apply, win2 _ _ _ (by omega) (by omega)]
  refine congrArg₂ (· - ·) (congrArg (Ideal.div · _) (Finset.sum_congr rfl fun j _ => ?_)) ?_
  · unfold col seen
    generalize k0_pay3 (F := Ideal) i x h = z
    pointwise
    try rfl
  · unfold k0_pay2
    pointwise
    try rfl
def part1 (i : grid0.Coords) (x : Vec Ideal S512x1024 .bf16) (h : Vec Ideal S16x1024 .bf16) : FVec Ideal S512x256 .bf16 :=
  centred (twice 2#32 (twice 1#32 (extractStridedSlice S528x256 ![0, 256] (k0_pay3 (F := Ideal) i x h) slices_S528x1024_o0_256_S528x256)))
      (extractStridedSlice S512x256 ![0, 256] (k0_pay2 (F := Ideal) x) slices_S512x1024_o0_256_S512x256) (k0_pay4 i) 4#32
theorem part1_apply (i : grid0.Coords) (x : Vec Ideal S512x1024 .bf16) (h : Vec Ideal S16x1024 .bf16) (r : Fin 512) (k : Fin 256) :
    part1 i x h (ix2 r k) = part i x h 4 r ⟨256 + k, by omega⟩ := by
  unfold part1 part
  rw [centred_apply, win4 _ _ _ (by omega) (by omega)]
  refine congrArg₂ (· - ·) (congrArg (Ideal.div · _) (Finset.sum_congr rfl fun j _ => ?_)) ?_
  · unfold col seen
    generalize k0_pay3 (F := Ideal) i x h = z
    pointwise
    try rfl
  · unfold k0_pay2
    pointwise
    try rfl
def part2 (i : grid0.Coords) (x : Vec Ideal S512x1024 .bf16) (h : Vec Ideal S16x1024 .bf16) : FVec Ideal S512x256 .bf16 :=
  centred (twice 4#32 (twice 2#32 (twice 1#32 (extractStridedSlice S528x256 ![0, 512] (k0_pay3 (F := Ideal) i x h) slices_S528x1024_o0_512_S528x256))))
      (extractStridedSlice S512x256 ![0, 512] (k0_pay2 (F := Ideal) x) slices_S512x1024_o0_512_S512x256) (k0_pay4 i) 8#32
theorem part2_apply (i : grid0.Coords) (x : Vec Ideal S512x1024 .bf16) (h : Vec Ideal S16x1024 .bf16) (r : Fin 512) (k : Fin 256) :
    part2 i x h (ix2 r k) = part i x h 8 r ⟨512 + k, by omega⟩ := by
  unfold part2 part
  rw [centred_apply, win8 _ _ _ (by omega) (by omega)]
  refine congrArg₂ (· - ·) (congrArg (Ideal.div · _) (Finset.sum_congr rfl fun j _ => ?_)) ?_
  · unfold col seen
    generalize k0_pay3 (F := Ideal) i x h = z
    pointwise
    try rfl
  · unfold k0_pay2
    pointwise
    try rfl
def part3 (i : grid0.Coords) (x : Vec Ideal S512x1024 .bf16) (h : Vec Ideal S16x1024 .bf16) : FVec Ideal S512x256 .bf16 :=
  centred (twice 8#32 (twice 4#32 (twice 2#32 (twice 1#32 (extractStridedSlice S528x256 ![0, 768] (k0_pay3 (F := Ideal) i x h) slices_S528x1024_o0_768_S528x256)))))
      (extractStridedSlice S512x256 ![0, 768] (k0_pay2 (F := Ideal) x) slices_S512x1024_o0_768_S512x256) (k0_pay4 i) 16#32
theorem part3_apply (i : grid0.Coords) (x : Vec Ideal S512x1024 .bf16) (h : Vec Ideal S16x1024 .bf16) (r : Fin 512) (k : Fin 256) :
    part3 i x h (ix2 r k) = part i x h 16 r ⟨768 + k, by omega⟩ := by
  unfold part3 part
  rw [centred_apply, win16 _ _ _ (by omega) (by omega)]
  refine congrArg₂ (· - ·) (congrArg (Ideal.div · _) (Finset.sum_congr rfl fun j _ => ?_)) ?_
  · unfold col seen
    generalize k0_pay3 (F := Ideal) i x h = z
    pointwise
    try rfl
  · unfold k0_pay2
    pointwise
    try rfl

/-- The rows are loaded whole. -/
theorem ld_x (x : Vec Ideal S512x1024 .bf16) : View.ld x r0_0 = x := by
  funext i
  refine congrArg x ?_
  funext a; apply Fin.ext; match a with
  | ⟨0, _⟩ => show 0 + 1 * (i 0).val = (i 0).val; omega
  | ⟨1, _⟩ => show 0 + 1 * (i 1).val = (i 1).val; omega
theorem ld_h (x : Vec Ideal S16x1024 .bf16) : View.ld x r0_1 = x := by
  funext i
  refine congrArg x ?_
  funext a; apply Fin.ext; match a with
  | ⟨0, _⟩ => show 0 + 1 * (i 0).val = (i 0).val; omega
  | ⟨1, _⟩ => show 0 + 1 * (i 1).val = (i 1).val; omega

/-- A group's product is its columns of the block. -/
theorem piece (i : grid0.Coords) (x : Vec Ideal S512x1024 .bf16) (h : Vec Ideal S16x1024 .bf16) (w : Vec Ideal S4x256x256 .bf16) (g : Vec Ideal S1x1024 .f32)
    (G : Fin 4) (o W : ℕ) (ho : o = 256 * G.val) (hW : W = 2 * 2 ^ G.val) (d : FVec Ideal S512x256 .bf16)
    (hd : ∀ (r : Fin 512) (k : Fin 256), d (ix2 r k) = part i x h W r ⟨o + k, by omega⟩)
    (inbw : ∀ a, (![G.val, 0, 0] : Fin 3 → ℕ) a + (![1, 256, 256] : Fin 3 → ℕ) a ≤ S4x256x256.size a)
    (inbg : ∀ a, (![0, o] : Fin 2 → ℕ) a + (![1, 256] : Fin 2 → ℕ) a ≤ S1x1024.size a)
    (inb : ∀ a, (![0, o] : Fin 2 → ℕ) a + (![512, 256] : Fin 2 → ℕ) a ≤ S512x1024.size a)
    (y : (Rect.unit (s := S512x1024) ![0, o] ![512, 256] inb).shape.Idx) :
    k0_pay1 d (View.ld w (Rect.unit (s := S4x256x256) ![G.val, 0, 0] ![1, 256, 256] inbw)) (View.ld g (Rect.unit (s := S1x1024) ![0, o] ![1, 256] inbg)) y
      = (fun y : S512x1024.Idx => block i x h w g (y 0) (y 1)) ((Rect.unit (s := S512x1024) ![0, o] ![512, 256] inb).emb y) := by
  subst ho hW
  obtain ⟨r, l, rfl⟩ : ∃ (r : Fin 512) (l : Fin 256), y = ix2 r l := ⟨y 0, y 1, by funext a; fin_cases a <;> rfl⟩
  have e : (Rect.unit (s := S512x1024) ![0, 256 * G.val] ![512, 256] inb).emb (ix2 r l) = ix2 r (⟨256 * G.val + l, by omega⟩ : Fin 1024) := by
    funext a; apply Fin.ext; match a with
    | ⟨0, _⟩ => show 0 + 1 * r.val = r.val; omega
    | ⟨1, _⟩ => show 256 * G.val + 1 * l.val = 256 * G.val + l.val; omega
  have ew : ∀ k : Fin 256, View.ld w (Rect.unit (s := S4x256x256) ![G.val, 0, 0] ![1, 256, 256] inbw) (ix3 (0 : Fin 1) k l) = w (ix3 G k l) := fun k => by
    refine congrArg w ?_
    funext a; apply Fin.ext; match a with
    | ⟨0, _⟩ => show G.val + 1 * 0 = G.val; omega
    | ⟨1, _⟩ => show 0 + 1 * k.val = k.val; omega
    | ⟨2, _⟩ => show 0 + 1 * l.val = l.val; omega
  have eg : View.ld g (Rect.unit (s := S1x1024) ![0, 256 * G.val] ![1, 256] inbg) (ix2 (0 : Fin 1) l) = g (ix2 (0 : Fin 1) (⟨256 * G.val + l, by omega⟩ : Fin 1024)) := by
    refine congrArg g ?_
    funext a; apply Fin.ext; match a with
    | ⟨0, _⟩ => rfl
    | ⟨1, _⟩ => show 256 * G.val + 1 * l.val = 256 * G.val + l.val; omega
  have hG : (⟨(256 * G.val + l.val) / 256, by omega⟩ : Fin 4) = G := Fin.ext (by show (256 * G.val + l.val) / 256 = G.val; omega)
  have hl : (⟨(256 * G.val + l.val) % 256, by omega⟩ : Fin 256) = l := Fin.ext (by show (256 * G.val + l.val) % 256 = l.val; omega)
  have hq : (256 * G.val + l.val) / 256 = G.val := by omega
  rw [mixed_apply, e]
  show _ = block i x h w g r ⟨256 * G.val + l, by omega⟩
  unfold block
  rw [eg]
  refine congrArg (· * _) (Finset.sum_congr rfl fun k _ => congrArg₂ (· * ·) ((hd r k).trans ?_) ((ew k).trans ?_))
  · refine congrArg₂ (fun W n => part i x h W r n) (by show _ = 2 * 2 ^ ((256 * G.val + l.val) / 256); rw [hq]) (Fin.ext ?_)
    show 256 * G.val + k.val = (256 * G.val + l.val) / 256 * 256 + k.val
    omega
  · exact (congrArg₂ (fun G l => w (ix3 G k l)) hG hl).symm

/-- The four stores. -/
theorem stores (i : grid0.Coords) (x : Vec Ideal S512x1024 .bf16) (h : Vec Ideal S16x1024 .bf16) (w : Vec Ideal S4x256x256 .bf16) (g : Vec Ideal S1x1024 .f32) :
    out0_4 i x h w g = View.canon (Val := Elt Ideal) (e := .bf16)
      [⟨r0_13, k0_pay1 (part3 i (View.ld x r0_0) (View.ld h r0_1)) (View.ld w r0_11) (View.ld g r0_12)⟩,
       ⟨r0_10, k0_pay1 (part2 i (View.ld x r0_0) (View.ld h r0_1)) (View.ld w r0_8) (View.ld g r0_9)⟩,
       ⟨r0_7, k0_pay1 (part1 i (View.ld x r0_0) (View.ld h r0_1)) (View.ld w r0_5) (View.ld g r0_6)⟩,
       ⟨r0_4, k0_pay1 (part0 i (View.ld x r0_0) (View.ld h r0_1)) (View.ld w r0_2) (View.ld g r0_3)⟩] := rfl

/-- What a point stores, at an index. -/
theorem out4_apply (i : grid0.Coords) (x : Vec Ideal S512x1024 .bf16) (h : Vec Ideal S16x1024 .bf16) (w : Vec Ideal S4x256x256 .bf16) (g : Vec Ideal S1x1024 .f32)
    (y : S512x1024.Idx) : out0_4 i x h w g y = block i x h w g (y 0) (y 1) := by
  rw [stores, ld_x, ld_h]
  have hp : View.PiecesOf (Val := Elt Ideal) (e := .bf16) (fun y : S512x1024.Idx => block i x h w g (y 0) (y 1))
      [⟨r0_13, k0_pay1 (part3 i x h) (View.ld w r0_11) (View.ld g r0_12)⟩, ⟨r0_10, k0_pay1 (part2 i x h) (View.ld w r0_8) (View.ld g r0_9)⟩,
       ⟨r0_7, k0_pay1 (part1 i x h) (View.ld w r0_5) (View.ld g r0_6)⟩, ⟨r0_4, k0_pay1 (part0 i x h) (View.ld w r0_2) (View.ld g r0_3)⟩] :=
    ⟨fun y => piece i x h w g 3 768 16 rfl rfl _ (part3_apply i x h) _ _ inb_S512x1024_S512x256_0_768 y, fun y => piece i x h w g 2 512 8 rfl rfl _ (part2_apply i x h) _ _ inb_S512x1024_S512x256_0_512 y,
     fun y => piece i x h w g 1 256 4 rfl rfl _ (part1_apply i x h) _ _ inb_S512x1024_S512x256_0_256 y, fun y => piece i x h w g 0 0 2 rfl rfl _ (part0_apply i x h) _ _ inb_S512x1024_S512x256_0_0 y, trivial⟩
  exact View.canon_apply_of_pieces (Val := Elt Ideal) (e := .bf16) (fun y : S512x1024.Idx => block i x h w g (y 0) (y 1)) _ hp.mem y (cover0_4 _ _ _ _ y)

end Cert.Kernel8Ideal.Proj

end
-- ==== Proof.Proj.Pool.lean ====
/- THE POOLING MIXER: the kernel's blocks of 512 rows put together are, row by row, the mean over a trailing window less the row, times the
   group's weights and scaled. The reference sums over all rows, each times one or zero as it lies in the window or not. -/
module

public import proofs.«01_k».proof.Proof.Proj.PoolBlock
public import proofs.«01_k».proof.Proof.Gen.Reference8Ideal.Run

@[expose] public section

set_option maxRecDepth 16384

noncomputable section

namespace Cert.Kernel8Ideal.Proj

open Cert.Kernel8Ideal Cert.Kernel8Ideal.Gen Cert.Kernel8Ideal.Value Idealize.ShloMosaic Idealize.ShloMosaic.TcCoe Idealize.SL.Sem

/-- The rows of both sequences under one another. -/
def rows (h : FVec Ideal S2x8192x4096 .f32) (l : Fin 1024) (i : ℕ) : EReal :=
  h (ix3 (⟨i / 8192 % 2, by omega⟩ : Fin 2) (⟨i % 8192, by omega⟩ : Fin 8192) (⟨l, by omega⟩ : Fin 4096))

/-- The sum of the rows in a window that ends at row `i`; the window does not reach into the sequence before. -/
def total (h : FVec Ideal S2x8192x4096 .f32) (w : ℕ) (l : Fin 1024) (i : ℕ) : EReal :=
  ∑ j ∈ Finset.range w, if j ≤ i % 8192 then rows h l (i - j) else 0

/-- The window's mean less the row. -/
def mean (h : FVec Ideal S2x8192x4096 .f32) (w : ℕ) (l : Fin 1024) (i : ℕ) : EReal :=
  Ideal.div (total h w l i) (count (BitVec.ofNat 32 (i % 8192)) (BitVec.ofNat 32 w)) - rows h l i

/-- An entry of the result. -/
def result (h : FVec Ideal S2x8192x4096 .f32) (w : FVec Ideal S4x256x256 .f32) (g : FVec Ideal S1024 .f32) (i : Fin 16384) (n : Fin 1024) : EReal :=
  (∑ k : Fin 256, mean h (2 * 2 ^ (n.val / 256)) ⟨n.val / 256 * 256 + k, by omega⟩ i
      * w (ix3 (⟨n.val / 256, by omega⟩ : Fin 4) k (⟨n.val % 256, by omega⟩ : Fin 256))) * g (ix1 n)

/-- The place in its sequence at which a point's rows begin. -/
def start (i : grid0.Coords) : BitVec 32 :=
  let a : BitVec 32 := Scalar.muli (BitVec.ofNat 32 (i 0).val) 512#32
  let n : BitVec 32 := Scalar.select (Scalar.cmpi .eq 8192#32 0#32) 1#32 8192#32
  Scalar.select (Scalar.andi (Scalar.xori (Scalar.cmpi .slt (Scalar.remsi a n) 0#32) (Scalar.cmpi .slt n 0#32)) (Scalar.cmpi .ne (Scalar.remsi a n) 0#32))
    (Scalar.addi (Scalar.remsi a n) n) (Scalar.remsi a n)

theorem start_eq : ∀ t : Fin cfg0.N, start (grid0.coords t) = BitVec.ofNat 32 (512 * (t.val % 16)) :=
  (by decide +kernel : ∀ t : Fin grid0.N, start (grid0.coords t) = BitVec.ofNat 32 (512 * (t.val % 16)))
theorem start_zero : ∀ t : Fin cfg0.N, Scalar.cmpi .eq (start (grid0.coords t)) 0#32 = if t.val % 16 = 0 then 1#1 else 0#1 :=
  (by decide +kernel : ∀ t : Fin grid0.N, Scalar.cmpi .eq (start (grid0.coords t)) 0#32 = if t.val % 16 = 0 then 1#1 else 0#1)

theorem lt_points (t : Fin cfg0.N) : t.val < 32 := t.isLt

/-- The place of a row of a point's block in its sequence. -/
theorem place (t : Fin cfg0.N) (r : Fin 512) : k0_pay4 (grid0.coords t) (ix2 r (0 : Fin 1)) = BitVec.ofNat 32 ((512 * t.val + r) % 8192) := by
  have e : k0_pay4 (grid0.coords t) (ix2 r (0 : Fin 1)) = IntOp.addi (start (grid0.coords t)) (BitVec.ofNat 32 r) := by
    unfold k0_pay4 start
    pointwise
    try rfl
  have ht := lt_points t
  rw [e, start_eq]
  show BitVec.ofNat 32 _ + BitVec.ofNat 32 _ = _
  rw [← BitVec.ofNat_add]
  exact congrArg (BitVec.ofNat 32) (by omega)

/-- The rows of a block with the sixteen before them: those are zeros at the start of a sequence. -/
theorem pay3_apply (t : Fin cfg0.N) (x : Vec Ideal S512x1024 .bf16) (h : Vec Ideal S16x1024 .bf16) (q : Fin 528) (l : Fin 1024) :
    k0_pay3 (F := Ideal) (grid0.coords t) x h (ix2 q l)
      = if hq : q.val < 16 then (if t.val % 16 = 0 then 0 else h (ix2 (⟨q, hq⟩ : Fin 16) l)) else x (ix2 (⟨q - 16, by omega⟩ : Fin 512) l) := by
  have e : k0_pay3 (F := Ideal) (grid0.coords t) x h (ix2 q l)
      = if hq : q.val < 16 then Scalar.select (Scalar.cmpi .eq (start (grid0.coords t)) 0#32) (0 : EReal) (h (ix2 (⟨q, hq⟩ : Fin 16) l))
          else x (ix2 (⟨q - 16, by omega⟩ : Fin 512) l) := by
    unfold k0_pay3 k0_pay2 start
    pointwise
    try rfl
  rw [e, start_zero]
  by_cases ht : t.val % 16 = 0
  · simp only [if_pos ht]; rfl
  · simp only [if_neg ht]; rfl

/-- Point t works on the rows from 512·t on, on the sixteen rows before them, on all the weights and scales. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 32 * t.val - 1 ∧ win0_1.index t (1 : Fin 2) = 0 :=
  (by decide +kernel : ∀ t : Fin grid0.N, win0_1.index t (0 : Fin 2) = 32 * t.val - 1 ∧ win0_1.index t (1 : Fin 2) = 0)
theorem index2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Where an entry of a point's block lies in the array. -/
theorem emb0 (t : Fin cfg0.N) (r : Fin 512) (d : Fin 1024) : ((cfg0.win 0).blk t).view.emb (ix2 r d)
    = (ix2 (⟨512 * t.val + r, by have := lt_points t; omega⟩ : Fin 16384) (⟨d, by omega⟩ : Fin 4096)) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * d.val = d.val; omega
theorem emb1 (t : Fin cfg0.N) (r : Fin 16) (d : Fin 1024) : ((cfg0.win 1).blk t).view.emb (ix2 r d)
    = (ix2 (⟨16 * (32 * t.val - 1) + r, by have := lt_points t; omega⟩ : Fin 16384) (⟨d, by omega⟩ : Fin 4096)) := by
  obtain ⟨e0, e1⟩ := index1 t
  funext a; apply Fin.ext
  match a with
  | ⟨0, _⟩ => show win0_1.index t (0 : Fin 2) * 16 + 1 * r.val = 16 * (32 * t.val - 1) + r.val; omega
  | ⟨1, _⟩ => show win0_1.index t (1 : Fin 2) * 1024 + 1 * d.val = d.val; omega
theorem emb2 (t : Fin cfg0.N) (G : Fin 4) (k l : Fin 256) : ((cfg0.win 2).blk t).view.emb (ix3 G k l) = (ix3 G k l) := by
  obtain ⟨e0, e1, e2⟩ := index2 t
  funext a; apply Fin.ext
  match a with
  | ⟨0, _⟩ => show win0_2.index t (0 : Fin 3) * 4 + 1 * G.val = G.val; omega
  | ⟨1, _⟩ => show win0_2.index t (1 : Fin 3) * 256 + 1 * k.val = k.val; omega
  | ⟨2, _⟩ => show win0_2.index t (2 : Fin 3) * 256 + 1 * l.val = l.val; omega
theorem emb3 (t : Fin cfg0.N) (r : Fin 1) (d : Fin 1024) : ((cfg0.win 3).blk t).view.emb (ix2 r d) = (ix2 r d) := by
  obtain ⟨e0, e1⟩ := index3 t
  funext a; apply Fin.ext
  match a with
  | ⟨0, _⟩ => show win0_3.index t (0 : Fin 2) * 1 + 1 * r.val = r.val; omega
  | ⟨1, _⟩ => show win0_3.index t (1 : Fin 2) * 1024 + 1 * d.val = d.val; omega
theorem emb4 (t : Fin cfg0.N) (r : Fin 512) (d : Fin 1024) : ((cfg0.win 4).blk t).view.emb (ix2 r d)
    = (ix2 (⟨512 * t.val + r, by have := lt_points t; omega⟩ : Fin 16384) d) := by
  obtain ⟨e0, e1⟩ := index4 t
  funext a; apply Fin.ext
  match a with
  | ⟨0, _⟩ => show win0_4.index t (0 : Fin 2) * 512 + 1 * r.val = 512 * t.val + r.val; omega
  | ⟨1, _⟩ => show win0_4.index t (1 : Fin 2) * 1024 + 1 * d.val = d.val; omega

/-- Every entry of the result is in some point's block. -/
theorem covered (i : S16384x1024.Idx) : ∃ t : Fin cfg0.N, (cfg0.win 4).flush t = true ∧ i ∈ ((cfg0.win 4).blk t).view.set := by
  have hR : (i 0).val < 16384 := (i 0).isLt
  let t : Fin cfg0.N := ⟨(i 0).val / 512, by show _ < 32; omega⟩
  have h := ((cfg0.win 4).blk t).view.emb_mem_set (ix2 (⟨(i 0).val % 512, by omega⟩ : Fin 512) (⟨(i 1).val, (i 1).isLt⟩ : Fin 1024))
  rw [emb4] at h
  refine ⟨t, flush0_4 _, ?_⟩
  have e : i = ix2 (⟨512 * t.val + (i 0).val % 512, by have := lt_points t; omega⟩ : Fin 16384) (⟨(i 1).val, (i 1).isLt⟩ : Fin 1024) := by
    funext a; apply Fin.ext
    match a with
    | ⟨0, _⟩ => show (i 0).val = 512 * ((i 0).val / 512) + (i 0).val % 512; omega
    | ⟨1, _⟩ => rfl
  exact (congrArg (· ∈ ((cfg0.win 4).blk t).view.set) e).mpr h

variable (m : (ℓ : Loc nD τ sig) → Buf (Elt Ideal) ℓ) (c : Dev nD)

/-- The arguments as arrays of extended reals. -/
abbrev arr0 : FVec Ideal S2x8192x4096 .f32 := m ((c : Thread nD τ).loc main_arg0)
abbrev arr1 : FVec Ideal S4x256x256 .f32 := m ((c : Thread nD τ).loc main_arg1)
abbrev arr2 : FVec Ideal S1024 .f32 := m ((c : Thread nD τ).loc main_arg2)

/-- The rows, the weights and the scales as the host code lays them out. -/
theorem V_h (i : Fin 16384) (l : Fin 1024) : V m c main_v1 (ix2 i (⟨l, by omega⟩ : Fin 4096)) = rows (arr0 m c) l i := by
  have e : V m c main_v1 = truncf .bf16 (shapeCast S16384x4096 (arr0 m c) shapeCasts_S2x8192x4096_S16384x4096) bitsLt_bf16_f32 := by
    show StableHlo.after hostOps0 _ (Proc.devRef .tc main_v1) = _
    after_results
    rfl
  rw [e]
  pointwise
  exact congrArg (fun b : Fin 2 => arr0 m c (ix3 b _ _)) (Fin.ext (by show i.val / 8192 = i.val / 8192 % 2; omega))
theorem V_w (G : Fin 4) (k l : Fin 256) : V m c main_v2 (ix3 G k l) = arr1 m c (ix3 G k l) := by
  have e : V m c main_v2 = truncf .bf16 (arr1 m c) bitsLt_bf16_f32 := by
    show StableHlo.after hostOps0 _ (Proc.devRef .tc main_v2) = _
    after_results
  rw [e]
  pointwise
theorem V_g (n : Fin 1024) : V m c main_v3 (ix2 (0 : Fin 1) n) = arr2 m c (ix1 n) := by
  have e : V m c main_v3 = shapeCast S1x1024 (arr2 m c) shapeCasts_S1024_S1x1024 := by
    show StableHlo.after hostOps0 _ (Proc.devRef .tc main_v3) = _
    after_results
    rfl
  rw [e]
  pointwise

/-- The rows of a point's block, and the rows before them. -/
theorem block_row (t : Fin cfg0.N) (r : Fin 512) (l : Fin 1024) : iblk m c 0 t (ix2 r l) = rows (arr0 m c) l (512 * t.val + r) := by
  show V m c main_v1 (((cfg0.win 0).blk t).view.emb (ix2 r l)) = _
  rw [emb0, V_h]
theorem halo_row (t : Fin cfg0.N) (r : Fin 16) (l : Fin 1024) : iblk m c 1 t (ix2 r l) = rows (arr0 m c) l (16 * (32 * t.val - 1) + r) := by
  show V m c main_v1 (((cfg0.win 1).blk t).view.emb (ix2 r l)) = _
  rw [emb1, V_h]
theorem seen_eq (t : Fin cfg0.N) (r : Fin 512) (l : Fin 1024) (j : ℕ) (hj : j < 16) :
    seen (grid0.coords t) (iblk m c 0 t) (iblk m c 1 t) l (16 + r - j)
      = if j ≤ (512 * t.val + r.val) % 8192 then rows (arr0 m c) l (512 * t.val + r - j) else 0 := by
  have ht := lt_points t
  unfold seen
  rw [pay3_apply]
  by_cases h : j ≤ r.val
  · rw [dif_neg (by show ¬ (16 + r.val - j) % 528 < 16; omega), if_pos (by omega), block_row]
    exact congrArg (rows _ l) (by show 512 * t.val + ((16 + r.val - j) % 528 - 16) = 512 * t.val + r.val - j; omega)
  · rw [dif_pos (by show (16 + r.val - j) % 528 < 16; omega)]
    by_cases h0 : t.val % 16 = 0
    · rw [if_pos h0, if_neg (by omega)]
    · rw [if_neg h0, if_pos (by omega), halo_row]
      exact congrArg (rows _ l) (by show 16 * (32 * t.val - 1) + (16 + r.val - j) % 528 = 512 * t.val + r.val - j; omega)

/-- What a point stores, at an index, in terms of the arguments. -/
theorem block_eq (t : Fin cfg0.N) (r : Fin 512) (n : Fin 1024) : block (grid0.coords t) (iblk m c 0 t) (iblk m c 1 t) (iblk m c 2 t) (iblk m c 3 t) r n
    = result (arr0 m c) (arr1 m c) (arr2 m c) ⟨512 * t.val + r, by have := lt_points t; omega⟩ n := by
  have hw : 2 * 2 ^ (n.val / 256) ≤ 16 := by
    have : 2 ^ (n.val / 256) ≤ 2 ^ 3 := Nat.pow_le_pow_right (by omega) (by omega)
    omega
  have ew : ∀ (G : Fin 4) (k l : Fin 256), iblk m c 2 t (ix3 G k l) = arr1 m c (ix3 G k l) := fun G k l => by
    show V m c main_v2 (((cfg0.win 2).blk t).view.emb (ix3 G k l)) = _
    rw [emb2, V_w]
  have eg : iblk m c 3 t (ix2 (0 : Fin 1) n) = arr2 m c (ix1 n) := by
    show V m c main_v3 (((cfg0.win 3).blk t).view.emb (ix2 (0 : Fin 1) n)) = _
    rw [emb3, V_g]
  unfold block result
  refine congrArg₂ (· * ·) (Finset.sum_congr rfl fun k _ => congrArg₂ (· * ·) ?_ (ew _ _ _)) eg
  unfold part mean total
  rw [place, block_row]
  exact congrArg (fun z => Ideal.div z _ - _) (Finset.sum_congr rfl fun j hj => seen_eq m c t r _ j (by have := Finset.mem_range.mp hj; omega))

/-- What a point writes back is its block of the result. -/
theorem flushed_eq (t : Fin cfg0.N) : (dats m 0 c).flushed 4 t
    = ((cfg0.win 4).blk t).view.read (Elt Ideal) (fun i : S16384x1024.Idx => result (arr0 m c) (arr1 m c) (arr2 m c) (i 0) (i 1)) := by
  rw [flushed4]
  funext j
  obtain ⟨r, n, rfl⟩ : ∃ (r : Fin 512) (n : Fin 1024), j = ix2 r n := ⟨j 0, j 1, by funext a; fin_cases a <;> rfl⟩
  refine Eq.trans ?_ (congrArg (fun i : S16384x1024.Idx => result (arr0 m c) (arr1 m c) (arr2 m c) (i 0) (i 1)) (emb4 t r n)).symm
  exact (out4_apply _ _ _ _ _ (ix2 r n)).trans (block_eq m c t r n)

/-- The result after the run. -/
theorem final : (dats m 0 c).arrAt 4 cfg0.N = fun i : S16384x1024.Idx => result (arr0 m c) (arr1 m c) (arr2 m c) (i 0) (i 1) :=
  (dats m 0 c).arrAt_eq_of_cover 4 _ (fun t _ => flushed_eq m c t) covered

/-- The reference's parts: its rows by groups, which rows lie in a row's window, the windows' sums, how many rows they have, the means less
    the rows, and the result. -/
def refRows (h : FVec Ideal S2x8192x4096 .f32) : FVec Ideal Cert.Reference8Ideal.S2x8192x4x256 .f32 :=
  shapeCast _ (extractStridedSlice Cert.Reference8Ideal.S2x8192x1024 ![0, 0, 0] h Cert.Reference8Ideal.Gen.slices_S2x8192x4096_S2x8192x1024_0_0_0) Cert.Reference8Ideal.Gen.shapeCasts_S2x8192x1024_S2x8192x4x256
def refInside : FVec Ideal Cert.Reference8Ideal.S4x8192x8192 .f32 :=
  uitofp .f32 (andi (broadcastInDim Cert.Reference8Ideal.S4x8192x8192 ![0, 1, 2] Cert.Reference8Ideal.Gen.bcast_S1x8192x8192_S4x8192x8192_0_1_2 (broadcastInDim Cert.Reference8Ideal.S1x8192x8192 ![1, 2] Cert.Reference8Ideal.Gen.bcast_S8192x8192_S1x8192x8192_1_2 (cmpi .sge (subi (broadcastInDim Cert.Reference8Ideal.S8192x8192 ![0, 1] Cert.Reference8Ideal.Gen.bcast_S8192x1_S8192x8192_0_1 (broadcastInDim Cert.Reference8Ideal.S8192x1 ![0] Cert.Reference8Ideal.Gen.bcast_S8192_S8192x1_0 (iotaInDim Cert.Reference8Ideal.S8192 32 0))) (broadcastInDim Cert.Reference8Ideal.S8192x8192 ![0, 1] Cert.Reference8Ideal.Gen.bcast_S1x8192_S8192x8192_0_1 (broadcastInDim Cert.Reference8Ideal.S1x8192 ![1] Cert.Reference8Ideal.Gen.bcast_S8192_S1x8192_1 (iotaInDim Cert.Reference8Ideal.S8192 32 0)))) (broadcastInDim Cert.Reference8Ideal.S8192x8192 ![] Cert.Reference8Ideal.Gen.bcast_S_S8192x8192 (constantI Cert.Reference8Ideal.S_ 32 0#32))))) (cmpi .slt (broadcastInDim Cert.Reference8Ideal.S4x8192x8192 ![0, 1, 2] Cert.Reference8Ideal.Gen.bcast_S1x8192x8192_S4x8192x8192_0_1_2 (broadcastInDim Cert.Reference8Ideal.S1x8192x8192 ![1, 2] Cert.Reference8Ideal.Gen.bcast_S8192x8192_S1x8192x8192_1_2 (subi (broadcastInDim Cert.Reference8Ideal.S8192x8192 ![0, 1] Cert.Reference8Ideal.Gen.bcast_S8192x1_S8192x8192_0_1 (broadcastInDim Cert.Reference8Ideal.S8192x1 ![0] Cert.Reference8Ideal.Gen.bcast_S8192_S8192x1_0 (iotaInDim Cert.Reference8Ideal.S8192 32 0))) (broadcastInDim Cert.Reference8Ideal.S8192x8192 ![0, 1] Cert.Reference8Ideal.Gen.bcast_S1x8192_S8192x8192_0_1 (broadcastInDim Cert.Reference8Ideal.S1x8192 ![1] Cert.Reference8Ideal.Gen.bcast_S8192_S1x8192_1 (iotaInDim Cert.Reference8Ideal.S8192 32 0)))))) (broadcastInDim Cert.Reference8Ideal.S4x8192x8192 ![0, 1, 2] Cert.Reference8Ideal.Gen.bcast_S4x1x1_S4x8192x8192_0_1_2 (broadcastInDim Cert.Reference8Ideal.S4x1x1 ![0] Cert.Reference8Ideal.Gen.bcast_S4_S4x1x1_0 ((fun i => Cert.Reference8Ideal.lit0 (Cert.Reference8Ideal.S4.rowMajor i)))))))
def refTotal (U : FVec Ideal Cert.Reference8Ideal.S2x8192x4x256 .f32) (M : FVec Ideal Cert.Reference8Ideal.S4x8192x8192 .f32) : FVec Ideal Cert.Reference8Ideal.S2x8192x4x256 .f32 :=
  transpose Cert.Reference8Ideal.S2x8192x4x256 [1, 3, 0, 2] (Host.dotGeneral Cert.Reference8Ideal.dot_S2x8192x4x256_S4x8192x8192_S4x2x256x8192_1_2_03_1_2_0 none U M) Cert.Reference8Ideal.Gen.transposes_S4x2x256x8192_S2x8192x4x256_1_3_0_2
def refCount : FVec Ideal Cert.Reference8Ideal.S8192x4 .f32 :=
  sitofp .f32 (minsi (broadcastInDim Cert.Reference8Ideal.S8192x4 ![0, 1] Cert.Reference8Ideal.Gen.bcast_S8192x1_S8192x4_0_1 (addi (broadcastInDim Cert.Reference8Ideal.S8192x1 ![0] Cert.Reference8Ideal.Gen.bcast_S8192_S8192x1_0 (iotaInDim Cert.Reference8Ideal.S8192 32 0)) (broadcastInDim Cert.Reference8Ideal.S8192x1 ![] Cert.Reference8Ideal.Gen.bcast_S_S8192x1 (constantI Cert.Reference8Ideal.S_ 32 1#32)))) (broadcastInDim Cert.Reference8Ideal.S8192x4 ![0, 1] Cert.Reference8Ideal.Gen.bcast_S1x4_S8192x4_0_1 (broadcastInDim Cert.Reference8Ideal.S1x4 ![1] Cert.Reference8Ideal.Gen.bcast_S4_S1x4_1 ((fun i => Cert.Reference8Ideal.lit0 (Cert.Reference8Ideal.S4.rowMajor i))))))
def refCentred (U T : FVec Ideal Cert.Reference8Ideal.S2x8192x4x256 .f32) (K : FVec Ideal Cert.Reference8Ideal.S8192x4 .f32) : FVec Ideal Cert.Reference8Ideal.S2x8192x4x256 .f32 :=
  subf (Host.divf T (broadcastInDim Cert.Reference8Ideal.S2x8192x4x256 ![0, 1, 2, 3] Cert.Reference8Ideal.Gen.bcast_S1x8192x4x1_S2x8192x4x256_0_1_2_3 (broadcastInDim Cert.Reference8Ideal.S1x8192x4x1 ![1, 2] Cert.Reference8Ideal.Gen.bcast_S8192x4_S1x8192x4x1_1_2 K))) U
def refResult (D : FVec Ideal Cert.Reference8Ideal.S2x8192x4x256 .f32) (w : FVec Ideal S4x256x256 .f32) (g : FVec Ideal S1024 .f32) : FVec Ideal S16384x1024 .bf16 :=
  truncf .bf16 (shapeCast _ (mulf (shapeCast _ (transpose Cert.Reference8Ideal.S2x8192x4x256 [2, 3, 0, 1] (Host.dotGeneral Cert.Reference8Ideal.dot_S4x256x256_S2x8192x4x256_S4x256x2x8192_1_3_2_01_0_2 none w D) Cert.Reference8Ideal.Gen.transposes_S4x256x2x8192_S2x8192x4x256_2_3_0_1) Cert.Reference8Ideal.Gen.shapeCasts_S2x8192x4x256_S2x8192x1024) (broadcastInDim Cert.Reference8Ideal.S2x8192x1024 ![0, 1, 2] Cert.Reference8Ideal.Gen.bcast_S1x1x1024_S2x8192x1024_0_1_2 (broadcastInDim Cert.Reference8Ideal.S1x1x1024 ![2] Cert.Reference8Ideal.Gen.bcast_S1024_S1x1x1024_2 g))) Cert.Reference8Ideal.Gen.shapeCasts_S2x8192x1024_S16384x1024) bitsLt_bf16_f32

/-- The windows' lengths. -/
theorem length_eq : ∀ G : Fin 4, Cert.Reference8Ideal.lit0 (Cert.Reference8Ideal.S4.rowMajor (ix1 G)) = BitVec.ofNat 32 (2 * 2 ^ G.val) := by decide

/-- Whether a row lies in a window, read from the words. -/
theorem inside_word (t s : Fin 8192) (G : Fin 4) :
    IntOp.andi (IntOp.cmpi .sge (IntOp.subi (BitVec.ofNat 32 t) (BitVec.ofNat 32 s)) 0#32)
        (IntOp.cmpi .slt (IntOp.subi (BitVec.ofNat 32 t) (BitVec.ofNat 32 s)) (BitVec.ofNat 32 (2 * 2 ^ G.val)))
      = if s.val ≤ t.val ∧ t.val < s.val + 2 * 2 ^ G.val then 1#1 else 0#1 := by
  have hd : (BitVec.ofNat 32 t.val - BitVec.ofNat 32 s.val).toInt = (t.val : ℤ) - s.val := by
    have ht : (BitVec.ofNat 32 t.val).toInt = (t.val : ℤ) := by rw [BitVec.toInt_eq_toNat_of_lt] <;> simp <;> omega
    have hs : (BitVec.ofNat 32 s.val).toInt = (s.val : ℤ) := by rw [BitVec.toInt_eq_toNat_of_lt] <;> simp <;> omega
    rw [BitVec.toInt_sub, ht, hs]
    exact Int.bmod_eq_of_le (by omega) (by omega)
  have hW : (BitVec.ofNat 32 (2 * 2 ^ G.val)).toInt = ((2 * 2 ^ G.val : ℕ) : ℤ) := by fin_cases G <;> rfl
  have h0 : (0#32).toInt = 0 := rfl
  show BitVec.ofBool (BitVec.sle 0#32 (BitVec.ofNat 32 t.val - BitVec.ofNat 32 s.val))
    &&& BitVec.ofBool (BitVec.slt (BitVec.ofNat 32 t.val - BitVec.ofNat 32 s.val) (BitVec.ofNat 32 (2 * 2 ^ G.val))) = _
  unfold BitVec.sle BitVec.slt
  rw [hd, hW, h0]
  by_cases h1 : s.val ≤ t.val
  · by_cases h2 : t.val < s.val + 2 * 2 ^ G.val
    · rw [if_pos ⟨h1, h2⟩, decide_eq_true (by omega), decide_eq_true (by omega)]; rfl
    · rw [if_neg (fun h => h2 h.2), decide_eq_true (by omega), decide_eq_false (by omega)]; rfl
  · rw [if_neg (fun h => h1 h.1), decide_eq_false (by omega)]
    exact BitVec.zero_and

/-- A sum over all rows, each times one or zero, is the sum over the window. -/
theorem sum_inside (f : ℕ → EReal) (t : Fin 8192) (w : ℕ) :
    ∑ s : Fin 8192, f s * (if s.val ≤ t.val ∧ t.val < s.val + w then (1 : EReal) else 0)
      = ∑ j ∈ Finset.range w, if j ≤ t.val then f (t.val - j) else 0 := by
  rw [Fin.sum_univ_eq_sum_range (fun s => f s * (if s ≤ t.val ∧ t.val < s + w then (1 : EReal) else 0)) 8192]
  simp only [mul_ite, mul_one, mul_zero]
  rw [← Finset.sum_filter, ← Finset.sum_filter]
  refine Finset.sum_nbij' (fun s => t.val - s) (fun j => t.val - j) ?_ ?_ ?_ ?_ ?_
  · intro s hs
    simp only [Finset.mem_filter, Finset.mem_range] at hs ⊢
    omega
  · intro j hj
    simp only [Finset.mem_filter, Finset.mem_range] at hj ⊢
    omega
  · intro s hs
    simp only [Finset.mem_filter, Finset.mem_range] at hs
    show t.val - (t.val - s) = s
    omega
  · intro j hj
    simp only [Finset.mem_filter, Finset.mem_range] at hj
    show t.val - (t.val - j) = j
    omega
  · intro s hs
    simp only [Finset.mem_filter, Finset.mem_range] at hs
    exact congrArg f (by show s = t.val - (t.val - s); omega)

/-- The reference's parts, at an index. -/
theorem refRows_apply (h : FVec Ideal S2x8192x4096 .f32) (b : Fin 2) (s : Fin 8192) (G : Fin 4) (k : Fin 256) :
    refRows h (ix4 b s G k) = rows h ⟨G.val * 256 + k, by omega⟩ (b.val * 8192 + s) := by
  unfold refRows rows
  pointwise
  refine congrArg h ?_
  funext a; apply Fin.ext
  match a with
  | ⟨0, _⟩ => show b.val = (b.val * 8192 + s.val) / 8192 % 2; omega
  | ⟨1, _⟩ => show s.val = (b.val * 8192 + s.val) % 8192; omega
  | ⟨2, _⟩ => rfl
theorem refInside_apply (G : Fin 4) (t s : Fin 8192) :
    refInside (ix3 G t s) = if s.val ≤ t.val ∧ t.val < s.val + 2 * 2 ^ G.val then (1 : EReal) else 0 := by
  have e : refInside (ix3 G t s) = FloatOps.uitofp (F := Ideal) FTy.f32
      (IntOp.andi (IntOp.cmpi .sge (IntOp.subi (BitVec.ofNat 32 t) (BitVec.ofNat 32 s)) 0#32)
        (IntOp.cmpi .slt (IntOp.subi (BitVec.ofNat 32 t) (BitVec.ofNat 32 s)) (Cert.Reference8Ideal.lit0 (Cert.Reference8Ideal.S4.rowMajor (ix1 G))))) := by
    unfold refInside
    pointwise
    try rfl
  rw [e, length_eq, inside_word]
  by_cases h : s.val ≤ t.val ∧ t.val < s.val + 2 * 2 ^ G.val
  · rw [if_pos h, if_pos h]
    show (((1#1 : BitVec 1).toNat : ℝ) : EReal) = 1
    norm_num
  · rw [if_neg h, if_neg h]
    show (((0#1 : BitVec 1).toNat : ℝ) : EReal) = 0
    norm_num
theorem refTotal_apply (U : FVec Ideal Cert.Reference8Ideal.S2x8192x4x256 .f32) (M : FVec Ideal Cert.Reference8Ideal.S4x8192x8192 .f32) (b : Fin 2) (s : Fin 8192) (G : Fin 4) (k : Fin 256) :
    refTotal U M (ix4 b s G k) = ∑ q : Fin 8192, U (ix4 b q G k) * M (ix3 G s q) := by
  unfold refTotal
  pointwise
theorem refCount_apply (s : Fin 8192) (G : Fin 4) : refCount (ix2 s G) = count (BitVec.ofNat 32 s) (BitVec.ofNat 32 (2 * 2 ^ G.val)) := by
  rw [← length_eq]
  unfold refCount count
  pointwise
  try rfl
theorem refCentred_apply (U T : FVec Ideal Cert.Reference8Ideal.S2x8192x4x256 .f32) (K : FVec Ideal Cert.Reference8Ideal.S8192x4 .f32) (b : Fin 2) (s : Fin 8192) (G : Fin 4) (k : Fin 256) :
    refCentred U T K (ix4 b s G k) = Ideal.div (T (ix4 b s G k)) (K (ix2 s G)) - U (ix4 b s G k) := by
  unfold refCentred
  pointwise
  try rfl
theorem refResult_apply (D : FVec Ideal Cert.Reference8Ideal.S2x8192x4x256 .f32) (w : FVec Ideal S4x256x256 .f32) (g : FVec Ideal S1024 .f32) (i : Fin 16384) (n : Fin 1024) :
    refResult D w g (ix2 i n) = (∑ k : Fin 256, w (ix3 (⟨n.val / 256, by omega⟩ : Fin 4) k (⟨n.val % 256, by omega⟩ : Fin 256))
      * D (ix4 (⟨i / 8192, by omega⟩ : Fin 2) (⟨i % 8192, by omega⟩ : Fin 8192) (⟨n.val / 256, by omega⟩ : Fin 4) k)) * g (ix1 n) := by
  unfold refResult
  pointwise

/-- The reference's result is the same array. -/
theorem ref_eq (h : FVec Ideal S2x8192x4096 .f32) (w : FVec Ideal S4x256x256 .f32) (g : FVec Ideal S1024 .f32) :
    refResult (refCentred (refRows h) (refTotal (refRows h) refInside) refCount) w g = fun i : S16384x1024.Idx => result h w g (i 0) (i 1) := by
  funext i
  obtain ⟨r, n, rfl⟩ : ∃ (r : Fin 16384) (n : Fin 1024), i = ix2 r n := ⟨i 0, i 1, by funext a; fin_cases a <;> rfl⟩
  rw [refResult_apply]
  show _ = result h w g r n
  unfold result
  refine congrArg (· * _) (Finset.sum_congr rfl fun k _ => (mul_comm _ _).trans (congrArg (· * _) ?_))
  rw [refCentred_apply, refTotal_apply, refCount_apply, refRows_apply]
  unfold mean total
  have hr : r.val / 8192 * 8192 + r.val % 8192 = r.val := by omega
  refine congrArg₂ (fun a b => Ideal.div a _ - b) ?_ (congrArg (rows h _) hr)
  refine (Finset.sum_congr rfl fun q _ => congrArg₂ (· * ·) (refRows_apply h _ q _ k) (refInside_apply _ _ q)).trans ?_
  refine (sum_inside (fun q => rows h ⟨n.val / 256 * 256 + k, by omega⟩ (r.val / 8192 * 8192 + q)) _ _).trans ?_
  refine Finset.sum_congr rfl fun j _ => ?_
  by_cases hj : j ≤ r.val % 8192
  · rw [if_pos hj, if_pos hj]
    exact congrArg (rows h _) (by show r.val / 8192 * 8192 + (r.val % 8192 - j) = r.val - j; omega)
  · rw [if_neg hj, if_neg hj]

/-- Kernel and reference run from equal arguments: both end with the same array. -/
theorem algebraic : Cert.algebraic_Kernel8Ideal_Reference8Ideal (hKernel8Ideal := Cert.Kernel8Ideal.Gen.facts)
    (hReference8Ideal := Cert.Reference8Ideal.Gen.facts) := by
  intro m g m' g' _ hm
  refine ⟨fun c => fun i : S16384x1024.Idx => result (arr0 m c) (arr1 m c) (arr2 m c) (i 0) (i 1), ?_, ?_⟩
  · exact (θ_run _ _ _).mono (fun r h c => ⟨(h c).1.trans (final m c), (h c).2⟩)
      (Cert.Kernel8Ideal.Value.run_blocks (F := Ideal) m g)
  · refine (θ_run _ _ _).mono (fun r h c => ⟨(h c).1.trans ?_, (h c).2⟩) (Cert.Reference8Ideal.Value.run (F := Ideal) m' g')
    obtain ⟨e0, e1, e2⟩ := hm c
    rw [e0, e1, e2]
    exact ref_eq _ _ _

end Cert.Kernel8Ideal.Proj

end
-- ==== Proof.lean ====
/- The claims of `proofs.«01_k».proof.Defs`, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Attn.Algebraic
public import proofs.«01_k».proof.Proof.Proj.In
public import proofs.«01_k».proof.Proof.Proj.KeysValues
public import proofs.«01_k».proof.Proof.Proj.Query
public import proofs.«01_k».proof.Proof.Proj.Latent
public import proofs.«01_k».proof.Proof.Proj.Out
public import proofs.«01_k».proof.Proof.Proj.OutTwo
public import proofs.«01_k».proof.Proof.Proj.Pool
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The references' runs, their arguments unchanged and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
theorem reference2_frame : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)
theorem reference3_frame : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)
theorem reference4_frame : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)
theorem reference5_frame : Cert.quiescent_Reference5Ideal (hReference5Ideal := Cert.Reference5Ideal.Gen.facts) := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)
theorem reference6_frame : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)
theorem reference7_frame : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)
theorem reference8_frame : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- Every claim: the frames, that naming the scale is sanctioned, and the equality of the results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Attn.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    IdealRules.named_const.statement Cert.KernelIdeal.κ "q_scale" .f32 0x3DD53B95#32 (((Real.sqrt 192)⁻¹ * (Real.log 2)⁻¹ : ℝ) : EReal) rfl,
    Cert.Attn.algebraic,
    trivial, Cert.Kernel2Ideal.Proj.algebraic,
    trivial, Cert.Kernel3Ideal.Proj.algebraic,
    trivial, Cert.Kernel4Ideal.Proj.algebraic,
    trivial, Cert.Kernel5Ideal.Proj.algebraic,
    trivial, Cert.Kernel6Ideal.Proj.algebraic,
    trivial, Cert.Kernel7Ideal.Proj.algebraic,
    trivial, Cert.Kernel8Ideal.Proj.algebraic⟩

end Cert.Proof

end
